-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_finite [hPre_codes_finite : Cert.Pre_codes_finite.Facts] (m : (ℓ : Loc Cert.KernelIdeal.nD Cert.KernelIdeal.τ Cert.KernelIdeal.sig) → Buf (Elt Ideal) ℓ) : Prop :=
  ∀ c : Dev Cert.KernelIdeal.nD,
    (Cert.Pre_codes_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_finite [hPre_codes_finite : Cert.Pre_codes_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_codes_finite [hKernelIdeal : Cert.KernelIdeal.Facts] [hPre_codes_finite : Cert.Pre_codes_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_codes_finite [hReferenceIdeal : Cert.ReferenceIdeal.Facts] [hPre_codes_finite : Cert.Pre_codes_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_codes_finite [hKernelIdeal : Cert.KernelIdeal.Facts] [hReferenceIdeal : Cert.ReferenceIdeal.Facts] [hPre_codes_finite : Cert.Pre_codes_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_codes_finite : Cert.Pre_codes_finite.Facts),
    quiescent_Kernel (hKernel := hKernel)
    ∧ quiescent_KernelIdeal (hKernelIdeal := hKernelIdeal)
    ∧ quiescent_KernelIdeal_pre_codes_finite (hKernelIdeal := hKernelIdeal) (hPre_codes_finite := hPre_codes_finite)
    ∧ quiescent_ReferenceIdeal (hReferenceIdeal := hReferenceIdeal)
    ∧ quiescent_ReferenceIdeal_pre_codes_finite (hReferenceIdeal := hReferenceIdeal) (hPre_codes_finite := hPre_codes_finite)
    ∧ preserves_Kernel_KernelIdeal
    ∧ algebraic_KernelIdeal_ReferenceIdeal_pre_codes_finite (hKernelIdeal := hKernelIdeal) (hReferenceIdeal := hReferenceIdeal) (hPre_codes_finite := hPre_codes_finite)
-- ==== Pre_codes_finite.lean ====
abbrev S8x128x2048 : Shape := ⟨3, ![8, 128, 2048]⟩
abbrev S4x1024x128 : Shape := ⟨3, ![4, 1024, 128]⟩
abbrev S_ : Shape := ⟨0, ![]⟩

class Facts : Prop where
  bcast_S_S4x1024x128 : S_.BroadcastsInDim S4x1024x128 (![] : Fin 0 → Fin S4x1024x128.rank)
  reducesTo_S4x1024x128_S_d0_1_2 : S4x1024x128.ReducesTo [0, 1, 2] S_
  h_S_ : 0 < S_.numel

variable [Facts]

def fn {F : FTy → Type} [FloatOps F] (main_arg0 : FVec F S8x128x2048 .f32) (main_arg1 : FVec F S4x1024x128 .f32) : IVec S_ 1 :=
  let main_v0 : FVec F S4x1024x128 .f32 := Host.absf main_arg1
  let main_cst : FVec F S_ .f32 := constant S_ .f32 0x7F800000#32
  let main_v1 : FVec F S4x1024x128 .f32 := broadcastInDim S4x1024x128 ![] bcast_S_S4x1024x128 main_cst
  let main_v2 : IVec S4x1024x128 1 := cmpf .olt main_v0 main_v1
  let main_c : IVec S_ 1 := constantI S_ 1 1#1
  let main_v3 : IVec S_ 1 := (fun x v => Host.reduce IntOp.andi x v reducesTo_S4x1024x128_S_d0_1_2 h_S_) main_v2 main_c
  main_v3
-- ==== Kernel.lean ====
abbrev S8x128x2048 : Shape := ⟨3, ![8, 128, 2048]⟩
abbrev S4x1024x128 : Shape := ⟨3, ![4, 1024, 128]⟩
abbrev S_ : Shape := ⟨0, ![]⟩
abbrev S4x1024 : Shape := ⟨2, ![4, 1024]⟩
abbrev S1024x4 : Shape := ⟨2, ![1024, 4]⟩
abbrev S1024x128 : Shape := ⟨2, ![1024, 128]⟩
abbrev S8x128 : Shape := ⟨2, ![8, 128]⟩
abbrev S1x128x2048 : Shape := ⟨3, ![1, 128, 2048]⟩
abbrev S3x4x1024x128 : Shape := ⟨4, ![3, 4, 1024, 128]⟩
abbrev S1x1024x128 : Shape := ⟨3, ![1, 1024, 128]⟩
abbrev S1x1x1024x128 : Shape := ⟨4, ![1, 1, 1024, 128]⟩
abbrev S128x2048 : Shape := ⟨2, ![128, 2048]⟩
abbrev S1024x2048 : Shape := ⟨2, ![1024, 2048]⟩
abbrev S1024x1 : Shape := ⟨2, ![1024, 1]⟩
abbrev S2048 : Shape := ⟨1, ![2048]⟩
abbrev S1x2048 : Shape := ⟨2, ![1, 2048]⟩
abbrev S1024 : Shape := ⟨1, ![1024]⟩
abbrev S1x128 : Shape := ⟨2, ![1, 128]⟩
abbrev S1 : Shape := ⟨1, ![1]⟩
abbrev S1x1x1 : Shape := ⟨3, ![1, 1, 1]⟩
abbrev S4 : Shape := ⟨1, ![4]⟩
abbrev S1x4 : Shape := ⟨2, ![1, 4]⟩
abbrev S4x1 : Shape := ⟨2, ![4, 1]⟩
abbrev S1x4x1 : Shape := ⟨3, ![1, 4, 1]⟩
abbrev S1x1 : Shape := ⟨2, ![1, 1]⟩

abbrev nBuf : Space → Nat
  | .hbm => 15
  | .vmem => 10
  | .smem => 0
  | _ => 0

abbrev bufTy : (tb : Table) → Fin (tcTables nBuf tb) → BufTy
  | .hbm, ⟨0, _⟩ => ⟨S8x128x2048, .f32⟩
  | .hbm, ⟨1, _⟩ => ⟨S4x1024x128, .f32⟩
  | .hbm, ⟨2, _⟩ => ⟨S4x1024x128, .f32⟩
  | .hbm, ⟨3, _⟩ => ⟨S_, .f32⟩
  | .hbm, ⟨4, _⟩ => ⟨S4x1024, .f32⟩
  | .hbm, ⟨5, _⟩ => ⟨S1024x4, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S8x128x2048, .f32⟩
  | .hbm, ⟨10, _⟩ => ⟨S8x128, .f32⟩
  | .hbm, ⟨11, _⟩ => ⟨S1x1, .f32⟩
  | .hbm, ⟨12, _⟩ => ⟨S_, .f32⟩
  | .hbm, ⟨13, _⟩ => ⟨S1x4, .f32⟩
  | .hbm, ⟨14, _⟩ => ⟨S4, .f32⟩
  | .local _ .vmem, ⟨0, _⟩ => ⟨S1x128x2048, .f32⟩
  | .local _ .vmem, ⟨1, _⟩ => ⟨S1x128x2048, .f32⟩
  | .local _ .vmem, ⟨2, _⟩ => ⟨S4x1024x128, .f32⟩
  | .local _ .vmem, ⟨3, _⟩ => ⟨S1024x128, .f32⟩
  | .local _ .vmem, ⟨4, _⟩ => ⟨S1x128x2048, .f32⟩
  | .local _ .vmem, ⟨5, _⟩ => ⟨S1x128x2048, .f32⟩
  | .local _ .vmem, ⟨6, _⟩ => ⟨S8x128, .f32⟩
  | .local _ .vmem, ⟨7, _⟩ => ⟨S1024x128, .f32⟩
  | .local _ .vmem, ⟨8, _⟩ => ⟨S8x128, .f32⟩
  | .local _ .vmem, ⟨9, _⟩ => ⟨S3x4x1024x128, .bf16⟩
  | _, _ => ⟨S8x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg0 : BitVec 32 := BitVec.ofNat 32 (i 0).val
  let c7_i32 : BitVec 32 := 7#32
  let v255 : BitVec 1 := Scalar.cmpi .eq arg0 c7_i32
  let arg1 : BitVec 32 := BitVec.ofNat 32 (i 1).val
  let c0_i32_135 : BitVec 32 := 0#32
  let v256 : BitVec 1 := Scalar.cmpi .eq arg1 c0_i32_135
  let v257 : BitVec 1 := Scalar.andi v255 v256
  let v258 : BitVec 32 := Scalar.extui v257
  let c0_i32_136 : BitVec 32 := 0#32
  let v259 : BitVec 1 := Scalar.cmpi .ne v258 c0_i32_136
  v259

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S8x128x2048 : Shape := ⟨3, ![8, 128, 2048]⟩
abbrev S4x1024x128 : Shape := ⟨3, ![4, 1024, 128]⟩
abbrev S8x2048x128 : Shape := ⟨3, ![8, 2048, 128]⟩
abbrev S16384x128 : Shape := ⟨2, ![16384, 128]⟩
abbrev S_ : Shape := ⟨0, ![]⟩
abbrev S1x1024x128 : Shape := ⟨3, ![1, 1024, 128]⟩
abbrev S1024x128 : Shape := ⟨2, ![1024, 128]⟩
abbrev S16384 : Shape := ⟨1, ![16384]⟩
abbrev S16384x1 : Shape := ⟨2, ![16384, 1]⟩
abbrev S128x1024 : Shape := ⟨2, ![128, 1024]⟩
abbrev S16384x1024 : Shape := ⟨2, ![16384, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S4 : Shape := ⟨1, ![4]⟩

abbrev nBuf : Space → Nat
  | .hbm => 362
  | .vmem => 0
  | .smem => 0
  | _ => 0

abbrev hbmTy0_0 (i : Nat) : BufTy := match i % 128 with
  | 0 => ⟨S8x128x2048, .f32⟩
  | 1 => ⟨S4x1024x128, .f32⟩
  | 2 => ⟨S8x2048x128, .f32⟩
  | 3 => ⟨S16384x128, .f32⟩
  | 4 => ⟨S_, .f32⟩
  | 5 => ⟨S16384x128, .f32⟩
  | 6 => ⟨S1x1024x128, .f32⟩
  | 7 => ⟨S1024x128, .f32⟩
  | 8 => ⟨S16384x128, .f32⟩
  | 9 => ⟨S_, .f32⟩
  | 10 => ⟨S16384, .f32⟩
  | 11 => ⟨S16384x1, .f32⟩
  | 12 => ⟨S128x1024, .f32⟩
  | 13 => ⟨S16384x1024, .f32⟩
  | 14 => ⟨S_, .f32⟩
  | 15 => ⟨S16384x1024, .f32⟩
  | 16 => ⟨S16384x1024, .f32⟩
  | 17 => ⟨S16384x1024, .f32⟩
  | 18 => ⟨S16384x1024, .f32⟩
  | 19 => ⟨S1024x128, .f32⟩
  | 20 => ⟨S_, .f32⟩
  | 21 => ⟨S1024, .f32⟩
  | 22 => ⟨S1x1024, .f32⟩
  | 23 => ⟨S16384x1024, .f32⟩
  | 24 => ⟨S16384x1024, .f32⟩
  | 25 => ⟨S16384x1024, .i32⟩
  | 26 => ⟨S_, .f32⟩
  | 27 => ⟨S_, .i32⟩
  | 28 => ⟨S16384, .f32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S1, .i32⟩
  | 39 => ⟨S_, .i32⟩
  | 40 => ⟨S16384x1, .i32⟩
  | 41 => ⟨S16384x1, .i1⟩
  | 42 => ⟨S1x1, .i32⟩
  | 43 => ⟨S16384x1, .i32⟩
  | 44 => ⟨S16384x1, .i1⟩
  | 45 => ⟨S16384x1, .i1⟩
  | 46 => ⟨S_, .i1⟩
  | 47 => ⟨S16384, .i1⟩
  | 48 => ⟨S16384x128, .f32⟩
  | 49 => ⟨S16384x128, .i1⟩
  | 50 => ⟨S_, .f32⟩
  | 51 => ⟨S16384x128, .f32⟩
  | 52 => ⟨S16384x128, .f32⟩
  | 53 => ⟨S16384x1, .i32⟩
  | 54 => ⟨S1x1024, .i32⟩
  | 55 => ⟨S16384x1024, .i32⟩
  | 56 => ⟨S16384x1024, .i32⟩
  | 57 => ⟨S16384x1024, .i1⟩
  | 58 => ⟨S16384x1024, .f32⟩
  | 59 => ⟨S_, .f32⟩
  | 60 => ⟨S1024, .f32⟩
  | 61 => ⟨S_, .f32⟩
  | 62 => ⟨S1024, .f32⟩
  | 63 => ⟨S1024, .f32⟩
  | 64 => ⟨S_, .f32⟩
  | 65 => ⟨S1024, .f32⟩
  | 66 => ⟨S1024, .f32⟩
  | 67 => ⟨S1024, .f32⟩
  | 68 => ⟨S1024, .f32⟩
  | 69 => ⟨S_, .f32⟩
  | 70 => ⟨S_, .f32⟩
  | 71 => ⟨S_, .f32⟩
  | 72 => ⟨S_, .f32⟩
  | 73 => ⟨S16384x128, .f32⟩
  | 74 => ⟨S16384x128, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S16384x128, .f32⟩
  | 82 => ⟨S16384x128, .f32⟩
  | 83 => ⟨S_, .f32⟩
  | 84 => ⟨S_, .f32⟩
  | 85 => ⟨S_, .f32⟩
  | 86 => ⟨S_, .f32⟩
  | 87 => ⟨S_, .f32⟩
  | 88 => ⟨S16384x128, .f32⟩
  | 89 => ⟨S16384x128, .f32⟩
  | 90 => ⟨S16384x128, .f32⟩
  | 91 => ⟨S16384x128, .f32⟩
  | 92 => ⟨S_, .f32⟩
  | 93 => ⟨S_, .f32⟩
  | 94 => ⟨S1x1024x128, .f32⟩
  | 95 => ⟨S1024x128, .f32⟩
  | 96 => ⟨S16384x128, .f32⟩
  | 97 => ⟨S_, .f32⟩
  | 98 => ⟨S16384, .f32⟩
  | 99 => ⟨S16384x1, .f32⟩
  | 100 => ⟨S128x1024, .f32⟩
  | 101 => ⟨S16384x1024, .f32⟩
  | 102 => ⟨S_, .f32⟩
  | 103 => ⟨S16384x1024, .f32⟩
  | 104 => ⟨S16384x1024, .f32⟩
  | 105 => ⟨S16384x1024, .f32⟩
  | 106 => ⟨S16384x1024, .f32⟩
  | 107 => ⟨S1024x128, .f32⟩
  | 108 => ⟨S_, .f32⟩
  | 109 => ⟨S1024, .f32⟩
  | 110 => ⟨S1x1024, .f32⟩
  | 111 => ⟨S16384x1024, .f32⟩
  | 112 => ⟨S16384x1024, .f32⟩
  | 113 => ⟨S16384x1024, .i32⟩
  | 114 => ⟨S_, .f32⟩
  | 115 => ⟨S_, .i32⟩
  | 116 => ⟨S16384, .f32⟩
  | 117 => ⟨S16384, .i32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S1, .i32⟩
  | 127 => ⟨S_, .i32⟩
  | _ => ⟨S8x128x2048, .f32⟩

abbrev hbmTy0_1 (i : Nat) : BufTy := match i % 128 with
  | 0 => ⟨S16384x1, .i32⟩
  | 1 => ⟨S16384x1, .i1⟩
  | 2 => ⟨S1x1, .i32⟩
  | 3 => ⟨S16384x1, .i32⟩
  | 4 => ⟨S16384x1, .i1⟩
  | 5 => ⟨S16384x1, .i1⟩
  | 6 => ⟨S_, .i1⟩
  | 7 => ⟨S16384, .i1⟩
  | 8 => ⟨S16384x128, .f32⟩
  | 9 => ⟨S16384x128, .i1⟩
  | 10 => ⟨S_, .f32⟩
  | 11 => ⟨S16384x128, .f32⟩
  | 12 => ⟨S16384x128, .f32⟩
  | 13 => ⟨S16384x1, .i32⟩
  | 14 => ⟨S1x1024, .i32⟩
  | 15 => ⟨S16384x1024, .i32⟩
  | 16 => ⟨S16384x1024, .i32⟩
  | 17 => ⟨S16384x1024, .i1⟩
  | 18 => ⟨S16384x1024, .f32⟩
  | 19 => ⟨S_, .f32⟩
  | 20 => ⟨S1024, .f32⟩
  | 21 => ⟨S_, .f32⟩
  | 22 => ⟨S1024, .f32⟩
  | 23 => ⟨S1024, .f32⟩
  | 24 => ⟨S_, .f32⟩
  | 25 => ⟨S1024, .f32⟩
  | 26 => ⟨S1024, .f32⟩
  | 27 => ⟨S1024, .f32⟩
  | 28 => ⟨S1024, .f32⟩
  | 29 => ⟨S_, .f32⟩
  | 30 => ⟨S_, .f32⟩
  | 31 => ⟨S_, .f32⟩
  | 32 => ⟨S_, .f32⟩
  | 33 => ⟨S16384x128, .f32⟩
  | 34 => ⟨S16384x128, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S16384x128, .f32⟩
  | 42 => ⟨S16384x128, .f32⟩
  | 43 => ⟨S_, .f32⟩
  | 44 => ⟨S_, .f32⟩
  | 45 => ⟨S_, .f32⟩
  | 46 => ⟨S_, .f32⟩
  | 47 => ⟨S_, .f32⟩
  | 48 => ⟨S16384x128, .f32⟩
  | 49 => ⟨S16384x128, .f32⟩
  | 50 => ⟨S16384x128, .f32⟩
  | 51 => ⟨S16384x128, .f32⟩
  | 52 => ⟨S_, .f32⟩
  | 53 => ⟨S1x1024x128, .f32⟩
  | 54 => ⟨S1024x128, .f32⟩
  | 55 => ⟨S16384x128, .f32⟩
  | 56 => ⟨S_, .f32⟩
  | 57 => ⟨S16384, .f32⟩
  | 58 => ⟨S16384x1, .f32⟩
  | 59 => ⟨S128x1024, .f32⟩
  | 60 => ⟨S16384x1024, .f32⟩
  | 61 => ⟨S_, .f32⟩
  | 62 => ⟨S16384x1024, .f32⟩
  | 63 => ⟨S16384x1024, .f32⟩
  | 64 => ⟨S16384x1024, .f32⟩
  | 65 => ⟨S16384x1024, .f32⟩
  | 66 => ⟨S1024x128, .f32⟩
  | 67 => ⟨S_, .f32⟩
  | 68 => ⟨S1024, .f32⟩
  | 69 => ⟨S1x1024, .f32⟩
  | 70 => ⟨S16384x1024, .f32⟩
  | 71 => ⟨S16384x1024, .f32⟩
  | 72 => ⟨S16384x1024, .i32⟩
  | 73 => ⟨S_, .f32⟩
  | 74 => ⟨S_, .i32⟩
  | 75 => ⟨S16384, .f32⟩
  | 76 => ⟨S16384, .i32⟩
  | 77 => ⟨S_, .i32⟩
  | 78 => ⟨S16384, .i32⟩
  | 79 => ⟨S16384, .i1⟩
  | 80 => ⟨S_, .i32⟩
  | 81 => ⟨S16384, .i32⟩
  | 82 => ⟨S16384, .i32⟩
  | 83 => ⟨S16384, .i32⟩
  | 84 => ⟨S16384x1, .i32⟩
  | 85 => ⟨S1, .i32⟩
  | 86 => ⟨S_, .i32⟩
  | 87 => ⟨S16384x1, .i32⟩
  | 88 => ⟨S16384x1, .i1⟩
  | 89 => ⟨S1x1, .i32⟩
  | 90 => ⟨S16384x1, .i32⟩
  | 91 => ⟨S16384x1, .i1⟩
  | 92 => ⟨S16384x1, .i1⟩
  | 93 => ⟨S_, .i1⟩
  | 94 => ⟨S16384, .i1⟩
  | 95 => ⟨S16384x128, .f32⟩
  | 96 => ⟨S16384x128, .i1⟩
  | 97 => ⟨S_, .f32⟩
  | 98 => ⟨S16384x128, .f32⟩
  | 99 => ⟨S16384x128, .f32⟩
  | 100 => ⟨S16384x1, .i32⟩
  | 101 => ⟨S1x1024, .i32⟩
  | 102 => ⟨S16384x1024, .i32⟩
  | 103 => ⟨S16384x1024, .i32⟩
  | 104 => ⟨S16384x1024, .i1⟩
  | 105 => ⟨S16384x1024, .f32⟩
  | 106 => ⟨S_, .f32⟩
  | 107 => ⟨S1024, .f32⟩
  | 108 => ⟨S_, .f32⟩
  | 109 => ⟨S1024, .f32⟩
  | 110 => ⟨S1024, .f32⟩
  | 111 => ⟨S_, .f32⟩
  | 112 => ⟨S1024, .f32⟩
  | 113 => ⟨S1024, .f32⟩
  | 114 => ⟨S1024, .f32⟩
  | 115 => ⟨S1024, .f32⟩
  | 116 => ⟨S_, .f32⟩
  | 117 => ⟨S_, .f32⟩
  | 118 => ⟨S_, .f32⟩
  | 119 => ⟨S_, .f32⟩
  | 120 => ⟨S16384x128, .f32⟩
  | 121 => ⟨S16384x128, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x128x2048, .f32⟩

abbrev hbmTy0_2 (i : Nat) : BufTy := match i % 128 with
  | 0 => ⟨S16384x128, .f32⟩
  | 1 => ⟨S16384x128, .f32⟩
  | 2 => ⟨S_, .f32⟩
  | 3 => ⟨S_, .f32⟩
  | 4 => ⟨S_, .f32⟩
  | 5 => ⟨S_, .f32⟩
  | 6 => ⟨S_, .f32⟩
  | 7 => ⟨S16384x128, .f32⟩
  | 8 => ⟨S16384x128, .f32⟩
  | 9 => ⟨S16384x128, .f32⟩
  | 10 => ⟨S16384x128, .f32⟩
  | 11 => ⟨S_, .f32⟩
  | 12 => ⟨S1x1024x128, .f32⟩
  | 13 => ⟨S1024x128, .f32⟩
  | 14 => ⟨S16384x128, .f32⟩
  | 15 => ⟨S_, .f32⟩
  | 16 => ⟨S16384, .f32⟩
  | 17 => ⟨S16384x1, .f32⟩
  | 18 => ⟨S128x1024, .f32⟩
  | 19 => ⟨S16384x1024, .f32⟩
  | 20 => ⟨S_, .f32⟩
  | 21 => ⟨S16384x1024, .f32⟩
  | 22 => ⟨S16384x1024, .f32⟩
  | 23 => ⟨S16384x1024, .f32⟩
  | 24 => ⟨S16384x1024, .f32⟩
  | 25 => ⟨S1024x128, .f32⟩
  | 26 => ⟨S_, .f32⟩
  | 27 => ⟨S1024, .f32⟩
  | 28 => ⟨S1x1024, .f32⟩
  | 29 => ⟨S16384x1024, .f32⟩
  | 30 => ⟨S16384x1024, .f32⟩
  | 31 => ⟨S16384x1024, .i32⟩
  | 32 => ⟨S_, .f32⟩
  | 33 => ⟨S_, .i32⟩
  | 34 => ⟨S16384, .f32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S1, .i32⟩
  | 45 => ⟨S_, .i32⟩
  | 46 => ⟨S16384x1, .i32⟩
  | 47 => ⟨S16384x1, .i1⟩
  | 48 => ⟨S1x1, .i32⟩
  | 49 => ⟨S16384x1, .i32⟩
  | 50 => ⟨S16384x1, .i1⟩
  | 51 => ⟨S16384x1, .i1⟩
  | 52 => ⟨S_, .i1⟩
  | 53 => ⟨S16384, .i1⟩
  | 54 => ⟨S16384x128, .f32⟩
  | 55 => ⟨S16384x128, .i1⟩
  | 56 => ⟨S_, .f32⟩
  | 57 => ⟨S16384x128, .f32⟩
  | 58 => ⟨S16384x128, .f32⟩
  | 59 => ⟨S16384x1, .i32⟩
  | 60 => ⟨S1x1024, .i32⟩
  | 61 => ⟨S16384x1024, .i32⟩
  | 62 => ⟨S16384x1024, .i32⟩
  | 63 => ⟨S16384x1024, .i1⟩
  | 64 => ⟨S16384x1024, .f32⟩
  | 65 => ⟨S_, .f32⟩
  | 66 => ⟨S1024, .f32⟩
  | 67 => ⟨S_, .f32⟩
  | 68 => ⟨S1024, .f32⟩
  | 69 => ⟨S1024, .f32⟩
  | 70 => ⟨S_, .f32⟩
  | 71 => ⟨S1024, .f32⟩
  | 72 => ⟨S1024, .f32⟩
  | 73 => ⟨S1024, .f32⟩
  | 74 => ⟨S1024, .f32⟩
  | 75 => ⟨S_, .f32⟩
  | 76 => ⟨S_, .f32⟩
  | 77 => ⟨S_, .f32⟩
  | 78 => ⟨S_, .f32⟩
  | 79 => ⟨S16384x128, .f32⟩
  | 80 => ⟨S16384x128, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S16384x128, .f32⟩
  | 88 => ⟨S16384x128, .f32⟩
  | 89 => ⟨S_, .f32⟩
  | 90 => ⟨S_, .f32⟩
  | 91 => ⟨S_, .f32⟩
  | 92 => ⟨S_, .f32⟩
  | 93 => ⟨S_, .f32⟩
  | 94 => ⟨S16384x128, .f32⟩
  | 95 => ⟨S16384x128, .f32⟩
  | 96 => ⟨S16384x128, .f32⟩
  | 97 => ⟨S16384x128, .f32⟩
  | 98 => ⟨S_, .f32⟩
  | 99 => ⟨S8x2048x128, .f32⟩
  | 100 => ⟨S8x128x2048, .f32⟩
  | 101 => ⟨S1, .f32⟩
  | 102 => ⟨S1, .f32⟩
  | 103 => ⟨S1, .f32⟩
  | 104 => ⟨S1, .f32⟩
  | 105 => ⟨S4, .f32⟩
  | _ => ⟨S8x128x2048, .f32⟩

abbrev hbmTy (i : Nat) : BufTy := match i / 128 with
  | 0 => hbmTy0_0 i
  | 1 => hbmTy0_1 i
  | 2 => hbmTy0_2 i
  | _ => ⟨S8x128x2048, .f32⟩

abbrev bufTy : (tb : Table) → Fin (tcTables nBuf tb) → BufTy
  | .hbm, ⟨i, _⟩ => hbmTy i
  | _, _ => ⟨S8x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v20 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v21 : Ref sig .tc := ⟨.hbm, 58, rfl⟩
abbrev main_cst_3 : Ref sig .tc := ⟨.hbm, 59, rfl⟩
abbrev main_v22 : Ref sig .tc := ⟨.hbm, 60, rfl⟩
abbrev main_cst_4 : Ref sig .tc := ⟨.hbm, 61, rfl⟩
abbrev main_v23 : Ref sig .tc := ⟨.hbm, 62, rfl⟩
abbrev main_v24 : Ref sig .tc := ⟨.hbm, 63, rfl⟩
abbrev main_cst_5 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_6 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_7 : Ref sig .tc := ⟨.hbm, 75, rfl⟩
abbrev main_v34 : Ref sig .tc := ⟨.hbm, 76, rfl⟩
abbrev main_cst_8 : Ref sig .tc := ⟨.hbm, 77, rfl⟩
abbrev main_v35 : Ref sig .tc := ⟨.hbm, 78, rfl⟩
abbrev main_cst_9 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_10 : Ref sig .tc := ⟨.hbm, 83, rfl⟩
abbrev main_v39 : Ref sig .tc := ⟨.hbm, 84, rfl⟩
abbrev main_cst_11 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_12 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_13 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_14 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_15 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_call3_v0 : Ref sig .tc := ⟨.hbm, 113, rfl⟩
abbrev main_call3_cst : Ref sig .tc := ⟨.hbm, 114, rfl⟩
abbrev main_call3_c : Ref sig .tc := ⟨.hbm, 115, rfl⟩
abbrev main_call3_v1_0 : Ref sig .tc := ⟨.hbm, 116, rfl⟩
abbrev main_v63 : Ref sig .tc := ⟨.hbm, 117, rfl⟩
abbrev main_call4_c : Ref sig .tc := ⟨.hbm, 118, rfl⟩
abbrev main_call4_v0 : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_c_1 : Ref sig .tc := ⟨.hbm, 126, rfl⟩
abbrev main_call4_c_2 : Ref sig .tc := ⟨.hbm, 127, rfl⟩
abbrev main_call4_v6 : Ref sig .tc := ⟨.hbm, 128, rfl⟩
abbrev main_call4_v7 : Ref sig .tc := ⟨.hbm, 129, rfl⟩
abbrev main_call4_v8 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_c_3 : Ref sig .tc := ⟨.hbm, 134, rfl⟩
abbrev main_call4_v12 : Ref sig .tc := ⟨.hbm, 135, rfl⟩
abbrev main_call4_v13 : Ref sig .tc := ⟨.hbm, 136, rfl⟩
abbrev main_call4_v14 : Ref sig .tc := ⟨.hbm, 137, rfl⟩
abbrev main_call4_cst : Ref sig .tc := ⟨.hbm, 138, rfl⟩
abbrev main_call4_v15 : Ref sig .tc := ⟨.hbm, 139, rfl⟩
abbrev main_v64 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_v65 : Ref sig .tc := ⟨.hbm, 146, rfl⟩
abbrev main_cst_16 : Ref sig .tc := ⟨.hbm, 147, rfl⟩
abbrev main_v66 : Ref sig .tc := ⟨.hbm, 148, rfl⟩
abbrev main_cst_17 : Ref sig .tc := ⟨.hbm, 149, rfl⟩
abbrev main_v67 : Ref sig .tc := ⟨.hbm, 150, rfl⟩
abbrev main_v68 : Ref sig .tc := ⟨.hbm, 151, rfl⟩
abbrev main_cst_18 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_cst_19 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_cst_20 : Ref sig .tc := ⟨.hbm, 163, rfl⟩
abbrev main_v78 : Ref sig .tc := ⟨.hbm, 164, rfl⟩
abbrev main_cst_21 : Ref sig .tc := ⟨.hbm, 165, rfl⟩
abbrev main_v79 : Ref sig .tc := ⟨.hbm, 166, rfl⟩
abbrev main_cst_22 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_cst_23 : Ref sig .tc := ⟨.hbm, 171, rfl⟩
abbrev main_v83 : Ref sig .tc := ⟨.hbm, 172, rfl⟩
abbrev main_cst_24 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_cst_25 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_cst_26 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_cst_27 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_call6_v0 : Ref sig .tc := ⟨.hbm, 200, rfl⟩
abbrev main_call6_cst : Ref sig .tc := ⟨.hbm, 201, rfl⟩
abbrev main_call6_c : Ref sig .tc := ⟨.hbm, 202, rfl⟩
abbrev main_call6_v1_0 : Ref sig .tc := ⟨.hbm, 203, rfl⟩
abbrev main_v107 : Ref sig .tc := ⟨.hbm, 204, rfl⟩
abbrev main_call7_c : Ref sig .tc := ⟨.hbm, 205, rfl⟩
abbrev main_call7_v0 : Ref sig .tc := ⟨.hbm, 206, rfl⟩
abbrev main_call7_v1 : Ref sig .tc := ⟨.hbm, 207, rfl⟩
abbrev main_call7_c_0 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_call7_v5 : Ref sig .tc := ⟨.hbm, 212, rfl⟩
abbrev main_call7_c_1 : Ref sig .tc := ⟨.hbm, 213, rfl⟩
abbrev main_call7_c_2 : Ref sig .tc := ⟨.hbm, 214, rfl⟩
abbrev main_call7_v6 : Ref sig .tc := ⟨.hbm, 215, rfl⟩
abbrev main_call7_v7 : Ref sig .tc := ⟨.hbm, 216, rfl⟩
abbrev main_call7_v8 : Ref sig .tc := ⟨.hbm, 217, rfl⟩
abbrev main_call7_v9 : Ref sig .tc := ⟨.hbm, 218, rfl⟩
abbrev main_call7_v10 : Ref sig .tc := ⟨.hbm, 219, rfl⟩
abbrev main_call7_v11 : Ref sig .tc := ⟨.hbm, 220, rfl⟩
abbrev main_call7_c_3 : Ref sig .tc := ⟨.hbm, 221, rfl⟩
abbrev main_call7_v12 : Ref sig .tc := ⟨.hbm, 222, rfl⟩
abbrev main_call7_v13 : Ref sig .tc := ⟨.hbm, 223, rfl⟩
abbrev main_call7_v14 : Ref sig .tc := ⟨.hbm, 224, rfl⟩
abbrev main_call7_cst : Ref sig .tc := ⟨.hbm, 225, rfl⟩
abbrev main_call7_v15 : Ref sig .tc := ⟨.hbm, 226, rfl⟩
abbrev main_v108 : Ref sig .tc := ⟨.hbm, 227, rfl⟩
abbrev main_call8_v0 : Ref sig .tc := ⟨.hbm, 228, rfl⟩
abbrev main_call8_v1 : Ref sig .tc := ⟨.hbm, 229, rfl⟩
abbrev main_call8_v2 : Ref sig .tc := ⟨.hbm, 230, rfl⟩
abbrev main_call8_v3 : Ref sig .tc := ⟨.hbm, 231, rfl⟩
abbrev main_call8_v4 : Ref sig .tc := ⟨.hbm, 232, rfl⟩
abbrev main_v109 : Ref sig .tc := ⟨.hbm, 233, rfl⟩
abbrev main_cst_28 : Ref sig .tc := ⟨.hbm, 234, rfl⟩
abbrev main_v110 : Ref sig .tc := ⟨.hbm, 235, rfl⟩
abbrev main_cst_29 : Ref sig .tc := ⟨.hbm, 236, rfl⟩
abbrev main_v111 : Ref sig .tc := ⟨.hbm, 237, rfl⟩
abbrev main_v112 : Ref sig .tc := ⟨.hbm, 238, rfl⟩
abbrev main_cst_30 : Ref sig .tc := ⟨.hbm, 239, rfl⟩
abbrev main_v113 : Ref sig .tc := ⟨.hbm, 240, rfl⟩
abbrev main_v114 : Ref sig .tc := ⟨.hbm, 241, rfl⟩
abbrev main_v115 : Ref sig .tc := ⟨.hbm, 242, rfl⟩
abbrev main_v116 : Ref sig .tc := ⟨.hbm, 243, rfl⟩
abbrev main_cst_31 : Ref sig .tc := ⟨.hbm, 244, rfl⟩
abbrev main_v117 : Ref sig .tc := ⟨.hbm, 245, rfl⟩
abbrev main_v118 : Ref sig .tc := ⟨.hbm, 246, rfl⟩
abbrev main_v119 : Ref sig .tc := ⟨.hbm, 247, rfl⟩
abbrev main_v120 : Ref sig .tc := ⟨.hbm, 248, rfl⟩
abbrev main_v121 : Ref sig .tc := ⟨.hbm, 249, rfl⟩
abbrev main_cst_32 : Ref sig .tc := ⟨.hbm, 250, rfl⟩
abbrev main_v122 : Ref sig .tc := ⟨.hbm, 251, rfl⟩
abbrev main_cst_33 : Ref sig .tc := ⟨.hbm, 252, rfl⟩
abbrev main_v123 : Ref sig .tc := ⟨.hbm, 253, rfl⟩
abbrev main_cst_34 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_cst_35 : Ref sig .tc := ⟨.hbm, 258, rfl⟩
abbrev main_v127 : Ref sig .tc := ⟨.hbm, 259, rfl⟩
abbrev main_cst_36 : Ref sig .tc := ⟨.hbm, 260, rfl⟩
abbrev main_v128 : Ref sig .tc := ⟨.hbm, 261, rfl⟩
abbrev main_v129 : Ref sig .tc := ⟨.hbm, 262, rfl⟩
abbrev main_v130 : Ref sig .tc := ⟨.hbm, 263, rfl⟩
abbrev main_v131 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_v135 : Ref sig .tc := ⟨.hbm, 268, rfl⟩
abbrev main_v136 : Ref sig .tc := ⟨.hbm, 269, rfl⟩
abbrev main_v137 : Ref sig .tc := ⟨.hbm, 270, rfl⟩
abbrev main_cst_37 : Ref sig .tc := ⟨.hbm, 271, rfl⟩
abbrev main_v138 : Ref sig .tc := ⟨.hbm, 272, rfl⟩
abbrev main_v139 : Ref sig .tc := ⟨.hbm, 273, rfl⟩
abbrev main_v140 : Ref sig .tc := ⟨.hbm, 274, rfl⟩
abbrev main_v141 : Ref sig .tc := ⟨.hbm, 275, rfl⟩
abbrev main_cst_38 : Ref sig .tc := ⟨.hbm, 276, rfl⟩
abbrev main_v142 : Ref sig .tc := ⟨.hbm, 277, rfl⟩
abbrev main_v143 : Ref sig .tc := ⟨.hbm, 278, rfl⟩
abbrev main_v144 : Ref sig .tc := ⟨.hbm, 279, rfl⟩
abbrev main_v145 : Ref sig .tc := ⟨.hbm, 280, rfl⟩
abbrev main_v146 : Ref sig .tc := ⟨.hbm, 281, rfl⟩
abbrev main_cst_39 : Ref sig .tc := ⟨.hbm, 282, rfl⟩
abbrev main_v147 : Ref sig .tc := ⟨.hbm, 283, rfl⟩
abbrev main_v148 : Ref sig .tc := ⟨.hbm, 284, rfl⟩
abbrev main_v149 : Ref sig .tc := ⟨.hbm, 285, rfl⟩
abbrev main_v150 : Ref sig .tc := ⟨.hbm, 286, rfl⟩
abbrev main_call9_v0 : Ref sig .tc := ⟨.hbm, 287, rfl⟩
abbrev main_call9_cst : Ref sig .tc := ⟨.hbm, 288, rfl⟩
abbrev main_call9_c : Ref sig .tc := ⟨.hbm, 289, rfl⟩
abbrev main_call9_v1_0 : Ref sig .tc := ⟨.hbm, 290, rfl⟩
abbrev main_v151 : Ref sig .tc := ⟨.hbm, 291, rfl⟩
abbrev main_call10_c : Ref sig .tc := ⟨.hbm, 292, rfl⟩
abbrev main_call10_v0 : Ref sig .tc := ⟨.hbm, 293, rfl⟩
abbrev main_call10_v1 : Ref sig .tc := ⟨.hbm, 294, rfl⟩
abbrev main_call10_c_0 : Ref sig .tc := ⟨.hbm, 295, rfl⟩
abbrev main_call10_v2 : Ref sig .tc := ⟨.hbm, 296, rfl⟩
abbrev main_call10_v3 : Ref sig .tc := ⟨.hbm, 297, rfl⟩
abbrev main_call10_v4 : Ref sig .tc := ⟨.hbm, 298, rfl⟩
abbrev main_call10_v5 : Ref sig .tc := ⟨.hbm, 299, rfl⟩
abbrev main_call10_c_1 : Ref sig .tc := ⟨.hbm, 300, rfl⟩
abbrev main_call10_c_2 : Ref sig .tc := ⟨.hbm, 301, rfl⟩
abbrev main_call10_v6 : Ref sig .tc := ⟨.hbm, 302, rfl⟩
abbrev main_call10_v7 : Ref sig .tc := ⟨.hbm, 303, rfl⟩
abbrev main_call10_v8 : Ref sig .tc := ⟨.hbm, 304, rfl⟩
abbrev main_call10_v9 : Ref sig .tc := ⟨.hbm, 305, rfl⟩
abbrev main_call10_v10 : Ref sig .tc := ⟨.hbm, 306, rfl⟩
abbrev main_call10_v11 : Ref sig .tc := ⟨.hbm, 307, rfl⟩
abbrev main_call10_c_3 : Ref sig .tc := ⟨.hbm, 308, rfl⟩
abbrev main_call10_v12 : Ref sig .tc := ⟨.hbm, 309, rfl⟩
abbrev main_call10_v13 : Ref sig .tc := ⟨.hbm, 310, rfl⟩
abbrev main_call10_v14 : Ref sig .tc := ⟨.hbm, 311, rfl⟩
abbrev main_call10_cst : Ref sig .tc := ⟨.hbm, 312, rfl⟩
abbrev main_call10_v15 : Ref sig .tc := ⟨.hbm, 313, rfl⟩
abbrev main_v152 : Ref sig .tc := ⟨.hbm, 314, rfl⟩
abbrev main_call11_v0 : Ref sig .tc := ⟨.hbm, 315, rfl⟩
abbrev main_call11_v1 : Ref sig .tc := ⟨.hbm, 316, rfl⟩
abbrev main_call11_v2 : Ref sig .tc := ⟨.hbm, 317, rfl⟩
abbrev main_call11_v3 : Ref sig .tc := ⟨.hbm, 318, rfl⟩
abbrev main_call11_v4 : Ref sig .tc := ⟨.hbm, 319, rfl⟩
abbrev main_v153 : Ref sig .tc := ⟨.hbm, 320, rfl⟩
abbrev main_cst_40 : Ref sig .tc := ⟨.hbm, 321, rfl⟩
abbrev main_v154 : Ref sig .tc := ⟨.hbm, 322, rfl⟩
abbrev main_cst_41 : Ref sig .tc := ⟨.hbm, 323, rfl⟩
abbrev main_v155 : Ref sig .tc := ⟨.hbm, 324, rfl⟩
abbrev main_v156 : Ref sig .tc := ⟨.hbm, 325, rfl⟩
abbrev main_cst_42 : Ref sig .tc := ⟨.hbm, 326, rfl⟩
abbrev main_v157 : Ref sig .tc := ⟨.hbm, 327, rfl⟩
abbrev main_v158 : Ref sig .tc := ⟨.hbm, 328, rfl⟩
abbrev main_v159 : Ref sig .tc := ⟨.hbm, 329, rfl⟩
abbrev main_v160 : Ref sig .tc := ⟨.hbm, 330, rfl⟩
abbrev main_cst_43 : Ref sig .tc := ⟨.hbm, 331, rfl⟩
abbrev main_v161 : Ref sig .tc := ⟨.hbm, 332, rfl⟩
abbrev main_v162 : Ref sig .tc := ⟨.hbm, 333, rfl⟩
abbrev main_v163 : Ref sig .tc := ⟨.hbm, 334, rfl⟩
abbrev main_v164 : Ref sig .tc := ⟨.hbm, 335, rfl⟩
abbrev main_v165 : Ref sig .tc := ⟨.hbm, 336, rfl⟩
abbrev main_cst_44 : Ref sig .tc := ⟨.hbm, 337, rfl⟩
abbrev main_v166 : Ref sig .tc := ⟨.hbm, 338, rfl⟩
abbrev main_cst_45 : Ref sig .tc := ⟨.hbm, 339, rfl⟩
abbrev main_v167 : Ref sig .tc := ⟨.hbm, 340, rfl⟩
abbrev main_cst_46 : Ref sig .tc := ⟨.hbm, 341, rfl⟩
abbrev main_v168 : Ref sig .tc := ⟨.hbm, 342, rfl⟩
abbrev main_v169 : Ref sig .tc := ⟨.hbm, 343, rfl⟩
abbrev main_v170 : Ref sig .tc := ⟨.hbm, 344, rfl⟩
abbrev main_cst_47 : Ref sig .tc := ⟨.hbm, 345, rfl⟩
abbrev main_v171 : Ref sig .tc := ⟨.hbm, 346, rfl⟩
abbrev main_cst_48 : Ref sig .tc := ⟨.hbm, 347, rfl⟩
abbrev main_v172 : Ref sig .tc := ⟨.hbm, 348, rfl⟩
abbrev main_v173 : Ref sig .tc := ⟨.hbm, 349, rfl⟩
abbrev main_v174 : Ref sig .tc := ⟨.hbm, 350, rfl⟩
abbrev main_v175 : Ref sig .tc := ⟨.hbm, 351, rfl⟩
abbrev main_v176 : Ref sig .tc := ⟨.hbm, 352, rfl⟩
abbrev main_v177 : Ref sig .tc := ⟨.hbm, 353, rfl⟩
abbrev main_v178 : Ref sig .tc := ⟨.hbm, 354, rfl⟩
abbrev main_v179 : Ref sig .tc := ⟨.hbm, 355, rfl⟩
abbrev main_v180 : Ref sig .tc := ⟨.hbm, 356, rfl⟩
abbrev main_v181 : Ref sig .tc := ⟨.hbm, 357, rfl⟩
abbrev main_v182 : Ref sig .tc := ⟨.hbm, 358, rfl⟩
abbrev main_v183 : Ref sig .tc := ⟨.hbm, 359, rfl⟩
abbrev main_v184 : Ref sig .tc := ⟨.hbm, 360, rfl⟩
abbrev main_v185 : Ref sig .tc := ⟨.hbm, 361, rfl⟩

abbrev nD : Nat := 1
abbrev τ : Topo := Topo.v7x

variable {F : FTy → Type} [FloatOps F]
-- ==== Proof.Same.lean ====
/- The kernel and the idealised kernel are one program printed twice: no operation was rewritten. A run of the one, over any
   floats, is therefore a run of the other. -/
module

public import proofs.«01_k».proof.Proof.Gen.Kernel
public import proofs.«01_k».proof.Proof.Gen.KernelIdeal

@[expose] public section

set_option backward.isDefEq.respectTransparency false
set_option backward.isDefEq.respectTransparency.types false

noncomputable section

namespace Cert.Proof

open Idealize.ShloMosaic Idealize.SL.Sem

variable {F : FTy → Type} [FloatOps F]

/-- One body at every grid point. -/
theorem body_same : Kernel.cc0__vq_body (F := F) = KernelIdeal.cc0__vq_body (F := F) := rfl

/-- One table of bodies. -/
theorem bodies_same : Kernel.defs₀ (F := F) = KernelIdeal.defs₀ (F := F) := by
  refine congrArg Defs.onTc (funext fun p => funext fun a => ?_)
  obtain rfl : p = (0 : Fin 1) := Subsingleton.elim (α := Fin 1) _ _
  obtain ⟨t, s⟩ := a
  rfl

/-- One table with the pipeline's regions. -/
theorem defs_same : Kernel.defs (F := F) = KernelIdeal.defs (F := F) := congrArg (Pipeline.defs (KernelIdeal.pcfgs (F := F))) bodies_same

/-- One host program. -/
theorem main_same : Kernel.main (F := F) = KernelIdeal.main (F := F) := rfl

/-- What holds of every run of the idealised kernel from a state holds of every run of the kernel from it. -/
theorem run_same (s : MemSt KernelIdeal.nD KernelIdeal.τ KernelIdeal.sig (Elt F)) (Q)
    (h : θ_run (KernelIdeal.defs (F := F)) (onTc (τ := KernelIdeal.τ) (KernelIdeal.main (F := F))) s Q) :
    θ_run (Kernel.defs (F := F)) (onTc (τ := Kernel.τ) (Kernel.main (F := F))) s Q :=
  Eq.mpr (congrArg₂ (fun D P => θ_run D (onTc (τ := KernelIdeal.τ) P) s Q) defs_same main_same) h

end Cert.Proof

end
-- ==== Proof.KBase.lean ====
/- What the proof about the idealised kernel is stated over: the two branch conditions in closed form over the grid's
   points, the staging and scratch buffers, and the scratch invariant spelt as memory references. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    have e1 : (grid0.coords t 1).val = t.val / 1 % 1 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    have e1 : (grid0.coords t 1).val = t.val / 1 % 1 := Pipeline.Grid.coords_val t 1 (by decide) rfl
    simp only [cond0_1, k0_cond2, e0, e1]
    word_cmp
   : ∀ t : Fin grid0.N, cond0_1 (grid0.coords t) ↔ t.val % 8 = 7)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl

/-- Each window's current staging memref at point `t`, spelled as the pipeline passes it (`bodyAt0`), and its wholeness. -/
abbrev ms0_0 (t : Fin cfg0.N) : Memref sig .tc .vmem S1x128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1024x128 .f32 := Memref.whole cc0_scratch0
abbrev scM0_1 : Memref sig .tc .vmem S8x128 .f32 := Memref.whole cc0_scratch1
abbrev scM0_2 : Memref sig .tc .vmem S3x4x1024x128 .bf16 := Memref.whole cc0_scratch2
/-- The scratch `arg7` the kernel carries between points, as a view: what it holds is stated through it. -/
abbrev VS0_0 : View sig .tc .vmem S1024x128 .f32 := scM0_0.view
/-- The scratch `arg8` the kernel carries between points, as a view: what it holds is stated through it. -/
abbrev VS0_1 : View sig .tc .vmem S8x128 .f32 := scM0_1.view
/-- The scratch `arg9` the kernel carries between points, as a view: what it holds is stated through it. -/
abbrev VS0_2 : View sig .tc .vmem S3x4x1024x128 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Vq

end
-- ==== Proof.KRunA.lean ====
/- The kernel body at the first point: both carried sums are cleared and the codebooks split, then the four stages run. -/
module

public import proofs.«01_k».proof.Proof.KBase

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- Case A: the stores the body leaves in its outputs and in the carried scratch buffers, last first, with the proof
    that the body runs to them. -/
noncomputable def runA (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : cond0_0 i) (hc1 : ¬cond0_1 i)
    (x0 : Vec F S1x128x2048 .f32) (x1 : Vec F S4x1024x128 .f32) (x2 : Vec F S1024x128 .f32) :
    Σ' (L3 : List (View.Piece (Elt F) S1x128x2048 .f32)), Σ' (LS0 : List (View.Piece (Elt F) S1024x128 .f32)), Σ' (LS1 : List (View.Piece (Elt F) S8x128 .f32)), { LS2 : List (View.Piece (Elt F) S3x4x1024x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__vq_body i arg2 harg2 arg3 harg3 arg4 harg4 arg5 harg5 arg6 harg6 arg7 harg7 arg8 harg8 arg9 harg9) K } := by
  refine ⟨?_, ?_, ?_, ?_, fun E K => ?run⟩
  case run =>
    simp only [cc0__vq_body_eq_skeleton]; unfold cc0__vq_body_skel
    simp only [k0_part9_eq_skeleton, k0_part3_eq_skeleton, k0_part1_eq_skeleton, k0_part2_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _, _; isplitr; swap; · iexact H4
      ipureintro; rfl
    isplitl [HS0]; · iexists _; iexact HS0
    isplitl [HS1]; · iexists _; iexact HS1
    iexists _; iexact HS2

end Cert.KernelIdeal.Vq

end
-- ==== Proof.KRunB.lean ====
/- The kernel body at a point in between: the four stages run on what the points before left. -/
module

public import proofs.«01_k».proof.Proof.KRunA

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- Case B: the stores the body leaves in its outputs and in the carried scratch buffers, last first, with the proof
    that the body runs to them. -/
noncomputable def runB (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : ¬cond0_0 i) (hc1 : ¬cond0_1 i)
    (x0 : Vec F S1x128x2048 .f32) (x1 : Vec F S4x1024x128 .f32) (x2 : Vec F S1024x128 .f32) (xs0 : Vec F S1024x128 .f32) (xs1 : Vec F S8x128 .f32) (xs2 : Vec F S3x4x1024x128 .bf16) :
    Σ' (L3 : List (View.Piece (Elt F) S1x128x2048 .f32)), Σ' (LS0 : List (View.Piece (Elt F) S1024x128 .f32)), Σ' (LS1 : List (View.Piece (Elt F) S8x128 .f32)), { LS2 : List (View.Piece (Elt F) S3x4x1024x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (arg7.view.loc (c : Thread nD τ) ↦[arg7.view.set]{fullShare} arg7.view.writes (Elt F) (harg7.unread xs0) LS0) ∗ (arg8.view.loc (c : Thread nD τ) ↦[arg8.view.set]{fullShare} arg8.view.writes (Elt F) (harg8.unread xs1) LS1) ∗ owns (c : Thread nD τ) arg9 fullShare xs2) -∗ K ⟨⟩))
          ⊢ wp frame (wpE (defs₀ (F := F)) Variants.none c none) E (cc0__vq_body i arg2 harg2 arg3 harg3 arg4 harg4 arg5 harg5 arg6 harg6 arg7 harg7 arg8 harg8 arg9 harg9) K } := by
  refine ⟨?_, ?_, ?_, [], fun E K => ?run⟩
  case run =>
    simp only [cc0__vq_body_eq_skeleton]; unfold cc0__vq_body_skel
    simp only [k0_part9_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg7.eq_unread hfs0; obtain rfl := harg8.eq_unread hfs1; obtain rfl := harg9.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _, _; isplitr; swap; · iexact H4
      ipureintro; rfl
    isplitl [HS0]; · iexact HS0
    isplitl [HS1]; · iexact HS1
    iexists _; isplitr; · ipureintro; exact harg9.read_unread _
    iexact HS2

end Cert.KernelIdeal.Vq

end
-- ==== Proof.KRunC.lean ====
/- The kernel body at the last point: the four stages run, then the statistics are stored. -/
module

public import proofs.«01_k».proof.Proof.KRunB

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- Case C: the stores the body leaves in its outputs and in the carried scratch buffers, last first, with the proof
    that the body runs to them. -/
noncomputable def runC (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : ¬cond0_0 i) (hc1 : cond0_1 i)
    (x0 : Vec F S1x128x2048 .f32) (x1 : Vec F S4x1024x128 .f32) (x2 : Vec F S1024x128 .f32) (xs0 : Vec F S1024x128 .f32) (xs1 : Vec F S8x128 .f32) (xs2 : Vec F S3x4x1024x128 .bf16) :
    Σ' (L3 : List (View.Piece (Elt F) S1x128x2048 .f32)), Σ' (L4 : List (View.Piece (Elt F) S8x128 .f32)), Σ' (LS0 : List (View.Piece (Elt F) S1024x128 .f32)), Σ' (LS1 : List (View.Piece (Elt F) S8x128 .f32)), { LS2 : List (View.Piece (Elt F) S3x4x1024x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (arg7.view.loc (c : Thread nD τ) ↦[arg7.view.set]{fullShare} arg7.view.writes (Elt F) (harg7.unread xs0) LS0) ∗ (arg8.view.loc (c : Thread nD τ) ↦[arg8.view.set]{fullShare} arg8.view.writes (Elt F) (harg8.unread xs1) LS1) ∗ owns (c : Thread nD τ) arg9 fullShare xs2) -∗ K ⟨⟩))
          ⊢ wp frame (wpE (defs₀ (F := F)) Variants.none c none) E (cc0__vq_body i arg2 harg2 arg3 harg3 arg4 harg4 arg5 harg5 arg6 harg6 arg7 harg7 arg8 harg8 arg9 harg9) K } := by
  refine ⟨?_, ?_, ?_, ?_, [], fun E K => ?run⟩
  case run =>
    simp only [cc0__vq_body_eq_skeleton]; unfold cc0__vq_body_skel
    simp only [k0_part9_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg7.eq_unread hfs0; obtain rfl := harg8.eq_unread hfs1; obtain rfl := harg9.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexact HS0
    isplitl [HS1]; · iexact HS1
    iexists _; isplitr; · ipureintro; exact harg9.read_unread _
    iexact HS2

end Cert.KernelIdeal.Vq

end
-- ==== Proof.KVal.lean ====
/- What one grid point computes, as functions of the block it is given: the four stages' one-hot choices, differences,
   residuals and sums, and what they leave in the two carried sums. -/
module

public import proofs.«01_k».proof.Proof.KBase
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## One stage, on a residual `r` -/

/-- The one-hot choice of the nearest code. -/
def choice (r : FVec F S128x2048 .f32) (cn : Vec F S1024x1 .f32) (hi : Vec F S1x1x1024x128 .bf16) : FVec F S1024x2048 .bf16 :=
  k0_pay66 (iota .tc S1024x2048 32 [0] iota_S1024x2048_d0_w32) r cn hi
/-- The chosen code less the residual. -/
def diff (r : FVec F S128x2048 .f32) (hi mid lo : Vec F S1x1x1024x128 .bf16) (oh : FVec F S1024x2048 .bf16) : FVec F S128x2048 .f32 :=
  k0_pay38 r (k0_pay36 hi) oh mid lo
/-- The next residual. -/
def next (r u : FVec F S128x2048 .f32) : FVec F S128x2048 .f32 := subf r (addf r u)
/-- The running sum of the quantised residuals. -/
def gather (r acc u : FVec F S128x2048 .f32) : FVec F S128x2048 .f32 := addf acc (addf r u)

variable (x0 : Vec F S1x128x2048 .f32) (x1 : Vec F S4x1024x128 .f32) (x2 : Vec F S1024x128 .f32) (xs0 : Vec F S1024x128 .f32) (xs1 : Vec F S8x128 .f32) (xs2 : Vec F S3x4x1024x128 .bf16)

/-! ## Stage 0 of a point -/

def oh0 : FVec F S1024x2048 .bf16 := choice (k0_pay34 x0) (View.ld x2 (Rect.unit ![0, 0] ![1024, 1] inb_S1024x128_S1024x1_0_0)) (View.ld xs2 (Rect.unit ![0, 0, 0, 0] ![1, 1, 1024, 128] inb_S3x4x1024x128_S1x1x1024x128_0_0_0_0))
def dif0 : FVec F S128x2048 .f32 := diff (k0_pay34 x0) (View.ld xs2 (Rect.unit ![0, 0, 0, 0] ![1, 1, 1024, 128] inb_S3x4x1024x128_S1x1x1024x128_0_0_0_0)) (View.ld xs2 (Rect.unit ![1, 0, 0, 0] ![1, 1, 1024, 128] inb_S3x4x1024x128_S1x1x1024x128_1_0_0_0)) (View.ld xs2 (Rect.unit ![2, 0, 0, 0] ![1, 1, 1024, 128] inb_S3x4x1024x128_S1x1x1024x128_2_0_0_0)) (oh0 x0 x2 xs2)
def res1 : FVec F S128x2048 .f32 := next (k0_pay34 x0) (dif0 x0 x2 xs2)
def acc1 : FVec F S128x2048 .f32 := gather (k0_pay34 x0) (k0_pay35 (F := F)) (dif0 x0 x2 xs2)
/-! ## Stage 1 of a point -/

def oh1 : FVec F S1024x2048 .bf16 := choice (res1 x0 x2 xs2) (View.ld x2 (Rect.unit ![0, 1] ![1024, 1] inb_S1024x128_S1024x1_0_1)) (View.ld xs2 (Rect.unit ![0, 1, 0, 0] ![1, 1, 1024, 128] inb_S3x4x1024x128_S1x1x1024x128_0_1_0_0))
def dif1 : FVec F S128x2048 .f32 := diff (res1 x0 x2 xs2) (View.ld xs2 (Rect.unit ![0, 1, 0, 0] ![1, 1, 1024, 128] inb_S3x4x1024x128_S1x1x1024x128_0_1_0_0)) (View.ld xs2 (Rect.unit ![1, 1, 0, 0] ![1, 1, 1024, 128] inb_S3x4x1024x128_S1x1x1024x128_1_1_0_0)) (View.ld xs2 (Rect.unit ![2, 1, 0, 0] ![1, 1, 1024, 128] inb_S3x4x1024x128_S1x1x1024x128_2_1_0_0)) (oh1 x0 x2 xs2)
def res2 : FVec F S128x2048 .f32 := next (res1 x0 x2 xs2) (dif1 x0 x2 xs2)
def acc2 : FVec F S128x2048 .f32 := gather (res1 x0 x2 xs2) (acc1 x0 x2 xs2) (dif1 x0 x2 xs2)
/-! ## Stage 2 of a point -/

def oh2 : FVec F S1024x2048 .bf16 := choice (res2 x0 x2 xs2) (View.ld x2 (Rect.unit ![0, 2] ![1024, 1] inb_S1024x128_S1024x1_0_2)) (View.ld xs2 (Rect.unit ![0, 2, 0, 0] ![1, 1, 1024, 128] inb_S3x4x1024x128_S1x1x1024x128_0_2_0_0))
def dif2 : FVec F S128x2048 .f32 := diff (res2 x0 x2 xs2) (View.ld xs2 (Rect.unit ![0, 2, 0, 0] ![1, 1, 1024, 128] inb_S3x4x1024x128_S1x1x1024x128_0_2_0_0)) (View.ld xs2 (Rect.unit ![1, 2, 0, 0] ![1, 1, 1024, 128] inb_S3x4x1024x128_S1x1x1024x128_1_2_0_0)) (View.ld xs2 (Rect.unit ![2, 2, 0, 0] ![1, 1, 1024, 128] inb_S3x4x1024x128_S1x1x1024x128_2_2_0_0)) (oh2 x0 x2 xs2)
def res3 : FVec F S128x2048 .f32 := next (res2 x0 x2 xs2) (dif2 x0 x2 xs2)
def acc3 : FVec F S128x2048 .f32 := gather (res2 x0 x2 xs2) (acc2 x0 x2 xs2) (dif2 x0 x2 xs2)
/-! ## Stage 3 of a point -/

def oh3 : FVec F S1024x2048 .bf16 := choice (res3 x0 x2 xs2) (View.ld x2 (Rect.unit ![0, 3] ![1024, 1] inb_S1024x128_S1024x1_0_3)) (View.ld xs2 (Rect.unit ![0, 3, 0, 0] ![1, 1, 1024, 128] inb_S3x4x1024x128_S1x1x1024x128_0_3_0_0))
def dif3 : FVec F S128x2048 .f32 := diff (res3 x0 x2 xs2) (View.ld xs2 (Rect.unit ![0, 3, 0, 0] ![1, 1, 1024, 128] inb_S3x4x1024x128_S1x1x1024x128_0_3_0_0)) (View.ld xs2 (Rect.unit ![1, 3, 0, 0] ![1, 1, 1024, 128] inb_S3x4x1024x128_S1x1x1024x128_1_3_0_0)) (View.ld xs2 (Rect.unit ![2, 3, 0, 0] ![1, 1, 1024, 128] inb_S3x4x1024x128_S1x1x1024x128_2_3_0_0)) (oh3 x0 x2 xs2)
def res4 : FVec F S128x2048 .f32 := next (res3 x0 x2 xs2) (dif3 x0 x2 xs2)
def acc4 : FVec F S128x2048 .f32 := gather (res3 x0 x2 xs2) (acc3 x0 x2 xs2) (dif3 x0 x2 xs2)

/-! ## What a point leaves -/

/-- The block of the first result. -/
def outBlk : Vec F S1x128x2048 .f32 := shapeCast S1x128x2048 (acc4 x0 x2 xs2) shapeCasts_S128x2048_S1x128x2048
/-- A stage's choices added to a column of counts. -/
def addCnt (oh : FVec F S1024x2048 .bf16) (v : Vec F S1024x1 .f32) : FVec F S1024x1 .f32 := k0_pay42 oh v
/-- A stage's squared differences, added to a row. -/
def addSq (u : FVec F S128x2048 .f32) (v : Vec F S1x128 .f32) : FVec F S1x128 .f32 :=
  shapeCast S1x128 (addf v (broadcast S1x128 (extractAt ![0, 0, 0] (shapeCast S1x1x1 (multiReduction .add [1, 2] S1 (shapeCast S1x128x2048 (mulf u u) shapeCasts_S128x2048_S1x128x2048) 0x00000000#32 reduces_S1x128x2048_S1 (.inl rfl) rfl) shapeCasts_S1_S1x1x1) inpos_S1x1x1_p0_0_0))) shapeCasts_S1x128_S1x128
/-- Four columns `w0 … w3` in place of the first four of `v`. -/
def colsOut (v : Vec F S1024x128 .f32) (w0 w1 w2 w3 : Vec F S1024x1 .f32) : Vec F S1024x128 .f32 := fun y =>
  if (y 1).val = 0 then w0 (ix2 (y 0) 0) else if (y 1).val = 1 then w1 (ix2 (y 0) 0)
  else if (y 1).val = 2 then w2 (ix2 (y 0) 0) else if (y 1).val = 3 then w3 (ix2 (y 0) 0) else v y
/-- Four rows `w0 … w3` in place of the first four of `v`. -/
def rowsOut (v : Vec F S8x128 .f32) (w0 w1 w2 w3 : Vec F S1x128 .f32) : Vec F S8x128 .f32 := fun y =>
  if (y 0).val = 0 then w0 (ix2 0 (y 1)) else if (y 0).val = 1 then w1 (ix2 0 (y 1))
  else if (y 0).val = 2 then w2 (ix2 0 (y 1)) else if (y 0).val = 3 then w3 (ix2 0 (y 1)) else v y
/-- The counts after a point that found `xs0`. -/
def cntOut : Vec F S1024x128 .f32 := colsOut xs0
  (addCnt (oh0 x0 x2 xs2) (View.ld xs0 (Rect.unit ![0, 0] ![1024, 1] inb_S1024x128_S1024x1_0_0)))
  (addCnt (oh1 x0 x2 xs2) (View.ld xs0 (Rect.unit ![0, 1] ![1024, 1] inb_S1024x128_S1024x1_0_1)))
  (addCnt (oh2 x0 x2 xs2) (View.ld xs0 (Rect.unit ![0, 2] ![1024, 1] inb_S1024x128_S1024x1_0_2)))
  (addCnt (oh3 x0 x2 xs2) (View.ld xs0 (Rect.unit ![0, 3] ![1024, 1] inb_S1024x128_S1024x1_0_3)))
/-- The squared differences' sums after a point that found `xs1`. -/
def sqOut : Vec F S8x128 .f32 := rowsOut xs1
  (addSq (dif0 x0 x2 xs2) (View.ld xs1 (Rect.unit ![0, 0] ![1, 128] inb_S8x128_S1x128_0_0)))
  (addSq (dif1 x0 x2 xs2) (View.ld xs1 (Rect.unit ![1, 0] ![1, 128] inb_S8x128_S1x128_1_0)))
  (addSq (dif2 x0 x2 xs2) (View.ld xs1 (Rect.unit ![2, 0] ![1, 128] inb_S8x128_S1x128_2_0)))
  (addSq (dif3 x0 x2 xs2) (View.ld xs1 (Rect.unit ![3, 0] ![1, 128] inb_S8x128_S1x128_3_0)))

/-! ## The kernel's payloads are the stages' functions -/

theorem pay37_eq (cn : Vec F S1024x1 .f32) (hi : Vec F S1x1x1024x128 .bf16) : k0_pay37 x0 cn hi = choice (k0_pay34 x0) cn hi := (rfl)
theorem pay38_eq (r : FVec F S128x2048 .f32) (hi mid lo : Vec F S1x1x1024x128 .bf16) (oh : FVec F S1024x2048 .bf16) :
    k0_pay38 r (k0_pay36 hi) oh mid lo = diff r hi mid lo oh := (rfl)
theorem pay40_eq (r : FVec F S128x2048 .f32) (hi mid lo : Vec F S1x1x1024x128 .bf16) (oh : FVec F S1024x2048 .bf16) :
    k0_pay40 r (k0_pay36 hi) oh mid lo = next r (diff r hi mid lo oh) := (rfl)
theorem pay41_eq (r acc : FVec F S128x2048 .f32) (hi mid lo : Vec F S1x1x1024x128 .bf16) (oh : FVec F S1024x2048 .bf16) :
    k0_pay41 r acc (k0_pay36 hi) oh mid lo = gather r acc (diff r hi mid lo oh) := (rfl)
theorem pay42_eq (oh : FVec F S1024x2048 .bf16) (v : Vec F S1024x1 .f32) : k0_pay42 oh v = addCnt oh v := (rfl)
theorem pay43_eq (r : FVec F S128x2048 .f32) (hi mid lo : Vec F S1x1x1024x128 .bf16) (oh : FVec F S1024x2048 .bf16) (v : Vec F S1x128 .f32) :
    k0_pay43 r (k0_pay36 hi) oh mid lo v = addSq (diff r hi mid lo oh) v := (rfl)
theorem pay45_eq (r : FVec F S128x2048 .f32) (hi mid lo : Vec F S1x1x1024x128 .bf16) (oh : FVec F S1024x2048 .bf16) :
    k0_pay45 r (k0_pay36 hi) oh mid lo = mulf (next r (diff r hi mid lo oh)) (next r (diff r hi mid lo oh)) := (rfl)
theorem pay47_eq (r : FVec F S128x2048 .f32) (cn : Vec F S1024x1 .f32) (hi mid lo : Vec F S1x1x1024x128 .bf16) :
    k0_pay47 (iota .tc S1024x2048 32 [0] iota_S1024x2048_d0_w32) r (k0_pay44 cn) (mulf r r) hi = choice r cn hi := (rfl)
theorem pay48_eq (r : FVec F S128x2048 .f32) (cn : Vec F S1024x1 .f32) (hi mid lo : Vec F S1x1x1024x128 .bf16) :
    k0_pay48 (iota .tc S1024x2048 32 [0] iota_S1024x2048_d0_w32) r (k0_pay44 cn) (mulf r r) hi mid lo = diff r hi mid lo (choice r cn hi) := (rfl)
theorem pay50_eq (r : FVec F S128x2048 .f32) (cn : Vec F S1024x1 .f32) (hi mid lo : Vec F S1x1x1024x128 .bf16) :
    k0_pay50 (iota .tc S1024x2048 32 [0] iota_S1024x2048_d0_w32) r (k0_pay44 cn) (mulf r r) hi mid lo = next r (diff r hi mid lo (choice r cn hi)) := (rfl)
theorem pay51_eq (r : FVec F S128x2048 .f32) (cn : Vec F S1024x1 .f32) (hi mid lo : Vec F S1x1x1024x128 .bf16) (acc : FVec F S128x2048 .f32) :
    k0_pay51 (iota .tc S1024x2048 32 [0] iota_S1024x2048_d0_w32) r acc (k0_pay44 cn) (mulf r r) hi mid lo = gather r acc (diff r hi mid lo (choice r cn hi)) := (rfl)
theorem pay52_eq (oh : FVec F S1024x2048 .bf16) (v : Vec F S1024x1 .f32) : k0_pay52 oh v = addCnt oh v := (rfl)
theorem pay53_eq (u : FVec F S128x2048 .f32) (v : Vec F S1x128 .f32) : k0_pay53 u v = addSq u v := (rfl)
theorem pay60_eq (r : FVec F S128x2048 .f32) (cn : Vec F S1024x1 .f32) (hi mid lo : Vec F S1x1x1024x128 .bf16) :
    k0_pay60 (iota .tc S1024x2048 32 [0] iota_S1024x2048_d0_w32) r (k0_pay54 hi) (k0_pay55 r cn hi) (iota .tc S1024x2048 32 [0] iota_S1024x2048_d0_w32) (k0_pay56 r cn hi) mid lo = next r (diff r hi mid lo (choice r cn hi)) := (rfl)
theorem pay61_eq (r : FVec F S128x2048 .f32) (cn : Vec F S1024x1 .f32) (hi mid lo : Vec F S1x1x1024x128 .bf16) (acc : FVec F S128x2048 .f32) :
    k0_pay61 (iota .tc S1024x2048 32 [0] iota_S1024x2048_d0_w32) r acc (k0_pay54 hi) (k0_pay55 r cn hi) (iota .tc S1024x2048 32 [0] iota_S1024x2048_d0_w32) (k0_pay56 r cn hi) mid lo = gather r acc (diff r hi mid lo (choice r cn hi)) := (rfl)
theorem pay62_eq (r : FVec F S128x2048 .f32) (cn : Vec F S1024x1 .f32) (hi mid lo : Vec F S1x1x1024x128 .bf16) (v : Vec F S1024x1 .f32) :
    k0_pay62 (iota .tc S1024x2048 32 [0] iota_S1024x2048_d0_w32) (k0_pay55 r cn hi) (iota .tc S1024x2048 32 [0] iota_S1024x2048_d0_w32) (k0_pay56 r cn hi) v = addCnt (choice r cn hi) v := (rfl)
theorem pay64_eq (r : FVec F S128x2048 .f32) (cn : Vec F S1024x1 .f32) (hi mid lo : Vec F S1x1x1024x128 .bf16) (v : Vec F S1x128 .f32) :
    k0_pay64 v (k0_pay63 (iota .tc S1024x2048 32 [0] iota_S1024x2048_d0_w32) r (k0_pay54 hi) (k0_pay55 r cn hi) (iota .tc S1024x2048 32 [0] iota_S1024x2048_d0_w32) (k0_pay56 r cn hi) mid lo) = addSq (diff r hi mid lo (choice r cn hi)) v := (rfl)
theorem pay66_eq (r : FVec F S128x2048 .f32) (cn : Vec F S1024x1 .f32) (hi mid lo : Vec F S1x1x1024x128 .bf16) : k0_pay66 (iota .tc S1024x2048 32 [0] iota_S1024x2048_d0_w32) r cn hi = choice r cn hi := (rfl)
theorem pay70_eq (oh : FVec F S1024x2048 .bf16) (v : Vec F S1024x1 .f32) : k0_pay70 oh v = addCnt oh v := (rfl)
theorem pay71_eq (r : FVec F S128x2048 .f32) (cn : Vec F S1024x1 .f32) (hi mid lo : Vec F S1x1x1024x128 .bf16) (oh : FVec F S1024x2048 .bf16) (v : Vec F S1x128 .f32) :
    k0_pay71 r (k0_pay65 hi) oh (k0_pay67 mid) (k0_pay68 lo) v = addSq (diff r hi mid lo oh) v := (rfl)
theorem pay72_eq (r : FVec F S128x2048 .f32) (cn : Vec F S1024x1 .f32) (hi mid lo : Vec F S1x1x1024x128 .bf16) (oh : FVec F S1024x2048 .bf16) (acc : FVec F S128x2048 .f32) :
    k0_pay72 r acc (k0_pay65 hi) oh (k0_pay67 mid) (k0_pay68 lo)
      = shapeCast S1x128x2048 (gather r acc (diff r hi mid lo oh)) shapeCasts_S128x2048_S1x128x2048 := (rfl)

/-! ## Reading a stage's functions back -/

theorem oh0_fold : choice (k0_pay34 x0) (View.ld x2 (Rect.unit ![0, 0] ![1024, 1] inb_S1024x128_S1024x1_0_0)) (View.ld xs2 (Rect.unit ![0, 0, 0, 0] ![1, 1, 1024, 128] inb_S3x4x1024x128_S1x1x1024x128_0_0_0_0)) = oh0 x0 x2 xs2 := (rfl)
theorem dif0_fold : diff (k0_pay34 x0) (View.ld xs2 (Rect.unit ![0, 0, 0, 0] ![1, 1, 1024, 128] inb_S3x4x1024x128_S1x1x1024x128_0_0_0_0)) (View.ld xs2 (Rect.unit ![1, 0, 0, 0] ![1, 1, 1024, 128] inb_S3x4x1024x128_S1x1x1024x128_1_0_0_0)) (View.ld xs2 (Rect.unit ![2, 0, 0, 0] ![1, 1, 1024, 128] inb_S3x4x1024x128_S1x1x1024x128_2_0_0_0)) (oh0 x0 x2 xs2) = dif0 x0 x2 xs2 := (rfl)
theorem res1_fold : next (k0_pay34 x0) (dif0 x0 x2 xs2) = res1 x0 x2 xs2 := (rfl)
theorem acc1_fold : gather (k0_pay34 x0) (k0_pay35 (F := F)) (dif0 x0 x2 xs2) = acc1 x0 x2 xs2 := (rfl)
theorem oh1_fold : choice (res1 x0 x2 xs2) (View.ld x2 (Rect.unit ![0, 1] ![1024, 1] inb_S1024x128_S1024x1_0_1)) (View.ld xs2 (Rect.unit ![0, 1, 0, 0] ![1, 1, 1024, 128] inb_S3x4x1024x128_S1x1x1024x128_0_1_0_0)) = oh1 x0 x2 xs2 := (rfl)
theorem dif1_fold : diff (res1 x0 x2 xs2) (View.ld xs2 (Rect.unit ![0, 1, 0, 0] ![1, 1, 1024, 128] inb_S3x4x1024x128_S1x1x1024x128_0_1_0_0)) (View.ld xs2 (Rect.unit ![1, 1, 0, 0] ![1, 1, 1024, 128] inb_S3x4x1024x128_S1x1x1024x128_1_1_0_0)) (View.ld xs2 (Rect.unit ![2, 1, 0, 0] ![1, 1, 1024, 128] inb_S3x4x1024x128_S1x1x1024x128_2_1_0_0)) (oh1 x0 x2 xs2) = dif1 x0 x2 xs2 := (rfl)
theorem res2_fold : next (res1 x0 x2 xs2) (dif1 x0 x2 xs2) = res2 x0 x2 xs2 := (rfl)
theorem acc2_fold : gather (res1 x0 x2 xs2) (acc1 x0 x2 xs2) (dif1 x0 x2 xs2) = acc2 x0 x2 xs2 := (rfl)
theorem oh2_fold : choice (res2 x0 x2 xs2) (View.ld x2 (Rect.unit ![0, 2] ![1024, 1] inb_S1024x128_S1024x1_0_2)) (View.ld xs2 (Rect.unit ![0, 2, 0, 0] ![1, 1, 1024, 128] inb_S3x4x1024x128_S1x1x1024x128_0_2_0_0)) = oh2 x0 x2 xs2 := (rfl)
theorem dif2_fold : diff (res2 x0 x2 xs2) (View.ld xs2 (Rect.unit ![0, 2, 0, 0] ![1, 1, 1024, 128] inb_S3x4x1024x128_S1x1x1024x128_0_2_0_0)) (View.ld xs2 (Rect.unit ![1, 2, 0, 0] ![1, 1, 1024, 128] inb_S3x4x1024x128_S1x1x1024x128_1_2_0_0)) (View.ld xs2 (Rect.unit ![2, 2, 0, 0] ![1, 1, 1024, 128] inb_S3x4x1024x128_S1x1x1024x128_2_2_0_0)) (oh2 x0 x2 xs2) = dif2 x0 x2 xs2 := (rfl)
theorem res3_fold : next (res2 x0 x2 xs2) (dif2 x0 x2 xs2) = res3 x0 x2 xs2 := (rfl)
theorem acc3_fold : gather (res2 x0 x2 xs2) (acc2 x0 x2 xs2) (dif2 x0 x2 xs2) = acc3 x0 x2 xs2 := (rfl)
theorem oh3_fold : choice (res3 x0 x2 xs2) (View.ld x2 (Rect.unit ![0, 3] ![1024, 1] inb_S1024x128_S1024x1_0_3)) (View.ld xs2 (Rect.unit ![0, 3, 0, 0] ![1, 1, 1024, 128] inb_S3x4x1024x128_S1x1x1024x128_0_3_0_0)) = oh3 x0 x2 xs2 := (rfl)
theorem dif3_fold : diff (res3 x0 x2 xs2) (View.ld xs2 (Rect.unit ![0, 3, 0, 0] ![1, 1, 1024, 128] inb_S3x4x1024x128_S1x1x1024x128_0_3_0_0)) (View.ld xs2 (Rect.unit ![1, 3, 0, 0] ![1, 1, 1024, 128] inb_S3x4x1024x128_S1x1x1024x128_1_3_0_0)) (View.ld xs2 (Rect.unit ![2, 3, 0, 0] ![1, 1, 1024, 128] inb_S3x4x1024x128_S1x1x1024x128_2_3_0_0)) (oh3 x0 x2 xs2) = dif3 x0 x2 xs2 := (rfl)
theorem res4_fold : next (res3 x0 x2 xs2) (dif3 x0 x2 xs2) = res4 x0 x2 xs2 := (rfl)
theorem acc4_fold : gather (res3 x0 x2 xs2) (acc3 x0 x2 xs2) (dif3 x0 x2 xs2) = acc4 x0 x2 xs2 := (rfl)
theorem outBlk_fold : shapeCast S1x128x2048 (acc4 x0 x2 xs2) shapeCasts_S128x2048_S1x128x2048 = outBlk x0 x2 xs2 := (rfl)

end Cert.KernelIdeal.Vq

end
-- ==== Proof.KOut.lean ====
/- What the body's stores leave in the windows and the carried buffers, as the stages' functions. -/
module

public import proofs.«01_k».proof.Proof.KRunC
public import proofs.«01_k».proof.Proof.KVal

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Lists of column and row stores read back -/

section Read

variable {sp : Space}

theorem cols_read (v : View sig .tc sp S1024x128 .f32) (f : v.ty.Contents (Elt F)) (L : List (View.Piece (Elt F) S1024x128 .f32)) (xs : Vec F S1024x128 .f32)
    (h : v.read (Elt F) (v.writes (Elt F) f L) = xs) (w0 w1 w2 w3 : Vec F S1024x1 .f32) :
    v.read (Elt F) (v.writes (Elt F) f (
      (⟨Rect.unit ![0, 3] ![1024, 1] inb_S1024x128_S1024x1_0_3, w3⟩ : View.Piece (Elt F) S1024x128 .f32) :: ⟨Rect.unit ![0, 2] ![1024, 1] inb_S1024x128_S1024x1_0_2, w2⟩ ::
      ⟨Rect.unit ![0, 1] ![1024, 1] inb_S1024x128_S1024x1_0_1, w1⟩ :: ⟨Rect.unit ![0, 0] ![1024, 1] inb_S1024x128_S1024x1_0_0, w0⟩ :: L)) = colsOut xs w0 w1 w2 w3 := by
  funext y
  unfold colsOut
  have h0 := (y 0).isLt
  have h1 := (y 1).isLt
  by_cases e0 : (y 1).val = 0
  · simp only [if_pos e0]
    rw [View.read_writes_cons_unit_of_not_mem v f inb_S1024x128_S1024x1_0_3 _ _ y rfl (1 : Fin 2) (by left; show _ < 3; omega)]
    rw [View.read_writes_cons_unit_of_not_mem v f inb_S1024x128_S1024x1_0_2 _ _ y rfl (1 : Fin 2) (by left; show _ < 2; omega)]
    rw [View.read_writes_cons_unit_of_not_mem v f inb_S1024x128_S1024x1_0_1 _ _ y rfl (1 : Fin 2) (by left; show _ < 1; omega)]
    exact View.read_writes_cons_unit_of_mem v f inb_S1024x128_S1024x1_0_0 _ _ y (ix2 (y 0) 0) rfl (Fin.forall_fin_two.mpr ⟨by simp, by simp [e0]⟩)
  by_cases e1 : (y 1).val = 1
  · simp only [if_pos e1, if_neg e0]
    rw [View.read_writes_cons_unit_of_not_mem v f inb_S1024x128_S1024x1_0_3 _ _ y rfl (1 : Fin 2) (by left; show _ < 3; omega)]
    rw [View.read_writes_cons_unit_of_not_mem v f inb_S1024x128_S1024x1_0_2 _ _ y rfl (1 : Fin 2) (by left; show _ < 2; omega)]
    exact View.read_writes_cons_unit_of_mem v f inb_S1024x128_S1024x1_0_1 _ _ y (ix2 (y 0) 0) rfl (Fin.forall_fin_two.mpr ⟨by simp, by simp [e1]⟩)
  by_cases e2 : (y 1).val = 2
  · simp only [if_pos e2, if_neg e0, if_neg e1]
    rw [View.read_writes_cons_unit_of_not_mem v f inb_S1024x128_S1024x1_0_3 _ _ y rfl (1 : Fin 2) (by left; show _ < 3; omega)]
    exact View.read_writes_cons_unit_of_mem v f inb_S1024x128_S1024x1_0_2 _ _ y (ix2 (y 0) 0) rfl (Fin.forall_fin_two.mpr ⟨by simp, by simp [e2]⟩)
  by_cases e3 : (y 1).val = 3
  · simp only [if_pos e3, if_neg e0, if_neg e1, if_neg e2]
    exact View.read_writes_cons_unit_of_mem v f inb_S1024x128_S1024x1_0_3 _ _ y (ix2 (y 0) 0) rfl (Fin.forall_fin_two.mpr ⟨by simp, by simp [e3]⟩)
  simp only [if_neg e0, if_neg e1, if_neg e2, if_neg e3]
  rw [View.read_writes_cons_unit_of_not_mem v f inb_S1024x128_S1024x1_0_3 _ _ y rfl (1 : Fin 2) (by first | (left; show _ < 3; omega) | (right; show 3 + 1 ≤ _; omega))]
  rw [View.read_writes_cons_unit_of_not_mem v f inb_S1024x128_S1024x1_0_2 _ _ y rfl (1 : Fin 2) (by first | (left; show _ < 2; omega) | (right; show 2 + 1 ≤ _; omega))]
  rw [View.read_writes_cons_unit_of_not_mem v f inb_S1024x128_S1024x1_0_1 _ _ y rfl (1 : Fin 2) (by first | (left; show _ < 1; omega) | (right; show 1 + 1 ≤ _; omega))]
  rw [View.read_writes_cons_unit_of_not_mem v f inb_S1024x128_S1024x1_0_0 _ _ y rfl (1 : Fin 2) (by first | (left; show _ < 0; omega) | (right; show 0 + 1 ≤ _; omega))]
  rw [h]

theorem rows_read (v : View sig .tc sp S8x128 .f32) (f : v.ty.Contents (Elt F)) (L : List (View.Piece (Elt F) S8x128 .f32)) (xs : Vec F S8x128 .f32)
    (h : v.read (Elt F) (v.writes (Elt F) f L) = xs) (w0 w1 w2 w3 : Vec F S1x128 .f32) :
    v.read (Elt F) (v.writes (Elt F) f (
      (⟨Rect.unit ![3, 0] ![1, 128] inb_S8x128_S1x128_3_0, w3⟩ : View.Piece (Elt F) S8x128 .f32) :: ⟨Rect.unit ![2, 0] ![1, 128] inb_S8x128_S1x128_2_0, w2⟩ ::
      ⟨Rect.unit ![1, 0] ![1, 128] inb_S8x128_S1x128_1_0, w1⟩ :: ⟨Rect.unit ![0, 0] ![1, 128] inb_S8x128_S1x128_0_0, w0⟩ :: L)) = rowsOut xs w0 w1 w2 w3 := by
  funext y
  unfold rowsOut
  have h0 := (y 0).isLt
  have h1 := (y 1).isLt
  by_cases e0 : (y 0).val = 0
  · simp only [if_pos e0]
    rw [View.read_writes_cons_unit_of_not_mem v f inb_S8x128_S1x128_3_0 _ _ y rfl (0 : Fin 2) (by left; show _ < 3; omega)]
    rw [View.read_writes_cons_unit_of_not_mem v f inb_S8x128_S1x128_2_0 _ _ y rfl (0 : Fin 2) (by left; show _ < 2; omega)]
    rw [View.read_writes_cons_unit_of_not_mem v f inb_S8x128_S1x128_1_0 _ _ y rfl (0 : Fin 2) (by left; show _ < 1; omega)]
    exact View.read_writes_cons_unit_of_mem v f inb_S8x128_S1x128_0_0 _ _ y (ix2 0 (y 1)) rfl (Fin.forall_fin_two.mpr ⟨by simp [e0], by simp⟩)
  by_cases e1 : (y 0).val = 1
  · simp only [if_pos e1, if_neg e0]
    rw [View.read_writes_cons_unit_of_not_mem v f inb_S8x128_S1x128_3_0 _ _ y rfl (0 : Fin 2) (by left; show _ < 3; omega)]
    rw [View.read_writes_cons_unit_of_not_mem v f inb_S8x128_S1x128_2_0 _ _ y rfl (0 : Fin 2) (by left; show _ < 2; omega)]
    exact View.read_writes_cons_unit_of_mem v f inb_S8x128_S1x128_1_0 _ _ y (ix2 0 (y 1)) rfl (Fin.forall_fin_two.mpr ⟨by simp [e1], by simp⟩)
  by_cases e2 : (y 0).val = 2
  · simp only [if_pos e2, if_neg e0, if_neg e1]
    rw [View.read_writes_cons_unit_of_not_mem v f inb_S8x128_S1x128_3_0 _ _ y rfl (0 : Fin 2) (by left; show _ < 3; omega)]
    exact View.read_writes_cons_unit_of_mem v f inb_S8x128_S1x128_2_0 _ _ y (ix2 0 (y 1)) rfl (Fin.forall_fin_two.mpr ⟨by simp [e2], by simp⟩)
  by_cases e3 : (y 0).val = 3
  · simp only [if_pos e3, if_neg e0, if_neg e1, if_neg e2]
    exact View.read_writes_cons_unit_of_mem v f inb_S8x128_S1x128_3_0 _ _ y (ix2 0 (y 1)) rfl (Fin.forall_fin_two.mpr ⟨by simp [e3], by simp⟩)
  simp only [if_neg e0, if_neg e1, if_neg e2, if_neg e3]
  rw [View.read_writes_cons_unit_of_not_mem v f inb_S8x128_S1x128_3_0 _ _ y rfl (0 : Fin 2) (by first | (left; show _ < 3; omega) | (right; show 3 + 1 ≤ _; omega))]
  rw [View.read_writes_cons_unit_of_not_mem v f inb_S8x128_S1x128_2_0 _ _ y rfl (0 : Fin 2) (by first | (left; show _ < 2; omega) | (right; show 2 + 1 ≤ _; omega))]
  rw [View.read_writes_cons_unit_of_not_mem v f inb_S8x128_S1x128_1_0 _ _ y rfl (0 : Fin 2) (by first | (left; show _ < 1; omega) | (right; show 1 + 1 ≤ _; omega))]
  rw [View.read_writes_cons_unit_of_not_mem v f inb_S8x128_S1x128_0_0 _ _ y rfl (0 : Fin 2) (by first | (left; show _ < 0; omega) | (right; show 0 + 1 ≤ _; omega))]
  rw [h]

/-- Loads of the first four columns off four column stores. -/
theorem cols_cov (v : View sig .tc sp S1024x128 .f32) (xs : Vec F S1024x128 .f32) (w0 w1 w2 w3 : Vec F S1024x1 .f32) :
    v.readCov [(⟨Rect.unit ![0, 3] ![1024, 1] inb_S1024x128_S1024x1_0_3, w3⟩ : View.Piece (Elt F) S1024x128 .f32),
      ⟨Rect.unit ![0, 2] ![1024, 1] inb_S1024x128_S1024x1_0_2, w2⟩, ⟨Rect.unit ![0, 1] ![1024, 1] inb_S1024x128_S1024x1_0_1, w1⟩,
      ⟨Rect.unit ![0, 0] ![1024, 1] inb_S1024x128_S1024x1_0_0, w0⟩] (Rect.unit ![0, 0] ![1024, 4] inb_S1024x128_S1024x4_0_0).toLoadRect
      = View.ld (colsOut xs w0 w1 w2 w3) (Rect.unit ![0, 0] ![1024, 4] inb_S1024x128_S1024x4_0_0) := by
  unfold View.readCov
  funext j
  rw [View.readAt_apply, cols_read v v.junk [] _ rfl, View.ld_apply]
  have hj : (((Rect.unit ![0, 0] ![1024, 4] inb_S1024x128_S1024x4_0_0 : Rect S1024x128).idx j) 1).val < 4 := by
    rw [Rect.idx_unit_val]
    have : (j 1).val < 4 := (j 1).isLt
    simpa using this
  show colsOut _ _ _ _ _ ((Rect.unit ![0, 0] ![1024, 4] inb_S1024x128_S1024x4_0_0 : Rect S1024x128).idx j) = _
  generalize (Rect.unit ![0, 0] ![1024, 4] inb_S1024x128_S1024x4_0_0 : Rect S1024x128).idx j = y at hj ⊢
  unfold colsOut
  split_ifs <;> first | rfl | omega

/-- Loads of the first four rows' first entries off four row stores. -/
theorem rows_cov (v : View sig .tc sp S8x128 .f32) (xs : Vec F S8x128 .f32) (w0 w1 w2 w3 : Vec F S1x128 .f32) :
    v.readCov [(⟨Rect.unit ![3, 0] ![1, 128] inb_S8x128_S1x128_3_0, w3⟩ : View.Piece (Elt F) S8x128 .f32),
      ⟨Rect.unit ![2, 0] ![1, 128] inb_S8x128_S1x128_2_0, w2⟩, ⟨Rect.unit ![1, 0] ![1, 128] inb_S8x128_S1x128_1_0, w1⟩,
      ⟨Rect.unit ![0, 0] ![1, 128] inb_S8x128_S1x128_0_0, w0⟩] (Rect.unit ![0, 0] ![4, 1] inb_S8x128_S4x1_0_0).toLoadRect
      = View.ld (rowsOut xs w0 w1 w2 w3) (Rect.unit ![0, 0] ![4, 1] inb_S8x128_S4x1_0_0) := by
  unfold View.readCov
  funext j
  rw [View.readAt_apply, rows_read v v.junk [] _ rfl, View.ld_apply]
  have hj : (((Rect.unit ![0, 0] ![4, 1] inb_S8x128_S4x1_0_0 : Rect S8x128).idx j) 0).val < 4 := by
    rw [Rect.idx_unit_val]
    have : (j 0).val < 4 := (j 0).isLt
    simpa using this
  show rowsOut _ _ _ _ _ ((Rect.unit ![0, 0] ![4, 1] inb_S8x128_S4x1_0_0 : Rect S8x128).idx j) = _
  generalize (Rect.unit ![0, 0] ![4, 1] inb_S8x128_S4x1_0_0 : Rect S8x128).idx j = y at hj ⊢
  unfold rowsOut
  split_ifs <;> first | rfl | omega

/-- Where every store of a list carries the entries of `D` at its places, an index under one of them reads `D`. -/
theorem read_of_pieces {s : Shape} {e : EltTy} (v : View sig .tc sp s e) (f : v.ty.Contents (Elt F)) (D : Vec F s e) (y : s.Idx) :
    ∀ L : List (View.Piece (Elt F) s e), (∀ p ∈ L, ∀ x, p.2 x = D (p.1.emb x)) → (∃ p ∈ L, y ∈ p.1.set) →
      v.read (Elt F) (v.writes (Elt F) f L) y = D y
  | [], _, h => by simp at h
  | p :: L, hL, h => by
    by_cases hy : y ∈ p.1.set
    · obtain ⟨r, w⟩ := p
      obtain ⟨x, rfl⟩ : ∃ x, r.emb x = y := r.exists_idx_of_mem hy
      rw [View.read_writes_cons_emb]
      exact hL _ List.mem_cons_self x
    · have hy' : y ∉ Finset.univ.map p.1.emb := by rwa [Rect.map_emb_univ]
      rw [View.writes_cons, View.read_slice_write_of_not_mem p.1 _ _ _ hy']
      refine read_of_pieces v f D y L (fun q hq => hL q (List.mem_cons_of_mem _ hq)) ?_
      obtain ⟨q, hq, hyq⟩ := h
      rcases List.mem_cons.mp hq with rfl | hq
      · exact absurd hyq hy
      · exact ⟨q, hq, hyq⟩

/-- One store through a rectangle of the whole shape leaves its payload. -/
theorem whole_read {s : Shape} {e : EltTy} (v : View sig .tc sp s e) (f : v.ty.Contents (Elt F)) (off : Fin s.rank → ℕ) (inb : ∀ a, off a + s.size a ≤ s.size a) (w : Vec F s e) (L : List (View.Piece (Elt F) s e)) :
    v.read (Elt F) (v.writes (Elt F) f ((⟨Rect.unit off s.size inb, w⟩ : View.Piece (Elt F) s e) :: L)) = w := by
  funext y
  exact View.read_writes_cons_unit_of_mem v f inb w L y y rfl fun a => by have := inb a; omega

end Read

/-! ## The split codebooks -/

/-- Codebook `q` of the four. -/
def slab (x1 : Vec F S4x1024x128 .f32) (q : Fin 4) : Vec F S1x1024x128 .f32 := fun j => x1 (ix3 q (j 1) (j 2))

/-- The scratch the first point fills: each codebook's high part, middle part and low part. -/
def dec (x1 : Vec F S4x1024x128 .f32) : Vec F S3x4x1024x128 .bf16 := fun y =>
  if (y 0).val = 0 then k0_pay9 (slab x1 (y 1)) (ix4 0 0 (y 2) (y 3))
  else if (y 0).val = 1 then k0_pay10 (slab x1 (y 1)) (ix4 0 0 (y 2) (y 3))
  else k0_pay11 (slab x1 (y 1)) (ix4 0 0 (y 2) (y 3))

theorem ld_slab0 (x1 : Vec F S4x1024x128 .f32) :
    View.ld x1 (Rect.unit ![0, 0, 0] ![1, 1024, 128] inb_S4x1024x128_S1x1024x128_0_0_0) = slab x1 0 := by
  funext j
  refine View.ld_unit_apply_of _ _ _ _ j _ fun a => ?_
  have h0 : (j 0).val < 1 := (j 0).isLt
  fin_cases a
  · show 0 = 0 + (j 0).val; omega
  · show (j 1).val = 0 + (j 1).val; omega
  · show (j 2).val = 0 + (j 2).val; omega
theorem ld_slab1 (x1 : Vec F S4x1024x128 .f32) :
    View.ld x1 (Rect.unit ![1, 0, 0] ![1, 1024, 128] inb_S4x1024x128_S1x1024x128_1_0_0) = slab x1 1 := by
  funext j
  refine View.ld_unit_apply_of _ _ _ _ j _ fun a => ?_
  have h0 : (j 0).val < 1 := (j 0).isLt
  fin_cases a
  · show 1 = 1 + (j 0).val; omega
  · show (j 1).val = 0 + (j 1).val; omega
  · show (j 2).val = 0 + (j 2).val; omega
theorem ld_slab2 (x1 : Vec F S4x1024x128 .f32) :
    View.ld x1 (Rect.unit ![2, 0, 0] ![1, 1024, 128] inb_S4x1024x128_S1x1024x128_2_0_0) = slab x1 2 := by
  funext j
  refine View.ld_unit_apply_of _ _ _ _ j _ fun a => ?_
  have h0 : (j 0).val < 1 := (j 0).isLt
  fin_cases a
  · show 2 = 2 + (j 0).val; omega
  · show (j 1).val = 0 + (j 1).val; omega
  · show (j 2).val = 0 + (j 2).val; omega
theorem ld_slab3 (x1 : Vec F S4x1024x128 .f32) :
    View.ld x1 (Rect.unit ![3, 0, 0] ![1, 1024, 128] inb_S4x1024x128_S1x1024x128_3_0_0) = slab x1 3 := by
  funext j
  refine View.ld_unit_apply_of _ _ _ _ j _ fun a => ?_
  have h0 : (j 0).val < 1 := (j 0).isLt
  fin_cases a
  · show 3 = 3 + (j 0).val; omega
  · show (j 1).val = 0 + (j 1).val; omega
  · show (j 2).val = 0 + (j 2).val; omega

theorem ld_dec00 (x1 : Vec F S4x1024x128 .f32) :
    View.ld (dec x1) (Rect.unit ![0, 0, 0, 0] ![1, 1, 1024, 128] inb_S3x4x1024x128_S1x1x1024x128_0_0_0_0) = k0_pay9 (slab x1 0) := by
  funext j
  have h0 : (j 0).val < 1 := (j 0).isLt
  have h1 : (j 1).val < 1 := (j 1).isLt
  refine (View.ld_unit_apply_of _ _ _ _ j (ix4 0 0 (j 2) (j 3)) fun a => ?_).trans ?_
  · fin_cases a
    · show 0 = 0 + (j 0).val; omega
    · show 0 = 0 + (j 1).val; omega
    · show (j 2).val = 0 + (j 2).val; omega
    · show (j 3).val = 0 + (j 3).val; omega
  · show k0_pay9 (slab x1 0) (ix4 0 0 (j 2) (j 3)) = _
    congr 1
    funext a
    fin_cases a
    · exact Fin.ext (show 0 = (j 0).val by omega)
    · exact Fin.ext (show 0 = (j 1).val by omega)
    · rfl
    · rfl
theorem ld_dec01 (x1 : Vec F S4x1024x128 .f32) :
    View.ld (dec x1) (Rect.unit ![0, 1, 0, 0] ![1, 1, 1024, 128] inb_S3x4x1024x128_S1x1x1024x128_0_1_0_0) = k0_pay9 (slab x1 1) := by
  funext j
  have h0 : (j 0).val < 1 := (j 0).isLt
  have h1 : (j 1).val < 1 := (j 1).isLt
  refine (View.ld_unit_apply_of _ _ _ _ j (ix4 0 1 (j 2) (j 3)) fun a => ?_).trans ?_
  · fin_cases a
    · show 0 = 0 + (j 0).val; omega
    · show 1 = 1 + (j 1).val; omega
    · show (j 2).val = 0 + (j 2).val; omega
    · show (j 3).val = 0 + (j 3).val; omega
  · show k0_pay9 (slab x1 1) (ix4 0 0 (j 2) (j 3)) = _
    congr 1
    funext a
    fin_cases a
    · exact Fin.ext (show 0 = (j 0).val by omega)
    · exact Fin.ext (show 0 = (j 1).val by omega)
    · rfl
    · rfl
theorem ld_dec02 (x1 : Vec F S4x1024x128 .f32) :
    View.ld (dec x1) (Rect.unit ![0, 2, 0, 0] ![1, 1, 1024, 128] inb_S3x4x1024x128_S1x1x1024x128_0_2_0_0) = k0_pay9 (slab x1 2) := by
  funext j
  have h0 : (j 0).val < 1 := (j 0).isLt
  have h1 : (j 1).val < 1 := (j 1).isLt
  refine (View.ld_unit_apply_of _ _ _ _ j (ix4 0 2 (j 2) (j 3)) fun a => ?_).trans ?_
  · fin_cases a
    · show 0 = 0 + (j 0).val; omega
    · show 2 = 2 + (j 1).val; omega
    · show (j 2).val = 0 + (j 2).val; omega
    · show (j 3).val = 0 + (j 3).val; omega
  · show k0_pay9 (slab x1 2) (ix4 0 0 (j 2) (j 3)) = _
    congr 1
    funext a
    fin_cases a
    · exact Fin.ext (show 0 = (j 0).val by omega)
    · exact Fin.ext (show 0 = (j 1).val by omega)
    · rfl
    · rfl
theorem ld_dec03 (x1 : Vec F S4x1024x128 .f32) :
    View.ld (dec x1) (Rect.unit ![0, 3, 0, 0] ![1, 1, 1024, 128] inb_S3x4x1024x128_S1x1x1024x128_0_3_0_0) = k0_pay9 (slab x1 3) := by
  funext j
  have h0 : (j 0).val < 1 := (j 0).isLt
  have h1 : (j 1).val < 1 := (j 1).isLt
  refine (View.ld_unit_apply_of _ _ _ _ j (ix4 0 3 (j 2) (j 3)) fun a => ?_).trans ?_
  · fin_cases a
    · show 0 = 0 + (j 0).val; omega
    · show 3 = 3 + (j 1).val; omega
    · show (j 2).val = 0 + (j 2).val; omega
    · show (j 3).val = 0 + (j 3).val; omega
  · show k0_pay9 (slab x1 3) (ix4 0 0 (j 2) (j 3)) = _
    congr 1
    funext a
    fin_cases a
    · exact Fin.ext (show 0 = (j 0).val by omega)
    · exact Fin.ext (show 0 = (j 1).val by omega)
    · rfl
    · rfl
theorem ld_dec10 (x1 : Vec F S4x1024x128 .f32) :
    View.ld (dec x1) (Rect.unit ![1, 0, 0, 0] ![1, 1, 1024, 128] inb_S3x4x1024x128_S1x1x1024x128_1_0_0_0) = k0_pay10 (slab x1 0) := by
  funext j
  have h0 : (j 0).val < 1 := (j 0).isLt
  have h1 : (j 1).val < 1 := (j 1).isLt
  refine (View.ld_unit_apply_of _ _ _ _ j (ix4 1 0 (j 2) (j 3)) fun a => ?_).trans ?_
  · fin_cases a
    · show 1 = 1 + (j 0).val; omega
    · show 0 = 0 + (j 1).val; omega
    · show (j 2).val = 0 + (j 2).val; omega
    · show (j 3).val = 0 + (j 3).val; omega
  · show k0_pay10 (slab x1 0) (ix4 0 0 (j 2) (j 3)) = _
    congr 1
    funext a
    fin_cases a
    · exact Fin.ext (show 0 = (j 0).val by omega)
    · exact Fin.ext (show 0 = (j 1).val by omega)
    · rfl
    · rfl
theorem ld_dec11 (x1 : Vec F S4x1024x128 .f32) :
    View.ld (dec x1) (Rect.unit ![1, 1, 0, 0] ![1, 1, 1024, 128] inb_S3x4x1024x128_S1x1x1024x128_1_1_0_0) = k0_pay10 (slab x1 1) := by
  funext j
  have h0 : (j 0).val < 1 := (j 0).isLt
  have h1 : (j 1).val < 1 := (j 1).isLt
  refine (View.ld_unit_apply_of _ _ _ _ j (ix4 1 1 (j 2) (j 3)) fun a => ?_).trans ?_
  · fin_cases a
    · show 1 = 1 + (j 0).val; omega
    · show 1 = 1 + (j 1).val; omega
    · show (j 2).val = 0 + (j 2).val; omega
    · show (j 3).val = 0 + (j 3).val; omega
  · show k0_pay10 (slab x1 1) (ix4 0 0 (j 2) (j 3)) = _
    congr 1
    funext a
    fin_cases a
    · exact Fin.ext (show 0 = (j 0).val by omega)
    · exact Fin.ext (show 0 = (j 1).val by omega)
    · rfl
    · rfl
theorem ld_dec12 (x1 : Vec F S4x1024x128 .f32) :
    View.ld (dec x1) (Rect.unit ![1, 2, 0, 0] ![1, 1, 1024, 128] inb_S3x4x1024x128_S1x1x1024x128_1_2_0_0) = k0_pay10 (slab x1 2) := by
  funext j
  have h0 : (j 0).val < 1 := (j 0).isLt
  have h1 : (j 1).val < 1 := (j 1).isLt
  refine (View.ld_unit_apply_of _ _ _ _ j (ix4 1 2 (j 2) (j 3)) fun a => ?_).trans ?_
  · fin_cases a
    · show 1 = 1 + (j 0).val; omega
    · show 2 = 2 + (j 1).val; omega
    · show (j 2).val = 0 + (j 2).val; omega
    · show (j 3).val = 0 + (j 3).val; omega
  · show k0_pay10 (slab x1 2) (ix4 0 0 (j 2) (j 3)) = _
    congr 1
    funext a
    fin_cases a
    · exact Fin.ext (show 0 = (j 0).val by omega)
    · exact Fin.ext (show 0 = (j 1).val by omega)
    · rfl
    · rfl
theorem ld_dec13 (x1 : Vec F S4x1024x128 .f32) :
    View.ld (dec x1) (Rect.unit ![1, 3, 0, 0] ![1, 1, 1024, 128] inb_S3x4x1024x128_S1x1x1024x128_1_3_0_0) = k0_pay10 (slab x1 3) := by
  funext j
  have h0 : (j 0).val < 1 := (j 0).isLt
  have h1 : (j 1).val < 1 := (j 1).isLt
  refine (View.ld_unit_apply_of _ _ _ _ j (ix4 1 3 (j 2) (j 3)) fun a => ?_).trans ?_
  · fin_cases a
    · show 1 = 1 + (j 0).val; omega
    · show 3 = 3 + (j 1).val; omega
    · show (j 2).val = 0 + (j 2).val; omega
    · show (j 3).val = 0 + (j 3).val; omega
  · show k0_pay10 (slab x1 3) (ix4 0 0 (j 2) (j 3)) = _
    congr 1
    funext a
    fin_cases a
    · exact Fin.ext (show 0 = (j 0).val by omega)
    · exact Fin.ext (show 0 = (j 1).val by omega)
    · rfl
    · rfl
theorem ld_dec20 (x1 : Vec F S4x1024x128 .f32) :
    View.ld (dec x1) (Rect.unit ![2, 0, 0, 0] ![1, 1, 1024, 128] inb_S3x4x1024x128_S1x1x1024x128_2_0_0_0) = k0_pay11 (slab x1 0) := by
  funext j
  have h0 : (j 0).val < 1 := (j 0).isLt
  have h1 : (j 1).val < 1 := (j 1).isLt
  refine (View.ld_unit_apply_of _ _ _ _ j (ix4 2 0 (j 2) (j 3)) fun a => ?_).trans ?_
  · fin_cases a
    · show 2 = 2 + (j 0).val; omega
    · show 0 = 0 + (j 1).val; omega
    · show (j 2).val = 0 + (j 2).val; omega
    · show (j 3).val = 0 + (j 3).val; omega
  · show k0_pay11 (slab x1 0) (ix4 0 0 (j 2) (j 3)) = _
    congr 1
    funext a
    fin_cases a
    · exact Fin.ext (show 0 = (j 0).val by omega)
    · exact Fin.ext (show 0 = (j 1).val by omega)
    · rfl
    · rfl
theorem ld_dec21 (x1 : Vec F S4x1024x128 .f32) :
    View.ld (dec x1) (Rect.unit ![2, 1, 0, 0] ![1, 1, 1024, 128] inb_S3x4x1024x128_S1x1x1024x128_2_1_0_0) = k0_pay11 (slab x1 1) := by
  funext j
  have h0 : (j 0).val < 1 := (j 0).isLt
  have h1 : (j 1).val < 1 := (j 1).isLt
  refine (View.ld_unit_apply_of _ _ _ _ j (ix4 2 1 (j 2) (j 3)) fun a => ?_).trans ?_
  · fin_cases a
    · show 2 = 2 + (j 0).val; omega
    · show 1 = 1 + (j 1).val; omega
    · show (j 2).val = 0 + (j 2).val; omega
    · show (j 3).val = 0 + (j 3).val; omega
  · show k0_pay11 (slab x1 1) (ix4 0 0 (j 2) (j 3)) = _
    congr 1
    funext a
    fin_cases a
    · exact Fin.ext (show 0 = (j 0).val by omega)
    · exact Fin.ext (show 0 = (j 1).val by omega)
    · rfl
    · rfl
theorem ld_dec22 (x1 : Vec F S4x1024x128 .f32) :
    View.ld (dec x1) (Rect.unit ![2, 2, 0, 0] ![1, 1, 1024, 128] inb_S3x4x1024x128_S1x1x1024x128_2_2_0_0) = k0_pay11 (slab x1 2) := by
  funext j
  have h0 : (j 0).val < 1 := (j 0).isLt
  have h1 : (j 1).val < 1 := (j 1).isLt
  refine (View.ld_unit_apply_of _ _ _ _ j (ix4 2 2 (j 2) (j 3)) fun a => ?_).trans ?_
  · fin_cases a
    · show 2 = 2 + (j 0).val; omega
    · show 2 = 2 + (j 1).val; omega
    · show (j 2).val = 0 + (j 2).val; omega
    · show (j 3).val = 0 + (j 3).val; omega
  · show k0_pay11 (slab x1 2) (ix4 0 0 (j 2) (j 3)) = _
    congr 1
    funext a
    fin_cases a
    · exact Fin.ext (show 0 = (j 0).val by omega)
    · exact Fin.ext (show 0 = (j 1).val by omega)
    · rfl
    · rfl
theorem ld_dec23 (x1 : Vec F S4x1024x128 .f32) :
    View.ld (dec x1) (Rect.unit ![2, 3, 0, 0] ![1, 1, 1024, 128] inb_S3x4x1024x128_S1x1x1024x128_2_3_0_0) = k0_pay11 (slab x1 3) := by
  funext j
  have h0 : (j 0).val < 1 := (j 0).isLt
  have h1 : (j 1).val < 1 := (j 1).isLt
  refine (View.ld_unit_apply_of _ _ _ _ j (ix4 2 3 (j 2) (j 3)) fun a => ?_).trans ?_
  · fin_cases a
    · show 2 = 2 + (j 0).val; omega
    · show 3 = 3 + (j 1).val; omega
    · show (j 2).val = 0 + (j 2).val; omega
    · show (j 3).val = 0 + (j 3).val; omega
  · show k0_pay11 (slab x1 3) (ix4 0 0 (j 2) (j 3)) = _
    congr 1
    funext a
    fin_cases a
    · exact Fin.ext (show 0 = (j 0).val by omega)
    · exact Fin.ext (show 0 = (j 1).val by omega)
    · rfl
    · rfl

/-- The twelve stores of the first point leave `dec`. -/
theorem dec_read {sp : Space} (v : View sig .tc sp S3x4x1024x128 .bf16) (f : v.ty.Contents (Elt F)) (x1 : Vec F S4x1024x128 .f32) :
    v.read (Elt F) (v.writes (Elt F) f [(⟨Rect.unit ![2, 3, 0, 0] ![1, 1, 1024, 128] inb_S3x4x1024x128_S1x1x1024x128_2_3_0_0, k0_pay11 (slab x1 3)⟩ : View.Piece (Elt F) S3x4x1024x128 .bf16), ⟨Rect.unit ![1, 3, 0, 0] ![1, 1, 1024, 128] inb_S3x4x1024x128_S1x1x1024x128_1_3_0_0, k0_pay10 (slab x1 3)⟩, ⟨Rect.unit ![0, 3, 0, 0] ![1, 1, 1024, 128] inb_S3x4x1024x128_S1x1x1024x128_0_3_0_0, k0_pay9 (slab x1 3)⟩, ⟨Rect.unit ![2, 2, 0, 0] ![1, 1, 1024, 128] inb_S3x4x1024x128_S1x1x1024x128_2_2_0_0, k0_pay11 (slab x1 2)⟩, ⟨Rect.unit ![1, 2, 0, 0] ![1, 1, 1024, 128] inb_S3x4x1024x128_S1x1x1024x128_1_2_0_0, k0_pay10 (slab x1 2)⟩, ⟨Rect.unit ![0, 2, 0, 0] ![1, 1, 1024, 128] inb_S3x4x1024x128_S1x1x1024x128_0_2_0_0, k0_pay9 (slab x1 2)⟩, ⟨Rect.unit ![2, 1, 0, 0] ![1, 1, 1024, 128] inb_S3x4x1024x128_S1x1x1024x128_2_1_0_0, k0_pay11 (slab x1 1)⟩, ⟨Rect.unit ![1, 1, 0, 0] ![1, 1, 1024, 128] inb_S3x4x1024x128_S1x1x1024x128_1_1_0_0, k0_pay10 (slab x1 1)⟩, ⟨Rect.unit ![0, 1, 0, 0] ![1, 1, 1024, 128] inb_S3x4x1024x128_S1x1x1024x128_0_1_0_0, k0_pay9 (slab x1 1)⟩, ⟨Rect.unit ![2, 0, 0, 0] ![1, 1, 1024, 128] inb_S3x4x1024x128_S1x1x1024x128_2_0_0_0, k0_pay11 (slab x1 0)⟩, ⟨Rect.unit ![1, 0, 0, 0] ![1, 1, 1024, 128] inb_S3x4x1024x128_S1x1x1024x128_1_0_0_0, k0_pay10 (slab x1 0)⟩, ⟨Rect.unit ![0, 0, 0, 0] ![1, 1, 1024, 128] inb_S3x4x1024x128_S1x1x1024x128_0_0_0_0, k0_pay9 (slab x1 0)⟩]) = dec x1 := by
  funext y
  refine read_of_pieces v f (dec x1) y _ ?_ ?_
  · simp only [List.forall_mem_cons]
    exact ⟨fun x => (congrFun (ld_dec23 x1) x).symm, fun x => (congrFun (ld_dec13 x1) x).symm, fun x => (congrFun (ld_dec03 x1) x).symm, fun x => (congrFun (ld_dec22 x1) x).symm, fun x => (congrFun (ld_dec12 x1) x).symm, fun x => (congrFun (ld_dec02 x1) x).symm, fun x => (congrFun (ld_dec21 x1) x).symm, fun x => (congrFun (ld_dec11 x1) x).symm, fun x => (congrFun (ld_dec01 x1) x).symm, fun x => (congrFun (ld_dec20 x1) x).symm, fun x => (congrFun (ld_dec10 x1) x).symm, fun x => (congrFun (ld_dec00 x1) x).symm, fun _ h => absurd h List.not_mem_nil⟩
  · have h0 : (y 0).val < 3 := (y 0).isLt
    have h1 : (y 1).val < 4 := (y 1).isLt
    have h2 : (y 2).val < 1024 := (y 2).isLt
    have h3 : (y 3).val < 128 := (y 3).isLt
    simp only [List.exists_mem_cons_iff, Rect.mem_set_unit, Fin.forall_fin_succ, Fin.forall_fin_zero_pi]
    simp
    omega

/-! ## The three cases -/

set_option maxHeartbeats 1000000 in
theorem runB_zq (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : ¬cond0_0 i) (hc1 : ¬cond0_1 i)
    (x0 : Vec F S1x128x2048 .f32) (x1 : Vec F S4x1024x128 .f32) (x2 : Vec F S1024x128 .f32) (xs0 : Vec F S1024x128 .f32) (xs1 : Vec F S8x128 .f32) (xs2 : Vec F S3x4x1024x128 .bf16) (f : arg5.view.ty.Contents (Elt F)) :
    arg5.view.read (Elt F) (arg5.view.writes (Elt F) f (runB c i arg2 harg2 arg3 harg3 arg4 harg4 arg5 harg5 arg6 harg6 arg7 harg7 arg8 harg8 arg9 harg9 hc0 hc1 x0 x1 x2 xs0 xs1 xs2).1) = outBlk x0 x2 xs2 := by
  frame_open
  simp (disch := decide) only [↓ View.readCov_skip, ↓ View.readCov_cons_toLoadRect, ↓ View.readCov_fill]
  frame_out
  exact (whole_read _ _ _ _ _ _).trans rfl

set_option maxHeartbeats 1000000 in
theorem runB_cnt (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : ¬cond0_0 i) (hc1 : ¬cond0_1 i)
    (x0 : Vec F S1x128x2048 .f32) (x1 : Vec F S4x1024x128 .f32) (x2 : Vec F S1024x128 .f32) (xs0 : Vec F S1024x128 .f32) (xs1 : Vec F S8x128 .f32) (xs2 : Vec F S3x4x1024x128 .bf16)  :
    arg7.view.read (Elt F) (arg7.view.writes (Elt F) (harg7.unread xs0) (runB c i arg2 harg2 arg3 harg3 arg4 harg4 arg5 harg5 arg6 harg6 arg7 harg7 arg8 harg8 arg9 harg9 hc0 hc1 x0 x1 x2 xs0 xs1 xs2).2.1) = cntOut x0 x2 xs0 xs2 := by
  frame_open
  simp (disch := decide) only [↓ View.readCov_skip, ↓ View.readCov_cons_toLoadRect, ↓ View.readCov_fill]
  frame_out
  exact (cols_read _ _ [] xs0 (harg7.read_unread xs0) _ _ _ _).trans rfl

set_option maxHeartbeats 1000000 in
theorem runB_sq (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : ¬cond0_0 i) (hc1 : ¬cond0_1 i)
    (x0 : Vec F S1x128x2048 .f32) (x1 : Vec F S4x1024x128 .f32) (x2 : Vec F S1024x128 .f32) (xs0 : Vec F S1024x128 .f32) (xs1 : Vec F S8x128 .f32) (xs2 : Vec F S3x4x1024x128 .bf16)  :
    arg8.view.read (Elt F) (arg8.view.writes (Elt F) (harg8.unread xs1) (runB c i arg2 harg2 arg3 harg3 arg4 harg4 arg5 harg5 arg6 harg6 arg7 harg7 arg8 harg8 arg9 harg9 hc0 hc1 x0 x1 x2 xs0 xs1 xs2).2.2.1) = sqOut x0 x2 xs1 xs2 := by
  frame_open
  simp (disch := decide) only [↓ View.readCov_skip, ↓ View.readCov_cons_toLoadRect, ↓ View.readCov_fill]
  frame_out
  exact (rows_read _ _ [] xs1 (harg8.read_unread xs1) _ _ _ _).trans rfl

set_option maxHeartbeats 1000000 in
theorem runC_zq (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : ¬cond0_0 i) (hc1 : cond0_1 i)
    (x0 : Vec F S1x128x2048 .f32) (x1 : Vec F S4x1024x128 .f32) (x2 : Vec F S1024x128 .f32) (xs0 : Vec F S1024x128 .f32) (xs1 : Vec F S8x128 .f32) (xs2 : Vec F S3x4x1024x128 .bf16) (f : arg5.view.ty.Contents (Elt F)) :
    arg5.view.read (Elt F) (arg5.view.writes (Elt F) f (runC c i arg2 harg2 arg3 harg3 arg4 harg4 arg5 harg5 arg6 harg6 arg7 harg7 arg8 harg8 arg9 harg9 hc0 hc1 x0 x1 x2 xs0 xs1 xs2).1) = outBlk x0 x2 xs2 := by
  frame_open
  simp (disch := decide) only [↓ View.readCov_skip, ↓ View.readCov_cons_toLoadRect, ↓ View.readCov_fill]
  frame_out
  exact (whole_read _ _ _ _ _ _).trans rfl

set_option maxHeartbeats 1000000 in
theorem runC_cnt (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : ¬cond0_0 i) (hc1 : cond0_1 i)
    (x0 : Vec F S1x128x2048 .f32) (x1 : Vec F S4x1024x128 .f32) (x2 : Vec F S1024x128 .f32) (xs0 : Vec F S1024x128 .f32) (xs1 : Vec F S8x128 .f32) (xs2 : Vec F S3x4x1024x128 .bf16)  :
    arg7.view.read (Elt F) (arg7.view.writes (Elt F) (harg7.unread xs0) (runC c i arg2 harg2 arg3 harg3 arg4 harg4 arg5 harg5 arg6 harg6 arg7 harg7 arg8 harg8 arg9 harg9 hc0 hc1 x0 x1 x2 xs0 xs1 xs2).2.2.1) = cntOut x0 x2 xs0 xs2 := by
  frame_open
  simp (disch := decide) only [↓ View.readCov_skip, ↓ View.readCov_cons_toLoadRect, ↓ View.readCov_fill]
  frame_out
  exact (cols_read _ _ [] xs0 (harg7.read_unread xs0) _ _ _ _).trans rfl

set_option maxHeartbeats 1000000 in
theorem runC_sq (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : ¬cond0_0 i) (hc1 : cond0_1 i)
    (x0 : Vec F S1x128x2048 .f32) (x1 : Vec F S4x1024x128 .f32) (x2 : Vec F S1024x128 .f32) (xs0 : Vec F S1024x128 .f32) (xs1 : Vec F S8x128 .f32) (xs2 : Vec F S3x4x1024x128 .bf16)  :
    arg8.view.read (Elt F) (arg8.view.writes (Elt F) (harg8.unread xs1) (runC c i arg2 harg2 arg3 harg3 arg4 harg4 arg5 harg5 arg6 harg6 arg7 harg7 arg8 harg8 arg9 harg9 hc0 hc1 x0 x1 x2 xs0 xs1 xs2).2.2.2.1) = sqOut x0 x2 xs1 xs2 := by
  frame_open
  simp (disch := decide) only [↓ View.readCov_skip, ↓ View.readCov_cons_toLoadRect, ↓ View.readCov_fill]
  frame_out
  exact (rows_read _ _ [] xs1 (harg8.read_unread xs1) _ _ _ _).trans rfl

set_option maxHeartbeats 1000000 in
theorem runC_perp (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : ¬cond0_0 i) (hc1 : cond0_1 i)
    (x0 : Vec F S1x128x2048 .f32) (x1 : Vec F S4x1024x128 .f32) (x2 : Vec F S1024x128 .f32) (xs0 : Vec F S1024x128 .f32) (xs1 : Vec F S8x128 .f32) (xs2 : Vec F S3x4x1024x128 .bf16) (f : arg6.view.ty.Contents (Elt F)) (j : Fin 4) :
    arg6.view.read (Elt F) (arg6.view.writes (Elt F) f (runC c i arg2 harg2 arg3 harg3 arg4 harg4 arg5 harg5 arg6 harg6 arg7 harg7 arg8 harg8 arg9 harg9 hc0 hc1 x0 x1 x2 xs0 xs1 xs2).2.1) (ix2 0 ⟨j.val, by omega⟩) = k0_pay1 (View.ld (cntOut x0 x2 xs0 xs2) (Rect.unit ![0, 0] ![1024, 4] inb_S1024x128_S1024x4_0_0)) (ix2 0 j) := by
  frame_open
  simp (disch := decide) only [↓ View.readCov_skip, ↓ View.readCov_cons_toLoadRect, ↓ View.readCov_fill]
  frame_out
  rw [cols_cov _ xs0]
  rw [View.read_writes_cons_unit_of_not_mem arg6.view f inb_S8x128_S1x1_1_0 _ _ _ rfl (0 : Fin 2) (by left; show 0 < 1; omega)]
  exact View.read_writes_cons_unit_of_mem arg6.view f inb_S8x128_S1x4_0_0 _ _ _ (ix2 0 j) rfl (Fin.forall_fin_two.mpr ⟨rfl, (Nat.zero_add _).symm⟩)

set_option maxHeartbeats 1000000 in
theorem runC_loss (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : ¬cond0_0 i) (hc1 : cond0_1 i)
    (x0 : Vec F S1x128x2048 .f32) (x1 : Vec F S4x1024x128 .f32) (x2 : Vec F S1024x128 .f32) (xs0 : Vec F S1024x128 .f32) (xs1 : Vec F S8x128 .f32) (xs2 : Vec F S3x4x1024x128 .bf16) (f : arg6.view.ty.Contents (Elt F)) :
    arg6.view.read (Elt F) (arg6.view.writes (Elt F) f (runC c i arg2 harg2 arg3 harg3 arg4 harg4 arg5 harg5 arg6 harg6 arg7 harg7 arg8 harg8 arg9 harg9 hc0 hc1 x0 x1 x2 xs0 xs1 xs2).2.1) (ix2 1 0) = k0_pay2 (View.ld (sqOut x0 x2 xs1 xs2) (Rect.unit ![0, 0] ![4, 1] inb_S8x128_S4x1_0_0)) (ix2 0 0) := by
  frame_open
  simp (disch := decide) only [↓ View.readCov_skip, ↓ View.readCov_cons_toLoadRect, ↓ View.readCov_fill]
  frame_out
  rw [rows_cov _ xs1]
  exact View.read_writes_cons_unit_of_mem arg6.view f inb_S8x128_S1x1_1_0 _ _ _ (ix2 0 0) rfl (Fin.forall_fin_two.mpr ⟨rfl, rfl⟩)

set_option maxHeartbeats 1000000 in
theorem runA_dec (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : cond0_0 i) (hc1 : ¬cond0_1 i)
    (x0 : Vec F S1x128x2048 .f32) (x1 : Vec F S4x1024x128 .f32) (x2 : Vec F S1024x128 .f32) (f : arg9.view.ty.Contents (Elt F)) :
    arg9.view.read (Elt F) (arg9.view.writes (Elt F) f (runA c i arg2 harg2 arg3 harg3 arg4 harg4 arg5 harg5 arg6 harg6 arg7 harg7 arg8 harg8 arg9 harg9 hc0 hc1 x0 x1 x2).2.2.2.1) = dec x1 := by
  frame_open
  simp (disch := decide) only [↓ View.readCov_skip, ↓ View.readCov_cons_toLoadRect, ↓ View.readCov_fill]
  frame_out
  rw [ld_slab0, ld_slab1, ld_slab2, ld_slab3]
  exact (dec_read _ _ x1)

set_option maxHeartbeats 1000000 in
theorem runA_zq (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : cond0_0 i) (hc1 : ¬cond0_1 i)
    (x0 : Vec F S1x128x2048 .f32) (x1 : Vec F S4x1024x128 .f32) (x2 : Vec F S1024x128 .f32) (f : arg5.view.ty.Contents (Elt F)) :
    arg5.view.read (Elt F) (arg5.view.writes (Elt F) f (runA c i arg2 harg2 arg3 harg3 arg4 harg4 arg5 harg5 arg6 harg6 arg7 harg7 arg8 harg8 arg9 harg9 hc0 hc1 x0 x1 x2).1) = outBlk x0 x2 (dec x1) := by
  frame_open
  simp (disch := decide) only [↓ View.readCov_skip, ↓ View.readCov_cons_toLoadRect, ↓ View.readCov_fill]
  frame_out
  simp only [outBlk, cntOut, sqOut, acc4, acc3, acc2, acc1, res3, res2, res1, dif3, dif2, dif1, dif0, oh3, oh2, oh1, oh0]
  rw [ld_slab0, ld_slab1, ld_slab2, ld_slab3, ld_dec00, ld_dec01, ld_dec02, ld_dec03, ld_dec10, ld_dec11, ld_dec12, ld_dec13, ld_dec20, ld_dec21, ld_dec22, ld_dec23]
  exact (whole_read _ _ _ _ _ _).trans rfl

set_option maxHeartbeats 1000000 in
theorem runA_cnt (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : cond0_0 i) (hc1 : ¬cond0_1 i)
    (x0 : Vec F S1x128x2048 .f32) (x1 : Vec F S4x1024x128 .f32) (x2 : Vec F S1024x128 .f32) (f : arg7.view.ty.Contents (Elt F)) :
    arg7.view.read (Elt F) (arg7.view.writes (Elt F) f (runA c i arg2 harg2 arg3 harg3 arg4 harg4 arg5 harg5 arg6 harg6 arg7 harg7 arg8 harg8 arg9 harg9 hc0 hc1 x0 x1 x2).2.1) = cntOut x0 x2 k0_pay3 (dec x1) := by
  frame_open
  simp (disch := decide) only [↓ View.readCov_skip, ↓ View.readCov_cons_toLoadRect, ↓ View.readCov_fill]
  frame_out
  simp only [outBlk, cntOut, sqOut, acc4, acc3, acc2, acc1, res3, res2, res1, dif3, dif2, dif1, dif0, oh3, oh2, oh1, oh0]
  rw [ld_slab0, ld_slab1, ld_slab2, ld_slab3, ld_dec00, ld_dec01, ld_dec02, ld_dec03, ld_dec10, ld_dec11, ld_dec12, ld_dec20, ld_dec21, ld_dec22]
  exact (cols_read _ _ [_] k0_pay3 (whole_read _ _ _ _ _ _) _ _ _ _).trans rfl

set_option maxHeartbeats 1000000 in
theorem runA_sq (c : Dev nD) (i : grid0.Coords) (arg2 : Memref sig .tc .vmem S1x128x2048 .f32) (harg2 : arg2.IsWhole) (arg3 : Memref sig .tc .vmem S4x1024x128 .f32) (harg3 : arg3.IsWhole) (arg4 : Memref sig .tc .vmem S1024x128 .f32) (harg4 : arg4.IsWhole) (arg5 : Memref sig .tc .vmem S1x128x2048 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S8x128 .f32) (harg8 : arg8.IsWhole) (arg9 : Memref sig .tc .vmem S3x4x1024x128 .bf16) (harg9 : arg9.IsWhole) (hc0 : cond0_0 i) (hc1 : ¬cond0_1 i)
    (x0 : Vec F S1x128x2048 .f32) (x1 : Vec F S4x1024x128 .f32) (x2 : Vec F S1024x128 .f32) (f : arg8.view.ty.Contents (Elt F)) :
    arg8.view.read (Elt F) (arg8.view.writes (Elt F) f (runA c i arg2 harg2 arg3 harg3 arg4 harg4 arg5 harg5 arg6 harg6 arg7 harg7 arg8 harg8 arg9 harg9 hc0 hc1 x0 x1 x2).2.2.1) = sqOut x0 x2 k0_pay4 (dec x1) := by
  frame_open
  simp (disch := decide) only [↓ View.readCov_skip, ↓ View.readCov_cons_toLoadRect, ↓ View.readCov_fill]
  frame_out
  simp only [outBlk, cntOut, sqOut, acc4, acc3, acc2, acc1, res3, res2, res1, dif3, dif2, dif1, dif0, oh3, oh2, oh1, oh0]
  rw [ld_slab0, ld_slab1, ld_slab2, ld_slab3, ld_dec00, ld_dec01, ld_dec02, ld_dec03, ld_dec10, ld_dec11, ld_dec12, ld_dec13, ld_dec20, ld_dec21, ld_dec22, ld_dec23]
  exact (rows_read _ _ [_] k0_pay4 (whole_read _ _ _ _ _ _) _ _ _ _).trans rfl

end Cert.KernelIdeal.Vq

end
-- ==== Proof.KDat.lean ====
/- What the carried buffers and the windows hold point by point, and the body's triple at every point. -/
module

public import proofs.«01_k».proof.Proof.KOut
public import Idealize.ShloMosaic.Lib.Pipeline.DatRel

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The carried buffers -/

/-- The first grid point. -/
def pt0 : Fin cfg0.N := ⟨0, by rw [show cfg0.N = 8 from N_0]; omega⟩
/-- The last grid point. -/
def pt7 : Fin cfg0.N := ⟨7, by rw [show cfg0.N = 8 from N_0]; omega⟩

/-- The split codebooks the first point stores and every later one reads. -/
def split (c : Dev nD) : Vec F S3x4x1024x128 .bf16 := dec (iblk m c 1 pt0)

/-- The counts after point `n`. -/
def cntN (c : Dev nD) : (n : ℕ) → n < cfg0.N → Vec F S1024x128 .f32
  | 0, h => cntOut (iblk m c 0 ⟨0, h⟩) (iblk m c 2 ⟨0, h⟩) k0_pay3 (split m c)
  | n + 1, h => cntOut (iblk m c 0 ⟨n + 1, h⟩) (iblk m c 2 ⟨n + 1, h⟩) (cntN c n (Nat.lt_of_succ_lt h)) (split m c)

/-- The sums of squared differences after point `n`. -/
def sqN (c : Dev nD) : (n : ℕ) → n < cfg0.N → Vec F S8x128 .f32
  | 0, h => sqOut (iblk m c 0 ⟨0, h⟩) (iblk m c 2 ⟨0, h⟩) k0_pay4 (split m c)
  | n + 1, h => sqOut (iblk m c 0 ⟨n + 1, h⟩) (iblk m c 2 ⟨n + 1, h⟩) (sqN c n (Nat.lt_of_succ_lt h)) (split m c)

/-- The statistics' first row, at the last point. -/
def perpOut (c : Dev nD) : FVec F S1x4 .f32 :=
  k0_pay1 (View.ld (cntN m c 7 pt7.isLt) (Rect.unit ![0, 0] ![1024, 4] inb_S1024x128_S1024x4_0_0))
/-- The statistics' loss, at the last point. -/
def lossOut (c : Dev nD) : FVec F S1x1 .f32 :=
  k0_pay2 (View.ld (sqN m c 7 pt7.isLt) (Rect.unit ![0, 0] ![4, 1] inb_S8x128_S4x1_0_0))

/-- The invariant before point `n`: any scratch before the first, then what the point before left. -/
def carried (c : Dev nD) : (n : ℕ) → n ≤ cfg0.N → sProp 𝕄
  | 0, _ => Pipeline.ΦA spec0 c
  | n + 1, h => iprop(iprop(owns (c : Thread nD τ) scM0_0 fullShare (cntN m c n h) ∗ owns (c : Thread nD τ) scM0_1 fullShare (sqN m c n h)
      ∗ owns (c : Thread nD τ) scM0_2 fullShare (split m c)) ∗ (∃ r, prngReg c r))

/-! ## The proof data -/

/-- The statistics' window is held to a predicate. -/
def marked : Fin 5 → Bool := fun w => w.val == 4

/-- What the statistics' window meets: at the last point the five results stand in their places. -/
def held (c : Dev nD) : (w : Fin cfg0.W) → Fin cfg0.N → ((cfg0.win w).block.Idx → Elt F (cfg0.win w).elt) → Prop := fun w t => match w with
  | ⟨4, _⟩ => fun X => t.val = 7 → (∀ j : Fin 4, (X : Vec F S8x128 .f32) (ix2 0 ⟨j.val, by omega⟩) = perpOut m c (ix2 0 j))
      ∧ (X : Vec F S8x128 .f32) (ix2 1 0) = lossOut m c (ix2 0 0)
  | _ => fun _ => True

/-- The data of the pipeline on core `c`. -/
def vq (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 2 t) (split m c)
    | ⟨4, h⟩ => Pipeline.Dat.unnamed (cfg := cfg0) ⟨4, h⟩ t
  Φ t := carried m c t.val (Nat.le_of_lt_succ t.isLt)
  q _ := fullShare
  owed _ := 0

theorem vq_A (c : Dev nD) (w : Fin cfg0.W) : (vq m 0 c).A w = V m c (Pipeline.arrRef spec0 w) := by dsimp only [vq]
theorem vq_start (c : Dev nD) (t : Fin cfg0.N) : (vq m 0 c).Φ t.castSucc = carried m c t.val (Nat.le_of_lt t.isLt) := by
  dsimp only [vq]; exact Pipeline.Dat.Φ_castSucc (carried m c) t
theorem vq_after0 (c : Dev nD) (t : Fin cfg0.N) : (vq m 0 c).after 0 t = iblk m c 0 t := by dsimp only [vq]
theorem vq_after1 (c : Dev nD) (t : Fin cfg0.N) : (vq m 0 c).after 1 t = iblk m c 1 t := by dsimp only [vq]
theorem vq_after2 (c : Dev nD) (t : Fin cfg0.N) : (vq m 0 c).after 2 t = iblk m c 2 t := by dsimp only [vq]
theorem vq_after3 (c : Dev nD) (t : Fin cfg0.N) : (vq m 0 c).after 3 t = outBlk (iblk m c 0 t) (iblk m c 2 t) (split m c) := by dsimp only [vq]
theorem vq_before0 (c : Dev nD) (t : Fin cfg0.N) (d) : (vq m 0 c).before 0 t d = iblk m c 0 t :=
  before0_0_of m (vq m 0 c) (vq_A m c 0) (vq_after0 m c) t d
theorem vq_before1 (c : Dev nD) (t : Fin cfg0.N) (d) : (vq m 0 c).before 1 t d = iblk m c 1 t :=
  before0_1_of m (vq m 0 c) (vq_A m c 1) (vq_after1 m c) t d
theorem vq_before2 (c : Dev nD) (t : Fin cfg0.N) (d) : (vq m 0 c).before 2 t d = iblk m c 2 t :=
  before0_2_of m (vq m 0 c) (vq_A m c 2) (vq_after2 m c) t d

/-! ## The body at every point -/

/-- What the body gets at point `t`. -/
def vqPre (c : Dev nD) (t : Fin cfg0.N) : sProp 𝕄 :=
  iprop((vq m 0 c).Φ t.castSucc ∗ (vq m 0 c).owesAt () t.castSucc
    ∗ (∃ d, owns (c : Thread nD τ) (ms0_0 t) fullShare ((vq m 0 c).before 0 t d))
    ∗ (∃ d, owns (c : Thread nD τ) (ms0_1 t) fullShare ((vq m 0 c).before 1 t d))
    ∗ (∃ d, owns (c : Thread nD τ) (ms0_2 t) fullShare ((vq m 0 c).before 2 t d))
    ∗ (∃ d, owns (c : Thread nD τ) (ms0_3 t) fullShare ((vq m 0 c).before 3 t d))
    ∗ (∃ Y, ⌜((vq m 0 c).toRRel marked (held m c)).Finds 4 t Y⌝ ∗ owns (c : Thread nD τ) (ms0_4 t) fullShare Y))

/-- What it gives back. -/
def vqPost (c : Dev nD) (t : Fin cfg0.N) : sProp 𝕄 :=
  iprop((vq m 0 c).Φ t.succ ∗ (vq m 0 c).owesAt () t.succ
    ∗ owns (c : Thread nD τ) (ms0_0 t) fullShare ((vq m 0 c).after 0 t)
    ∗ owns (c : Thread nD τ) (ms0_1 t) fullShare ((vq m 0 c).after 1 t)
    ∗ owns (c : Thread nD τ) (ms0_2 t) fullShare ((vq m 0 c).after 2 t)
    ∗ owns (c : Thread nD τ) (ms0_3 t) fullShare ((vq m 0 c).after 3 t)
    ∗ (∃ X, ⌜held m c 4 t X⌝ ∗ owns (c : Thread nD τ) (ms0_4 t) fullShare X))

set_option maxHeartbeats 4000000 in
/-- The body at the first point. -/
theorem body_first (c : Dev nD) (t : Fin cfg0.N) (h : t.val = 0) :
    vqPre m c t ⊢ wp frame (wpE (defs₀ (F := F)) Variants.none c none) Set.univ (bodyAt0 t) (fun _ => vqPost m c t) := by
  have hN : t.val < 8 := lt_of_lt_of_eq t.isLt (show cfg0.N = 8 from N_0)
  unfold vqPre vqPost bodyAt0
  simp only [vq_before0, vq_before1, vq_before2, vq_after0, vq_after1, vq_after2, vq_after3]
  rw [show (vq m 0 c).owesAt () t.succ = (vq m 0 c).owesAt () t.castSucc from rfl,
    show (vq m 0 c).Φ t.succ = carried m c (t.val + 1) t.isLt from rfl, vq_start m c t]
  obtain rfl : t = pt0 := Fin.ext h
  rw [show carried m c pt0.val (Nat.le_of_lt pt0.isLt) = Pipeline.ΦA spec0 c from rfl, PhiA0_eq]
  rw [show carried m c (pt0.val + 1) pt0.isLt = iprop(iprop(owns (c : Thread nD τ) scM0_0 fullShare (cntN m c pt0.val pt0.isLt) ∗ owns (c : Thread nD τ) scM0_1 fullShare (sqN m c pt0.val pt0.isLt)
      ∗ owns (c : Thread nD τ) scM0_2 fullShare (split m c)) ∗ (∃ r, prngReg c r)) from rfl]
  iintro ⟨⟨⟨HS0, HS1, HS2⟩, Hg⟩, Ho, ⟨%d0, H0⟩, ⟨%d1, H1⟩, ⟨%d2, H2⟩, ⟨%d3, H3⟩, ⟨%d4, %hd4, H4⟩⟩
  iapply ((runA c (grid0.coords pt0) _ _ _ _ _ _ _ _ _ _ _ _ _ _ _ _ ((hcond0_0 pt0).mpr (by decide)) (fun h => absurd ((hcond0_1 pt0).mp h) (by decide)) (iblk m c 0 pt0) (iblk m c 1 pt0) (iblk m c 2 pt0)).2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  iintro ⟨H0, H1, H2, ⟨%f3, H3⟩, ⟨%d5, H4⟩, ⟨%e0, HS0⟩, ⟨%e1, HS1⟩, ⟨%e2, HS2⟩⟩
  isplitl [HS0 HS1 HS2 Hg]
  · isplitl [HS0 HS1 HS2]
    · isplitl [HS0]
      · unfold owns; iexists _; isplitr
        swap; · iexact HS0
        ipureintro; exact runA_cnt c (grid0.coords pt0) _ _ _ _ _ _ _ _ _ _ _ _ _ _ _ _ ((hcond0_0 pt0).mpr (by decide)) (fun h => absurd ((hcond0_1 pt0).mp h) (by decide)) (iblk m c 0 pt0) (iblk m c 1 pt0) (iblk m c 2 pt0) e0
      isplitl [HS1]
      · unfold owns; iexists _; isplitr
        swap; · iexact HS1
        ipureintro; exact runA_sq c (grid0.coords pt0) _ _ _ _ _ _ _ _ _ _ _ _ _ _ _ _ ((hcond0_0 pt0).mpr (by decide)) (fun h => absurd ((hcond0_1 pt0).mp h) (by decide)) (iblk m c 0 pt0) (iblk m c 1 pt0) (iblk m c 2 pt0) e1
      unfold owns; iexists _; isplitr
      swap; · iexact HS2
      ipureintro; exact runA_dec c (grid0.coords pt0) _ _ _ _ _ _ _ _ _ _ _ _ _ _ _ _ ((hcond0_0 pt0).mpr (by decide)) (fun h => absurd ((hcond0_1 pt0).mp h) (by decide)) (iblk m c 0 pt0) (iblk m c 1 pt0) (iblk m c 2 pt0) e2
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact runA_zq c (grid0.coords pt0) _ _ _ _ _ _ _ _ _ _ _ _ _ _ _ _ ((hcond0_0 pt0).mpr (by decide)) (fun h => absurd ((hcond0_1 pt0).mp h) (by decide)) (iblk m c 0 pt0) (iblk m c 1 pt0) (iblk m c 2 pt0) f3
  iexists _; isplitr
  swap; · iexact H4
  ipureintro; exact fun h' => absurd (show pt0.val = 7 from h') (by decide)

set_option maxHeartbeats 4000000 in
/-- The body at a middle point. -/
theorem body_middle (c : Dev nD) (t : Fin cfg0.N) (h : ¬t.val = 0) (h7 : ¬t.val = 7) :
    vqPre m c t ⊢ wp frame (wpE (defs₀ (F := F)) Variants.none c none) Set.univ (bodyAt0 t) (fun _ => vqPost m c t) := by
  have hN : t.val < 8 := lt_of_lt_of_eq t.isLt (show cfg0.N = 8 from N_0)
  unfold vqPre vqPost bodyAt0
  simp only [vq_before0, vq_before1, vq_before2, vq_after0, vq_after1, vq_after2, vq_after3]
  rw [show (vq m 0 c).owesAt () t.succ = (vq m 0 c).owesAt () t.castSucc from rfl,
    show (vq m 0 c).Φ t.succ = carried m c (t.val + 1) t.isLt from rfl, vq_start m c t]
  obtain ⟨n, hn⟩ := t
  obtain ⟨k, rfl⟩ : ∃ k, n = k + 1 := ⟨n - 1, by have : ¬n = 0 := h; omega⟩
  have hk : k < cfg0.N := Nat.lt_of_succ_lt hn
  rw [show carried m c (k + 1) (Nat.le_of_lt hn) = iprop(iprop(owns (c : Thread nD τ) scM0_0 fullShare (cntN m c k hk) ∗ owns (c : Thread nD τ) scM0_1 fullShare (sqN m c k hk)
      ∗ owns (c : Thread nD τ) scM0_2 fullShare (split m c)) ∗ (∃ r, prngReg c r)) from rfl]
  rw [show carried m c (k + 1 + 1) hn = iprop(iprop(owns (c : Thread nD τ) scM0_0 fullShare (cntN m c (k + 1) hn) ∗ owns (c : Thread nD τ) scM0_1 fullShare (sqN m c (k + 1) hn)
      ∗ owns (c : Thread nD τ) scM0_2 fullShare (split m c)) ∗ (∃ r, prngReg c r)) from rfl]
  have c0 : ¬cond0_0 (grid0.coords ⟨k + 1, hn⟩) := fun e => absurd ((hcond0_0 ⟨k + 1, hn⟩).mp e) (by
    have d : k + 1 < 8 := hN
    show ¬(k + 1) % 8 = 0; omega)
  have c1 : ¬cond0_1 (grid0.coords ⟨k + 1, hn⟩) := fun e => absurd ((hcond0_1 ⟨k + 1, hn⟩).mp e) (by
    have d : k + 1 < 8 := hN
    have b : ¬k + 1 = 7 := h7
    show ¬(k + 1) % 8 = 7; omega)
  iintro ⟨⟨⟨HS0, HS1, HS2⟩, Hg⟩, Ho, ⟨%d0, H0⟩, ⟨%d1, H1⟩, ⟨%d2, H2⟩, ⟨%d3, H3⟩, ⟨%d4, %hd4, H4⟩⟩
  iapply ((runB c (grid0.coords ⟨k + 1, hn⟩) _ _ _ _ _ _ _ _ _ _ _ _ _ _ _ _ c0 c1 (iblk m c 0 ⟨k + 1, hn⟩) (iblk m c 1 ⟨k + 1, hn⟩) (iblk m c 2 ⟨k + 1, hn⟩) _ _ _).2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  iintro ⟨H0, H1, H2, ⟨%f3, H3⟩, ⟨%d5, H4⟩, HS0, HS1, HS2⟩
  isplitl [HS0 HS1 HS2 Hg]
  · isplitl [HS0 HS1 HS2]
    · isplitl [HS0]
      · unfold owns; iexists _; isplitr
        swap; · iexact HS0
        ipureintro; exact runB_cnt c (grid0.coords ⟨k + 1, hn⟩) _ _ _ _ _ _ _ _ _ _ _ _ _ _ _ _ c0 c1 (iblk m c 0 ⟨k + 1, hn⟩) (iblk m c 1 ⟨k + 1, hn⟩) (iblk m c 2 ⟨k + 1, hn⟩) _ _ _
      isplitl [HS1]
      · unfold owns; iexists _; isplitr
        swap; · iexact HS1
        ipureintro; exact runB_sq c (grid0.coords ⟨k + 1, hn⟩) _ _ _ _ _ _ _ _ _ _ _ _ _ _ _ _ c0 c1 (iblk m c 0 ⟨k + 1, hn⟩) (iblk m c 1 ⟨k + 1, hn⟩) (iblk m c 2 ⟨k + 1, hn⟩) _ _ _
      iexact HS2
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact runB_zq c (grid0.coords ⟨k + 1, hn⟩) _ _ _ _ _ _ _ _ _ _ _ _ _ _ _ _ c0 c1 (iblk m c 0 ⟨k + 1, hn⟩) (iblk m c 1 ⟨k + 1, hn⟩) (iblk m c 2 ⟨k + 1, hn⟩) _ _ _ f3
  iexists _; isplitr
  swap; · iexact H4
  ipureintro; exact fun h' => absurd (show (⟨k + 1, hn⟩ : Fin cfg0.N).val = 7 from h') h7

set_option maxHeartbeats 4000000 in
/-- The body at the last point. -/
theorem body_last (c : Dev nD) (t : Fin cfg0.N) (h : t.val = 7) :
    vqPre m c t ⊢ wp frame (wpE (defs₀ (F := F)) Variants.none c none) Set.univ (bodyAt0 t) (fun _ => vqPost m c t) := by
  have hN : t.val < 8 := lt_of_lt_of_eq t.isLt (show cfg0.N = 8 from N_0)
  unfold vqPre vqPost bodyAt0
  simp only [vq_before0, vq_before1, vq_before2, vq_after0, vq_after1, vq_after2, vq_after3]
  rw [show (vq m 0 c).owesAt () t.succ = (vq m 0 c).owesAt () t.castSucc from rfl,
    show (vq m 0 c).Φ t.succ = carried m c (t.val + 1) t.isLt from rfl, vq_start m c t]
  obtain ⟨n, hn⟩ := t
  obtain ⟨k, rfl⟩ : ∃ k, n = k + 1 := ⟨n - 1, by have : ¬n = 0 := fun h0 => absurd (h.symm.trans h0) (by decide); omega⟩
  have hk : k < cfg0.N := Nat.lt_of_succ_lt hn
  rw [show carried m c (k + 1) (Nat.le_of_lt hn) = iprop(iprop(owns (c : Thread nD τ) scM0_0 fullShare (cntN m c k hk) ∗ owns (c : Thread nD τ) scM0_1 fullShare (sqN m c k hk)
      ∗ owns (c : Thread nD τ) scM0_2 fullShare (split m c)) ∗ (∃ r, prngReg c r)) from rfl]
  rw [show carried m c (k + 1 + 1) hn = iprop(iprop(owns (c : Thread nD τ) scM0_0 fullShare (cntN m c (k + 1) hn) ∗ owns (c : Thread nD τ) scM0_1 fullShare (sqN m c (k + 1) hn)
      ∗ owns (c : Thread nD τ) scM0_2 fullShare (split m c)) ∗ (∃ r, prngReg c r)) from rfl]
  have c0 : ¬cond0_0 (grid0.coords ⟨k + 1, hn⟩) := fun e => absurd ((hcond0_0 ⟨k + 1, hn⟩).mp e) (by
    have d : k + 1 < 8 := hN
    show ¬(k + 1) % 8 = 0; omega)
  have c1 : cond0_1 (grid0.coords ⟨k + 1, hn⟩) := (hcond0_1 ⟨k + 1, hn⟩).mpr (by
    have b : k + 1 = 7 := h
    show (k + 1) % 8 = 7; omega)
  iintro ⟨⟨⟨HS0, HS1, HS2⟩, Hg⟩, Ho, ⟨%d0, H0⟩, ⟨%d1, H1⟩, ⟨%d2, H2⟩, ⟨%d3, H3⟩, ⟨%d4, %hd4, H4⟩⟩
  iapply ((runC c (grid0.coords ⟨k + 1, hn⟩) _ _ _ _ _ _ _ _ _ _ _ _ _ _ _ _ c0 c1 (iblk m c 0 ⟨k + 1, hn⟩) (iblk m c 1 ⟨k + 1, hn⟩) (iblk m c 2 ⟨k + 1, hn⟩) _ _ _).2.2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  iintro ⟨H0, H1, H2, ⟨%f3, H3⟩, ⟨%f4, H4⟩, HS0, HS1, HS2⟩
  isplitl [HS0 HS1 HS2 Hg]
  · isplitl [HS0 HS1 HS2]
    · isplitl [HS0]
      · unfold owns; iexists _; isplitr
        swap; · iexact HS0
        ipureintro; exact runC_cnt c (grid0.coords ⟨k + 1, hn⟩) _ _ _ _ _ _ _ _ _ _ _ _ _ _ _ _ c0 c1 (iblk m c 0 ⟨k + 1, hn⟩) (iblk m c 1 ⟨k + 1, hn⟩) (iblk m c 2 ⟨k + 1, hn⟩) _ _ _
      isplitl [HS1]
      · unfold owns; iexists _; isplitr
        swap; · iexact HS1
        ipureintro; exact runC_sq c (grid0.coords ⟨k + 1, hn⟩) _ _ _ _ _ _ _ _ _ _ _ _ _ _ _ _ c0 c1 (iblk m c 0 ⟨k + 1, hn⟩) (iblk m c 1 ⟨k + 1, hn⟩) (iblk m c 2 ⟨k + 1, hn⟩) _ _ _
      iexact HS2
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact runC_zq c (grid0.coords ⟨k + 1, hn⟩) _ _ _ _ _ _ _ _ _ _ _ _ _ _ _ _ c0 c1 (iblk m c 0 ⟨k + 1, hn⟩) (iblk m c 1 ⟨k + 1, hn⟩) (iblk m c 2 ⟨k + 1, hn⟩) _ _ _ f3
  iexists _; isplitr
  swap
  · unfold owns; iexists _; isplitr
    swap; · iexact H4
    ipureintro; rfl
  ipureintro
  obtain rfl : k = 6 := by have b : k + 1 = 7 := h; omega
  exact fun _ => ⟨fun j => runC_perp c (grid0.coords ⟨6 + 1, hn⟩) _ _ _ _ _ _ _ _ _ _ _ _ _ _ _ _ c0 c1 (iblk m c 0 ⟨6 + 1, hn⟩) (iblk m c 1 ⟨6 + 1, hn⟩) (iblk m c 2 ⟨6 + 1, hn⟩) _ _ _ f4 j, runC_loss c (grid0.coords ⟨6 + 1, hn⟩) _ _ _ _ _ _ _ _ _ _ _ _ _ _ _ _ c0 c1 (iblk m c 0 ⟨6 + 1, hn⟩) (iblk m c 1 ⟨6 + 1, hn⟩) (iblk m c 2 ⟨6 + 1, hn⟩) _ _ _ f4⟩

/-- The body table's row at point `t` is the body there. -/
theorem row_body (t : Fin cfg0.N) : defs₀ (F := F) .tc cfg0.body (cfg0.bodyArgs t (cfg0.slots t)) = bodyAt0 t := by
  unfold defs₀; rw [Defs.onTc_tc]

/-- The body keeps the data at every point. -/
theorem vq_body (c : Dev nD) : BodyObligationRel (vq (F := F) m 0 c) (defs₀ (F := F)) Variants.none () Set.univ marked (held m c) := fun t => by
  rw [bigSep_W0, bigSep_W0, row_body]
  refine triple_restated (P := vqPre m c t) (Q := fun _ => vqPost m c t) ?_ rfl .rfl fun _ => .rfl
  by_cases h0 : t.val = 0
  · exact body_first m c t h0
  · by_cases h7 : t.val = 7
    · exact body_last m c t h7
    · exact body_middle m c t h0 h7

/-- What the launch hands over is the invariant before the first point. -/
theorem vq_hin (c : Dev nD) : Pipeline.ΦA spec0 c ⊢ (vq m 0 c).Φ 0 := by
  rw [show (vq m 0 c).Φ 0 = Pipeline.ΦA spec0 c from rfl]
  try exact Idealize.SL.BI.Entails.refl _

/-- After the last point the carried contents are forgotten. -/
theorem vq_hout (c : Dev nD) : (vq m 0 c).Φ (Fin.last cfg0.N) ⊢ Pipeline.ΦA spec0 c := by
  rw [show (vq m 0 c).Φ (Fin.last cfg0.N) = iprop(iprop(owns (c : Thread nD τ) scM0_0 fullShare (cntN m c 7 pt7.isLt) ∗ owns (c : Thread nD τ) scM0_1 fullShare (sqN m c 7 pt7.isLt)
      ∗ owns (c : Thread nD τ) scM0_2 fullShare (split m c)) ∗ (∃ r, prngReg c r)) from rfl, PhiA0_eq]
  iintro ⟨⟨HS0, HS1, HS2⟩, Hg⟩
  isplitr [Hg]
  · isplitl [HS0]; · iexists _; iexact HS0
    isplitl [HS1]; · iexists _; iexact HS1
    iexists _; iexact HS2
  iexact Hg

end Cert.KernelIdeal.Vq

end
-- ==== Proof.KLaunch.lean ====
/- The launch: every array at contents the data allow, every other buffer at what the lines after the region compute from them. -/
module

public import proofs.«01_k».proof.Proof.KDat
public import Idealize.ShloMosaic.Lib.Claim
public import Idealize.ShloMosaic.Lib.Pipeline.ArrRel

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational data of core `c`. -/
abbrev vqR (c : Dev nD) := (vq (F := F) m 0 c).toRRel marked (held m c)

/-- The buffers that are neither arrays of the pipeline nor scoped. -/
abbrev others : Finset (Ref sig .tc) := Pipeline.restRefsP sig Pipeline.Prefetch.none spec0

/-- What core `c`'s memory holds at the end. -/
def Ends (c : Dev nD) (s : MemSt nD τ sig (Elt F)) : Prop :=
  (∀ w, (vqR m c).ArrAt w cfg0.N (s.mem ((cfg0.spec w).arr.view.loc (c : Thread nD τ))))
  ∧ ∃ A : (w : Fin cfg0.W) → Buf (Elt F) ((spec0 w).arr.view.loc (c : Thread nD τ)), (∀ w, (vqR m c).ArrAt w cfg0.N (A w))
    ∧ ∀ b ∈ others, s.mem ((c : Thread nD τ).loc b) = StableHlo.after hostOps1 (Pipeline.withArrays spec0 c (V0 m c) A) (Proc.devRef .tc b)

open Pipeline in
set_option backward.isDefEq.respectTransparency.types false in
set_option maxHeartbeats 1600000 in
/-- The run, from any memory with zero counters. -/
theorem ends : θ_run defs (onTc (τ := τ) (main (F := F))) (s₀ m ρ) (fun r => (∀ c, Ends m c r.2) ∧ r.2.sem = fun _ => 0) := by
  classical
  have hshare : ∀ c w, (vqR (F := F) m c).share w = fullShare := fun c => (vq (F := F) m 0 c).share_full fun _ => rfl
  have hq : ∀ c w, (spec0 w).isOut = false → (vqR (F := F) m c).q w = shareOf spec0 w :=
    fun c w hw => (vqR (F := F) m c).q_eq_shareOf_of_share_full launch0.win.arr_inj (hshare c) w hw
  have hA : ∀ c w, (vqR (F := F) m c).A w = V m c (arrRef spec0 w) := vq_A m
  -- the arrays after the last point, opened and closed
  have hopen : ∀ c, ((vqR (F := F) m c).arraysAt cfg0.N : sProp 𝕄)
      ⊢ iprop(∃ A, ⌜∀ w, (vqR m c).ArrAt w cfg0.N (A w)⌝ ∗ (vqR m c).arrays A) := fun c => by
    unfold RDat.arraysAt
    iintro Ha
    ihave Hb := (BI.bigSep_exists_pi Finset.univ (fun w G => iprop(⌜(vqR m c).ArrAt w cfg0.N G⌝
        ∗ (cfg0.win w).arr.view.loc (c : Thread nD τ) ↦[(cfg0.win w).arr.view.set]{(vqR m c).share w} G))) $$ Ha
    icases Hb with ⟨%A, Hb⟩
    ihave Hd := (BI.bigSep_pure_sep Finset.univ (fun w => (vqR m c).ArrAt w cfg0.N (A w))
        (fun w => (cfg0.win w).arr.view.loc (c : Thread nD τ) ↦[(cfg0.win w).arr.view.set]{(vqR m c).share w} A w)) $$ Hb
    icases Hd with ⟨%hAt, Hd⟩
    iexists A; isplitr; · ipureintro; exact fun w => hAt w (Finset.mem_univ w)
    unfold RDat.arrays
    iexact Hd
  have hclose : ∀ c A, (∀ w, (vqR (F := F) m c).ArrAt w cfg0.N (A w)) →
      ((vqR m c).arrays A : sProp 𝕄) ⊢ (vqR m c).arraysAt cfg0.N := fun c A hAt => by
    unfold RDat.arraysAt RDat.arrays
    refine BI.bigSep_mono fun w _ => ?_
    show ((cfg0.win w).arr.view.loc (c : Thread nD τ) ↦[(cfg0.win w).arr.view.set]{(vqR m c).share w} A w : sProp 𝕄)
      ⊢ iprop(∃ G, ⌜(vqR m c).ArrAt w cfg0.N G⌝ ∗ (cfg0.win w).arr.view.loc (c : Thread nD τ) ↦[(cfg0.win w).arr.view.set]{(vqR m c).share w} G)
    iintro H; iexists (A w); isplitr; · ipureintro; exact hAt w
    iexact H
  refine RDat.θ_run_region_pf_tail_quiescent (fun q => (cfgs q).toPCfg) (fun q => (cfgs q).toPCfg_adm) (RDat.familyOf (fun q => (cfgs q).toPCfg (Val := Elt F)) (fun q => (cfgs q).toPCfg_adm) 0 (fun c => vqR (F := F) m c)) () ((launch0.toP (Val := Elt F)).to₀.cellOf_inj (fun q => (cfgs q).toPCfg_adm (Val := Elt F))) (0 : Fin 1)
    (launch0.toP (Val := Elt F)).to₀.win (OwnSemFacts.none spec0) (launch0.toP (Val := Elt F)).to₀.pre emb₁ defs₀ Variants.none m ρ main
    (fun _ => chain ([hostOps1].map StableHlo.seq)) (fun c => by rw [RDat.familyOf_self]; exact (vq_body m c).toRRel)
    (launch0.toP (Val := Elt F)).to₀.block_pos (launch0.toP (Val := Elt F)).to₀.arr_whole (launch0.toP (Val := Elt F)).to₀.stage_whole (fun c t => by rw [RDat.familyOf_self]; rfl)
    (G := fun _ => iprop(emp)) (u₀ := initOf (cells (pin (fun q => (cfgs q).toPCfg (Val := Elt F)) (fun q => (cfgs q).toPCfg_adm)) ((launch0.toP (Val := Elt F)).to₀.cellOf_inj (fun q => (cfgs q).toPCfg_adm (Val := Elt F)))) (launchToks (pin (fun q => (cfgs q).toPCfg (Val := Elt F)) (fun q => (cfgs q).toPCfg_adm)) ((launch0.toP (Val := Elt F)).to₀.cellOf_inj (fun q => (cfgs q).toPCfg_adm (Val := Elt F)))))
    (hu₀ := ?_) (V := V m) (hmain := hmain m Variants.none)
    (hsplit := fun c => by rw [RDat.familyOf_self]; exact (vqR m c).arrays_split_shared (launch0.toP (Val := Elt F)).to₀.sharedIn (launch0.toP (Val := Elt F)).to₀.arr_whole (hq c) (V m c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => iprop(∃ (A : (w : Fin cfg0.W) → Buf (Elt F) ((spec0 w).arr.view.loc (c : Thread nD τ))) (G : (b : Ref sig .tc) → Buf (Elt F) ((c : Thread nD τ).loc b)),
      ⌜(∀ w, (vqR m c).ArrAt w cfg0.N (A w)) ∧ ∀ b ∈ others, G b = StableHlo.after hostOps1 (withArrays spec0 c (V0 m c) A) (Proc.devRef .tc b)⌝
        ∗ unscopedRestP (Ix := Unit) (Name := ℕ) (U := UR sig nD τ) (Lvl := ℕ) Prefetch.none spec0 c G))
    (hX := ?_) (hin := ?_) (hout := ?_) (htail := ?_)
    (QY := fun c s => ∃ A : (w : Fin cfg0.W) → Buf (Elt F) ((spec0 w).arr.view.loc (c : Thread nD τ)), (∀ w, (vqR m c).ArrAt w cfg0.N (A w))
      ∧ ∀ b ∈ others, s.mem ((c : Thread nD τ).loc b) = StableHlo.after hostOps1 (withArrays spec0 c (V0 m c) A) (Proc.devRef .tc b))
    (hY := ?_) (hQ := ?_)
  · iintro Hu; imodintro
    isplitl [Hu]
    · iapply (show (ownU _ : sProp 𝕄) ⊢ BI.own (emb₁ (initOf (cells (pin (fun q => (cfgs q).toPCfg (Val := Elt F)) (fun q => (cfgs q).toPCfg_adm)) ((launch0.toP (Val := Elt F)).to₀.cellOf_inj (fun q => (cfgs q).toPCfg_adm (Val := Elt F)))) (launchToks (pin (fun q => (cfgs q).toPCfg (Val := Elt F)) (fun q => (cfgs q).toPCfg_adm)) ((launch0.toP (Val := Elt F)).to₀.cellOf_inj (fun q => (cfgs q).toPCfg_adm (Val := Elt F)))))) from .rfl)
      iexact Hu
    iapply (show (BI.emp : sProp 𝕄) ⊢ bigSep Finset.univ (fun _ : Dev nD => (BI.emp : sProp 𝕄)) from by rw [BI.bigSep_emp_const])
    iempintro
  · intro c
    iintro ⟨HU, -, -, Hp, -⟩; imodintro
    isplitl [Hp]; · iexists _; iexact Hp
    iexact HU
  · intro c
    rw [RDat.familyOf_self]
    exact (show _ ⊢ ΦA spec0 c by
      unfold ΦA; iintro ⟨Hp, -, Hr⟩
      isplitl [Hr] <;> iassumption).trans (vq_hin m c)
  · intro c
    rw [RDat.familyOf_self]
    exact (vq_hout m c).trans (by
      rw [ownSems0_none]; unfold ΦA
      iintro ⟨Hr, Hp⟩
      isplitl [Hp]; · iexact Hp
      isplitr; · iempintro
      iexact Hr)
  · intro c Q'
    rw [RDat.familyOf_self]
    iintro ⟨Hk, Hb, Ha, HZ⟩
    ihave Hc := (hopen c) $$ Ha
    icases Hc with ⟨%A, %hAt, Ha⟩
    have hB : (vqR m c).arrays A = arrBufs spec0 c (fun b => withArrays spec0 c (V0 m c) A (Proc.devRef .tc b)) :=
      ((vqR m c).arrBufs_eq_arrays (launch0.toP (Val := Elt F)).to₀.sharedIn (launch0.toP (Val := Elt F)).to₀.arr_whole (hq c) _ A fun w =>
        (withArrays_arr spec0 launch0.win.arr_inj c (V0 m c) A w).symm).symm
    iapply (tail_seqs_bufs_b (fun q => (cfgs q).toPCfg) defs₀ Variants.none Prefetch.none spec0 c (V0 m c) A [hostOps1] sfx_sub sfx_fresh sfx_keeps Q')
    isplitl [Hk]
    · iintro ⟨Hb2, Ha2, Hu⟩
      iapply Hk
      isplitl [Hb2]; · iexact Hb2
      isplitl [Ha2]; · iapply (hclose c A hAt); iapply (Entails.of_eq hB.symm); iexact Ha2
      iexists A, (fun b => StableHlo.after [hostOps1].flatten (withArrays spec0 c (V0 m c) A) (Proc.devRef .tc b)); isplitr
      · ipureintro
        exact ⟨hAt, fun b _ => rfl⟩
      · iexact Hu
    · isplitl [Hb]; · iexact Hb
      isplitl [Ha]; · iapply (Entails.of_eq hB); iexact Ha
      iexact HZ
  · intro c s'
    iintro ⟨-, HZ, HSI⟩
    icases HZ with ⟨%A, %G, %hG, HZ⟩
    unfold unscopedRestP
    ihave HR := (pointsTo_read_all others (fun b => (c : Thread nD τ).loc b) G s') $$ [HZ HSI]
    · isplitl [HZ] <;> iassumption
    icases HR with ⟨%hZ, HSI⟩
    imodintro
    isplitr
    · ipureintro; exact ⟨A, hG.1, fun b hb => (hZ b hb).trans (hG.2 b hb)⟩
    · iexact HSI
  · intro s h hz
    exact ⟨fun c => ⟨fun w => by simpa only [RDat.familyOf_self] using (h c).1 w, (h c).2.2⟩, hz⟩

end Cert.KernelIdeal.Vq

end
-- ==== Proof.KRes.lean ====
/- The three results of the run, and its arguments. -/
module

public import proofs.«01_k».proof.Proof.KLaunch
public import Idealize.ShloMosaic.Lib.Pointwise

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The point at which batch `b` is worked on. -/
abbrev pt (b : Fin 8) : Fin cfg0.N := ⟨b.val, b.isLt⟩

/-- The quantized array the run leaves. -/
def zqOut (c : Dev nD) : Vec F S8x128x2048 .f32 := fun y => outBlk (iblk m c 0 (pt (y 0))) (iblk m c 2 (pt (y 0))) (split m c) (ix3 0 (y 1) (y 2))

theorem index3 : ∀ t : Fin cfg0.N, win0_3.index t = ![t.val, 0, 0] := by decide +kernel

theorem arr3 (c : Dev nD) (G) (hG : (vqR m c).ArrAt 3 cfg0.N G) : G = zqOut m c := by
  obtain ⟨X, hX, hA⟩ := hG.exists_exact
  have hf : ∀ t : Fin cfg0.N, (cfg0.win 3).flush t = true → X t = outBlk (iblk m c 0 t) (iblk m c 2 t) (split m c) := fun t ht => by
    obtain ⟨_, _, h⟩ := hX t t.isLt ht
    rw [(vq m 0 c).toRRel_after_of_eq_false (w := 3) (fgt := marked) (by decide)] at h
    exact Eq.trans h (vq_after3 m c t)
  rw [hA (vq m 0 c).after fun u _ hu => (vq_after3 m c u).trans (hf u hu).symm]
  refine Pipeline.Dat.arrAt_eq_of_covers _ 3 _ (by decide +kernel) fun t ht y => ?_
  blk_simp
  show (vq m 0 c).after 3 t y = _
  rw [vq_after3]
  have h0 : ∀ a, (((win0_3.blk t).view.emb y a).val : ℕ) = ![t.val, (y 1).val, (y 2).val] a := fun a => by
    fin_cases a
    · have hy : (y 0).val < 1 := (y 0).isLt
      blk_simp [index3]
    · blk_simp [index3]
      rfl
    · blk_simp [index3]
      rfl
  have ht' : pt ((win0_3.blk t).view.emb y 0) = t := Fin.ext (h0 0)
  unfold zqOut
  rw [ht']
  refine congrArg (outBlk (iblk m c 0 t) (iblk m c 2 t) (split m c)) (funext fun a => ?_)
  have hy : (y 0).val = 0 := by have : (y 0).val < 1 := (y 0).isLt; omega
  fin_cases a
  · exact Fin.ext hy
  · exact Fin.ext (h0 1).symm
  · exact Fin.ext (h0 2).symm

theorem whole4 : (cfg0.win 4).WholeAt pt7 := by decide +kernel

theorem arr4 (c : Dev nD) (G : Buf (Elt F) ((spec0 4).arr.view.loc (c : Thread nD τ))) (hG : (vqR m c).ArrAt 4 cfg0.N G) :
    (∀ j : Fin 4, (G : Vec F S8x128 .f32) (ix2 0 ⟨j.val, by omega⟩) = perpOut m c (ix2 0 j)) ∧ (G : Vec F S8x128 .f32) (ix2 1 0) = lossOut m c (ix2 0 0) := by
  obtain ⟨X, hX, hE⟩ := hG.emb_eq_of_wholeAt whole4
  have h := Pipeline.Dat.toRRel_leaves (dat := vq m 0 c) (Rl := held m c) (fgt := marked) (w := 4) (by decide) hX
  have hh := h rfl
  refine ⟨fun j => ?_, ?_⟩
  · exact (hE (ix2 0 ⟨j.val, by omega⟩)).trans (hh.1 j)
  · exact (hE (ix2 1 0)).trans hh.2

theorem tail6 (W : Valuation τ sig (Elt F)) :
    (StableHlo.after hostOps1 W (Proc.devRef .tc main_v6) : Vec F S_ .f32) = fun _ => (W (Proc.devRef .tc main_v4_1) : Vec F S8x128 .f32) (ix2 1 0) := by
  after_results_simp
  funext j
  generalize W (Proc.devRef .tc main_v4_1) = w
  change shapeCast S_ (extractStridedSlice S1x1 ![1, 0] (w : Vec F S8x128 .f32) slices_S8x128_S1x1_1_0) shapeCasts_S1x1_S_ j = w (ix2 1 0)
  pointwise

theorem tail8 (W : Valuation τ sig (Elt F)) :
    (StableHlo.after hostOps1 W (Proc.devRef .tc main_v8) : Vec F S4 .f32) = fun j => (W (Proc.devRef .tc main_v4_1) : Vec F S8x128 .f32) (ix2 0 ⟨(j 0).val, Nat.lt_of_lt_of_le (j 0).isLt (by decide)⟩) := by
  after_results_simp
  funext j
  generalize W (Proc.devRef .tc main_v4_1) = w
  change shapeCast S4 (extractStridedSlice S1x4 ![0, 0] (w : Vec F S8x128 .f32) slices_S8x128_S1x4_0_0) shapeCasts_S1x4_S4 j = (w : Vec F S8x128 .f32) _
  obtain ⟨j0, rfl⟩ : ∃ j0 : Fin 4, j = ix1 j0 := ⟨j 0, eq_ix1 j⟩
  pointwise

theorem mem_main_v6 : (main_v6 : Ref sig .tc) ∈ others := by decide +kernel
theorem mem_main_v8 : (main_v8 : Ref sig .tc) ∈ others := by decide +kernel

/-- What the run leaves on core `c`. -/
theorem results (c : Dev nD) (s : MemSt nD τ sig (Elt F)) (h : Ends m c s) :
    s.mem ((c : Thread nD τ).loc main_v4_0) = zqOut m c
    ∧ s.mem ((c : Thread nD τ).loc main_v6) = (fun _ => lossOut m c (ix2 0 0) : Vec F S_ .f32)
    ∧ s.mem ((c : Thread nD τ).loc main_v8) = (fun j => perpOut m c (ix2 0 (j 0)) : Vec F S4 .f32)
    ∧ s.mem ((c : Thread nD τ).loc main_arg0) = m ((c : Thread nD τ).loc main_arg0)
    ∧ s.mem ((c : Thread nD τ).loc main_arg1) = m ((c : Thread nD τ).loc main_arg1) := by
  obtain ⟨hArr, A, hA, hR⟩ := h
  have h4 := arr4 m c (A 4) (hA 4)
  have e4 : Pipeline.withArrays spec0 c (V0 m c) A (Proc.devRef .tc main_v4_1) = A 4 :=
    Pipeline.withArrays_arr spec0 launch0.win.arr_inj c (V0 m c) A 4
  refine ⟨arr3 m c _ (hArr 3), ?_, ?_, ?_, ?_⟩
  · refine (hR _ mem_main_v6).trans ((tail6 _).trans ?_)
    rw [e4]
    exact funext fun _ => h4.2
  · refine (hR _ mem_main_v8).trans ((tail8 _).trans ?_)
    rw [e4]
    exact funext fun j => h4.1 (j 0)
  · exact (cast (congrFun ((vqR m c).ArrAt_in 0 rfl _) _) (hArr 0)).trans ((vq_A m c 0).trans (V_main_arg0 m c))
  · exact (cast (congrFun ((vqR m c).ArrAt_in 1 rfl _) _) (hArr 1)).trans ((vq_A m c 1).trans (V_main_arg1 m c))

end Cert.KernelIdeal.Vq

end
-- ==== Proof.Spec.lean ====
/- The mathematics both programs compute: one vector against one codebook, over the extended reals. -/
module

public import Idealize.ShloMosaic.Lib.Pointwise
public import Idealize.ShloMosaic.PureOps.Ideal

@[expose] public section

noncomputable section

namespace Cert.Spec

open Idealize.ShloMosaic

/-- A vector. -/
abbrev Pt := Fin 128 → EReal
/-- A codebook. -/
abbrev Book := Fin 1024 → Pt

/-! ## The first of the smallest scores -/

/-- `k` is the first place at which `s` is smallest. -/
def First (s : Fin 1024 → EReal) (k : Fin 1024) : Prop := (∀ j, s k ≤ s j) ∧ ∀ j, j < k → s k < s j

theorem first_unique {s : Fin 1024 → EReal} {k l : Fin 1024} (hk : First s k) (hl : First s l) : k = l := by
  rcases lt_trichotomy k l with h | h | h
  · exact absurd (hk.1 l) (not_le.mpr (hl.2 k h))
  · exact h
  · exact absurd (hl.1 k) (not_le.mpr (hk.2 l h))

theorem exists_first (s : Fin 1024 → EReal) : ∃ k, First s k := by
  classical
  obtain ⟨a, ha⟩ := Finite.exists_min s
  let M := Finset.univ.filter fun k => ∀ j, s k ≤ s j
  have hM : M.Nonempty := ⟨a, by simp [M, ha]⟩
  have hm := Finset.min'_mem M hM
  refine ⟨M.min' hM, (Finset.mem_filter.mp hm).2, fun j hj => ?_⟩
  by_contra hn
  have hle : s j ≤ s (M.min' hM) := not_lt.mp hn
  have : j ∈ M := Finset.mem_filter.mpr ⟨Finset.mem_univ _, fun i => hle.trans ((Finset.mem_filter.mp hm).2 i)⟩
  exact absurd (Finset.min'_le M j this) (not_le.mpr hj)

/-- The first place at which `s` is smallest. -/
def pick (s : Fin 1024 → EReal) : Fin 1024 := Classical.choose (exists_first s)

theorem pick_first (s : Fin 1024 → EReal) : First s (pick s) := Classical.choose_spec (exists_first s)

theorem eq_pick {s : Fin 1024 → EReal} {k : Fin 1024} (h : First s k) : k = pick s := first_unique h (pick_first s)

/-! ## The smallest of finitely many words and of finitely many scores -/

/-- The signed minimum is one of its operands and below both. -/
theorem minsi_spec (a b : BitVec 32) : (IntOp.minsi a b).toInt ≤ a.toInt ∧ (IntOp.minsi a b).toInt ≤ b.toInt ∧
    (IntOp.minsi a b = a ∨ IntOp.minsi a b = b) := by
  unfold IntOp.minsi
  split <;> rename_i h <;> simp only [BitVec.slt, decide_eq_true_eq] at h <;> refine ⟨by omega, by omega, by simp⟩

/-- The signed minimum over a finite set is below every member, and a member or the initial word. -/
theorem fold_minsi_spec {ι : Type} [DecidableEq ι] (S : Finset ι) (a : BitVec 32) (f : ι → BitVec 32) :
    (∀ i ∈ S, (S.fold IntOp.minsi a f).toInt ≤ (f i).toInt) ∧ (S.fold IntOp.minsi a f = a ∨ ∃ i ∈ S, S.fold IntOp.minsi a f = f i) := by
  induction S using Finset.induction_on with
  | empty => simp
  | insert x S hx ih =>
    rw [Finset.fold_insert hx]
    obtain ⟨h1, h2, h3⟩ := minsi_spec (f x) (S.fold IntOp.minsi a f)
    refine ⟨fun i hi => ?_, ?_⟩
    · rcases Finset.mem_insert.mp hi with rfl | hi
      · exact h1
      · exact h2.trans (ih.1 i hi)
    · rcases h3 with h | h
      · exact .inr ⟨x, Finset.mem_insert_self .., h⟩
      · rcases ih.2 with h' | ⟨i, hi, h'⟩
        · exact .inl (h.trans h')
        · exact .inr ⟨i, Finset.mem_insert_of_mem hi, h.trans h'⟩

/-- The minimum of all scores from `⊤` is the picked score. -/
theorem fold_min_eq (s : Fin 1024 → EReal) : Finset.univ.fold min ⊤ s = s (pick s) := by
  apply le_antisymm
  · exact (Finset.fold_min_le _).mpr (.inr ⟨pick s, Finset.mem_univ _, le_rfl⟩)
  · exact (Finset.le_fold_min _).mpr ⟨le_top, fun i _ => (pick_first s).1 i⟩

/-- The smallest index among those whose score is the smallest, as the kernels find it. -/
theorem fold_index_eq (s : Fin 1024 → EReal) (f : Fin 1024 → BitVec 32)
    (hf : ∀ k, f k = if s k = s (pick s) then BitVec.ofNat 32 k.val else 1024#32) :
    Finset.univ.fold IntOp.minsi 2147483647#32 f = BitVec.ofNat 32 (pick s).val := by
  have hp : f (pick s) = BitVec.ofNat 32 (pick s).val := by rw [hf, if_pos rfl]
  have hv : ∀ n : Nat, n ≤ 1024 → (BitVec.ofNat 32 n).toInt = n := fun n hn => by
    rw [BitVec.toInt_eq_toNat_cond, BitVec.toNat_ofNat, Nat.mod_eq_of_lt (by omega), if_pos (by omega)]
  have hle := (fold_minsi_spec Finset.univ 2147483647#32 f).1 (pick s) (Finset.mem_univ _)
  have hlt := (pick s).isLt
  rw [hp, hv _ (by omega)] at hle
  rcases (fold_minsi_spec Finset.univ 2147483647#32 f).2 with h | ⟨i, -, h⟩
  · rw [h] at hle
    have : (2147483647#32).toInt = 2147483647 := by decide
    omega
  · rw [h, hf i]
    rw [h, hf i] at hle
    split at hle <;> rename_i hs
    · rw [if_pos hs]
      rw [hv _ (by omega)] at hle
      have : ¬ i < pick s := fun hl => absurd ((pick_first s).2 i hl) (by rw [hs]; exact lt_irrefl _)
      rw [Fin.lt_def] at this
      rw [show i.val = (pick s).val by omega]
    · have : (1024#32).toInt = 1024 := by decide
      omega

/-! ## One step -/

/-- The squared distance of `v` to code `k`, as both programs expand it. -/
def dist (v : Pt) (cb : Book) (k : Fin 1024) : EReal := (∑ d, v d * v d) - 2 * (∑ d, v d * cb k d) + ∑ d, cb k d * cb k d
/-- The nearest code. -/
def near (v : Pt) (cb : Book) : Fin 1024 := pick (dist v cb)
/-- The way from the vector to its code. -/
def way (v : Pt) (cb : Book) : Pt := fun d => cb (near v cb) d - v d
/-- The quantized vector. -/
def quant (v : Pt) (cb : Book) : Pt := fun d => v d + way v cb d
/-- What is left of the vector. -/
def rest (v : Pt) (cb : Book) : Pt := fun d => v d - quant v cb d
/-- Whether code `k` is the nearest, as a number. -/
def hot (v : Pt) (cb : Book) (k : Fin 1024) : EReal := if k = near v cb then 1 else 0
/-- The squared length of the way. -/
def err (v : Pt) (cb : Book) : EReal := ∑ d, way v cb d * way v cb d

/-! ## A batch of vectors against four codebooks in turn -/

/-- The vectors: by batch and position. -/
abbrev Batch := Fin 8 → Fin 2048 → Pt

/-- What is left of every vector. -/
def rests (x : Batch) (cb : Book) : Batch := fun b t => rest (x b t) cb
/-- How often code `k` is the nearest. -/
def uses (x : Batch) (cb : Book) (k : Fin 1024) : EReal := ∑ b, ∑ t, hot (x b t) cb k
/-- That number as a share of all vectors. -/
def share (x : Batch) (cb : Book) (k : Fin 1024) : EReal := uses x cb k * Ideal.ofBits .f32 0x38800000#32
/-- The perplexity of the choice. -/
def perp (x : Batch) (cb : Book) : EReal :=
  Ideal.exp (-∑ k, share x cb k * Ideal.log (share x cb k + Ideal.ofBits .f32 0x2EDBE6FF#32))
/-- The squared lengths of all ways. -/
def errs (x : Batch) (cb : Book) : EReal := ∑ b, ∑ t, err (x b t) cb
/-- A step's loss: one and a quarter of the mean of the squares. -/
def loss (x : Batch) (cb : Book) : EReal := errs x cb * Ideal.ofBits .f32 0x35200000#32

section
variable (x : Batch) (c : Fin 4 → Book)

def x1 : Batch := rests x (c 0)
def x2 : Batch := rests (x1 x c) (c 1)
def x3 : Batch := rests (x2 x c) (c 2)
/-- The quantized vectors: the sum of the four steps. -/
def total (b : Fin 8) (t : Fin 2048) (d : Fin 128) : EReal :=
  0 + quant (x b t) (c 0) d + quant (x1 x c b t) (c 1) d + quant (x2 x c b t) (c 2) d + quant (x3 x c b t) (c 3) d
/-- The sum of the four losses. -/
def totalLoss : EReal := 0 + loss x (c 0) + loss (x1 x c) (c 1) + loss (x2 x c) (c 2) + loss (x3 x c) (c 3)
/-- The four perplexities. -/
def perps : Fin 4 → EReal := ![perp x (c 0), perp (x1 x c) (c 1), perp (x2 x c) (c 2), perp (x3 x c) (c 3)]
end

/-- The row of a flat batch at which vector `t` of batch `b` lies. -/
def flatRow (b : Fin 8) (t : Fin 2048) : Fin 16384 := ⟨b.val * 2048 + t.val, by omega⟩

/-- A sum over the rows of a flat batch. -/
theorem sum_rows (f : Fin 16384 → EReal) : (∑ n, f n) = ∑ b, ∑ t, f (flatRow b t) := by
  rw [← Fintype.sum_prod_type']
  refine (Fintype.sum_equiv (finProdFinEquiv (m := 8) (n := 2048)) _ _ fun p => ?_).symm
  refine congrArg f (Fin.ext ?_)
  show p.1.val * 2048 + p.2.val = p.2.val + 2048 * p.1.val
  omega

end Cert.Spec

end
-- ==== Proof.Consts.lean ====
/- The constants of both programs as extended reals, and the two ways of scaling a loss. -/
module

public import proofs.«01_k».proof.Proof.Spec

@[expose] public section

namespace Cert.Spec

open Idealize.ShloMosaic

theorem bits_two : Ideal.ofBits .f32 0x40000000#32 = 2 := by
  rw [show (2 : EReal) = ((2 : ℝ) : EReal) by norm_cast]
  simp [Ideal.ofBits, Ideal.ieee, -EReal.coe_mul]; norm_num
theorem bits_quarter : Ideal.ofBits .f32 0x3E800000#32 = ((1 / 4 : ℝ) : EReal) := by
  simp [Ideal.ofBits, Ideal.ieee, -EReal.coe_mul]; norm_num
theorem bits_top : Ideal.ofBits .f32 0x7F800000#32 = ⊤ := by simp [Ideal.ofBits, Ideal.ieee]
theorem bits_cells : Ideal.ofBits .f32 0x4A000000#32 = ((2097152 : ℝ) : EReal) := by
  simp [Ideal.ofBits, Ideal.ieee, -EReal.coe_mul]; norm_num
theorem bits_scale : Ideal.ofBits .f32 0x35200000#32 = ((5 / 8388608 : ℝ) : EReal) := by
  simp [Ideal.ofBits, Ideal.ieee, -EReal.coe_mul]; norm_num
theorem bits_rows : Ideal.ofBits .f32 0x46800000#32 = ((16384 : ℝ) : EReal) := by
  simp [Ideal.ofBits, Ideal.ieee, -EReal.coe_mul]; norm_num
theorem bits_share : Ideal.ofBits .f32 0x38800000#32 = ((1 / 16384 : ℝ) : EReal) := by
  simp [Ideal.ofBits, Ideal.ieee, -EReal.coe_mul]; norm_num

/-- Dividing by the number of rows is multiplying by its inverse. -/
theorem div_rows (x : EReal) : Ideal.div x (Ideal.ofBits .f32 0x46800000#32) = x * Ideal.ofBits .f32 0x38800000#32 := by
  rw [bits_rows, bits_share]
  have h : ((16384 : ℝ) : EReal) ≠ 0 := by exact_mod_cast (by norm_num : (16384 : ℝ) ≠ 0)
  simp only [Ideal.div, if_neg h]
  rw [← EReal.coe_inv]
  norm_num

/-- A quarter of the mean and the mean are the sum times one and a quarter over the number of cells. -/
theorem mean_scale (x : EReal) (hx : 0 ≤ x) :
    Ideal.ofBits .f32 0x3E800000#32 * Ideal.div x (Ideal.ofBits .f32 0x4A000000#32) + Ideal.div x (Ideal.ofBits .f32 0x4A000000#32)
      = x * Ideal.ofBits .f32 0x35200000#32 := by
  rw [bits_quarter, bits_cells, bits_scale]
  have h : ((2097152 : ℝ) : EReal) ≠ 0 := by exact_mod_cast (by norm_num : (2097152 : ℝ) ≠ 0)
  simp only [Ideal.div, if_neg h]
  rw [← EReal.coe_inv]
  induction x using EReal.rec with
  | bot => simp at hx
  | coe a => norm_cast; ring
  | top =>
    rw [EReal.top_mul_coe_of_pos (by norm_num), EReal.top_mul_coe_of_pos (by norm_num), EReal.coe_mul_top_of_pos (by norm_num)]
    rfl

/-- A scale by a nonnegative real goes over a sum of nonnegative terms. -/
theorem scale_add (x y : EReal) : (x + y) * Ideal.ofBits .f32 0x35200000#32 = x * Ideal.ofBits .f32 0x35200000#32 + y * Ideal.ofBits .f32 0x35200000#32 := by
  rw [bits_scale]
  exact EReal.right_distrib_of_nonneg_of_ne_top (by exact_mod_cast (by norm_num : (0 : ℝ) ≤ 5 / 8388608)) (EReal.coe_ne_top _) x y

/-- A square of an extended real is nonnegative. -/
theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

end Cert.Spec
-- ==== Proof.KMath.lean ====
/- The kernel's stage read at one column of a block: the chosen code, the way to it, and what counts and loss receive. -/
module

public import proofs.«01_k».proof.Proof.KVal
public import proofs.«01_k».proof.Proof.Consts

@[expose] public section

set_option maxRecDepth 16384

noncomputable section

namespace Cert.KernelIdeal.Vq

open Idealize.ShloMosaic Idealize.ShloMosaic.TcCoe Cert.KernelIdeal.Gen Cert.Spec

/-- A column of a block. -/
def col (r : FVec Ideal S128x2048 .f32) (t : Fin 2048) : Pt := fun d => r (ix2 d t)

/-- The kernel's choice is the nearest code. -/
theorem choice_apply (r : FVec Ideal S128x2048 .f32) (cn : Vec Ideal S1024x1 .f32) (hi : Vec Ideal S1x1x1024x128 .bf16) (cb : Book)
    (hhi : ∀ k d, hi (ix4 0 0 k d) = cb k d) (hcn : ∀ k, cn (ix2 k 0) = ∑ d, cb k d * cb k d) (k : Fin 1024) (t : Fin 2048) :
    choice r cn hi (ix2 k t) = hot (col r t) cb k := by
  unfold choice k0_pay66 k0_pay65
  pointwise []
  simp only [hhi, hcn, bits_two, bits_top]
  have hd : ∀ x : Fin 1024, (∑ y, r (ix2 y t) * r (ix2 y t) - 2 * ∑ y, cb x y * r (ix2 y t) + ∑ y, cb x y * cb x y : EReal) = dist (col r t) cb x := fun x => by
    unfold Spec.dist col
    simp only [mul_comm (cb x _) (r _)]
  simp only [hd]
  rw [fold_min_eq (fun x => dist (col r t) cb x), fold_index_eq (fun x => dist (col r t) cb x) _ (fun _ => rfl)]
  have hp := (near (col r t) cb).isLt
  have hk := k.isLt
  unfold hot
  show FloatOps.sitofp (F := Ideal) .f32 (BitVec.setWidth 32 (IntOp.cmpi .eq (BitVec.ofNat 32 k.val) (BitVec.ofNat 32 (near (col r t) cb).val))) = _
  by_cases h : k = near (col r t) cb
  · rw [if_pos h, ← h]
    rw [show IntOp.cmpi .eq (BitVec.ofNat 32 k.val) (BitVec.ofNat 32 k.val) = 1#1 by simp [IntOp.cmpi]]
    simp [FloatOps.sitofp]
  · rw [if_neg h]
    have : BitVec.ofNat 32 k.val ≠ BitVec.ofNat 32 (near (col r t) cb).val := fun e => h (Fin.ext (by
      have := congrArg BitVec.toNat e
      simp only [BitVec.toNat_ofNat] at this
      rwa [Nat.mod_eq_of_lt (by omega), Nat.mod_eq_of_lt (by omega)] at this))
    have hb : (BitVec.ofNat 32 k.val == BitVec.ofNat 32 (near (col r t) cb).val) = false := beq_eq_false_iff_ne.mpr this
    rw [show IntOp.cmpi .eq (BitVec.ofNat 32 k.val) (BitVec.ofNat 32 (near (col r t) cb).val) = 0#1 by simp [IntOp.cmpi, hb]]
    simp [FloatOps.sitofp]

theorem sum_hot (v : Pt) (cb : Book) (f : Fin 1024 → EReal) : (∑ k, f k * hot v cb k) = f (near v cb) := by
  unfold hot
  rw [Finset.sum_eq_single (near v cb)]
  · simp
  · intro k _ hk
    simp [hk]
  · simp

/-- The stage's difference is the way to the nearest code, where the second and third parts of the codes vanish. -/
theorem diff_apply (r : FVec Ideal S128x2048 .f32) (hi mid lo : Vec Ideal S1x1x1024x128 .bf16) (oh : FVec Ideal S1024x2048 .bf16) (cb : Book)
    (hhi : ∀ k d, hi (ix4 0 0 k d) = cb k d) (hmid : ∀ k d, mid (ix4 0 0 k d) = (0 : EReal)) (hlo : ∀ k d, lo (ix4 0 0 k d) = (0 : EReal))
    (hoh : ∀ k t, oh (ix2 k t) = hot (col r t) cb k) (d : Fin 128) (t : Fin 2048) :
    diff r hi mid lo oh (ix2 d t) = way (col r t) cb d := by
  unfold diff k0_pay38 k0_pay36
  pointwise []
  simp only [hhi, hmid, hlo, hoh, zero_mul, Finset.sum_const_zero, add_zero, sum_hot (col r t) cb (fun k => cb k d)]
  rfl

/-- A stage's choices, counted. -/
theorem addCnt_apply (oh : FVec Ideal S1024x2048 .bf16) (v : Vec Ideal S1024x1 .f32) (k : Fin 1024) :
    addCnt oh v (ix2 k 0) = v (ix2 k 0) + ∑ t, oh (ix2 k t) := by
  unfold addCnt k0_pay42
  pointwise []

/-- A stage's squared differences, summed. -/
theorem addSq_apply (u : FVec Ideal S128x2048 .f32) (v : Vec Ideal S1x128 .f32) (x : Fin 128) :
    addSq u v (ix2 0 x) = v (ix2 0 x) + ∑ t, ∑ d, u (ix2 d t) * u (ix2 d t) := by
  unfold addSq
  pointwise []
  rw [Finset.sum_comm]

end Cert.KernelIdeal.Vq

end
-- ==== Proof.KIn.lean ====
/- What the kernel's windows hold: a batch of vectors, the codebooks, and the codes' squared lengths. -/
module

public import proofs.«01_k».proof.Proof.KRes
public import proofs.«01_k».proof.Proof.KMath

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The codes' squared lengths, a code a row and a codebook a column, among zeros. -/
def norms (e : Vec F S4x1024x128 .f32) : Vec F S1024x128 .f32 :=
  pad S1024x128 ![0, 0] ![0, 124] ![0, 0] (transpose S1024x4 [1, 0] (Host.reduceAdd (mulf e e) (constant S_ .f32 0x00000000#32) reducesTo_S4x1024x128_S4x1024_d2 h_S_) transposes_S4x1024_S1024x4_1_0)
    (sitofp .f32 (constantI S_ 32 0#32)) pads_S1024x4_S1024x128_000_01240 h_S_

theorem head3 (W : Valuation τ sig (Elt F)) :
    (StableHlo.after (List.flatten [hostOps0, hostOps0_1]) W (Proc.devRef .tc main_v3) : Vec F S1024x128 .f32) = norms (W (Proc.devRef .tc main_arg1) : Vec F S4x1024x128 .f32) := by
  simp only [List.flatten_cons, List.flatten_nil, List.append_nil, List.cons_append, List.nil_append]
  after_results_simp
  rfl

theorem index0 : ∀ t : Fin cfg0.N, win0_0.index t = ![t.val, 0, 0] := by decide +kernel
theorem index1 : ∀ t : Fin cfg0.N, win0_1.index t = ![0, 0, 0] := by decide +kernel
theorem index2 : ∀ t : Fin cfg0.N, win0_2.index t = ![0, 0] := by decide +kernel

/-- Window 0 at the point of batch `b` holds that batch. -/
theorem iblk0_apply (c : Dev nD) (t : Fin cfg0.N) (b : Fin 8) (hb : t.val = b.val) (d : Fin 128) (k : Fin 2048) :
    (iblk m c 0 t : Vec F S1x128x2048 .f32) (ix3 0 d k) = (m ((c : Thread nD τ).loc main_arg0) : Vec F S8x128x2048 .f32) (ix3 b d k) := by
  rw [← V_main_arg0 m c]
  unfold iblk
  show (V m c main_arg0 : Vec F S8x128x2048 .f32) ((win0_0.blk t).view.emb (ix3 0 d k)) = _
  refine congrArg (V m c main_arg0 : Vec F S8x128x2048 .f32) (funext fun a => Fin.ext ?_)
  fin_cases a
  · blk_simp [index0]
    exact hb
  · blk_simp [index0]
    rfl
  · blk_simp [index0]
    rfl

/-- Window 1 holds the codebooks. -/
theorem iblk1_eq (c : Dev nD) (t : Fin cfg0.N) :
    (iblk m c 1 t : Vec F S4x1024x128 .f32) = (m ((c : Thread nD τ).loc main_arg1) : Vec F S4x1024x128 .f32) := by
  rw [← V_main_arg1 m c]
  funext y
  unfold iblk
  show (V m c main_arg1 : Vec F S4x1024x128 .f32) ((win0_1.blk t).view.emb y) = _
  refine congrArg (V m c main_arg1 : Vec F S4x1024x128 .f32) (funext fun a => Fin.ext ?_)
  fin_cases a
  · blk_simp [index1]
  · blk_simp [index1]
  · blk_simp [index1]

/-- Window 2 holds the squared lengths. -/
theorem iblk2_eq (c : Dev nD) (t : Fin cfg0.N) :
    (iblk m c 2 t : Vec F S1024x128 .f32) = norms (m ((c : Thread nD τ).loc main_arg1) : Vec F S4x1024x128 .f32) := by
  refine Eq.trans ?_ (head3 fun b => m (c, b))
  funext y
  unfold iblk
  show (V m c main_v3 : Vec F S1024x128 .f32) ((win0_2.blk t).view.emb y) = (V m c main_v3 : Vec F S1024x128 .f32) y
  refine congrArg (V m c main_v3 : Vec F S1024x128 .f32) (funext fun a => Fin.ext ?_)
  fin_cases a
  · blk_simp [index2]
  · blk_simp [index2]

end Cert.KernelIdeal.Vq

end
-- ==== Proof.KSpec.lean ====
/- The kernel's three results are those of the mathematics, where the codebooks are finite. -/
module

public import proofs.«01_k».proof.Proof.KIn

@[expose] public section

set_option maxRecDepth 16384

noncomputable section

namespace Cert.KernelIdeal.Vq

open Idealize.ShloMosaic Idealize.ShloMosaic.TcCoe Cert.KernelIdeal.Gen Cert.Spec

/-- The vectors of the first argument. -/
def vecs (z : Vec Ideal S8x128x2048 .f32) : Batch := fun b t d => z (ix3 b d t)
/-- The codebooks of the second. -/
def codes (e : Vec Ideal S4x1024x128 .f32) : Fin 4 → Book := fun q k d => e (ix3 q k d)

/-! ## The split codebooks -/

/-- A finite value less itself is zero. -/
theorem sub_same {x : EReal} (hb : x ≠ ⊥) (ht : x ≠ ⊤) : x - x = 0 := EReal.sub_self ht hb

section
variable (e : Vec Ideal S4x1024x128 .f32)

theorem pay9_apply (q : Fin 4) (k : Fin 1024) (d : Fin 128) : k0_pay9 (slab e q) (ix4 0 0 k d) = codes e q k d := by
  unfold k0_pay9
  pointwise [k0_pay5, k0_pay6, k0_pay7, k0_pay8]
  rfl
theorem pay10_apply (h : ∀ q k d, codes e q k d ≠ ⊥ ∧ codes e q k d ≠ ⊤) (q : Fin 4) (k : Fin 1024) (d : Fin 128) : k0_pay10 (slab e q) (ix4 0 0 k d) = (0 : EReal) := by
  unfold k0_pay10
  pointwise [k0_pay5, k0_pay6, k0_pay7, k0_pay8]
  exact sub_same (h q k d).1 (h q k d).2
theorem pay11_apply (h : ∀ q k d, codes e q k d ≠ ⊥ ∧ codes e q k d ≠ ⊤) (q : Fin 4) (k : Fin 1024) (d : Fin 128) : k0_pay11 (slab e q) (ix4 0 0 k d) = (0 : EReal) := by
  unfold k0_pay11
  pointwise [k0_pay5, k0_pay6, k0_pay7, k0_pay8]
  have hs := sub_same (h q k d).1 (h q k d).2
  change (codes e q k d - codes e q k d) - (codes e q k d - codes e q k d) = (0 : EReal)
  rw [hs, sub_zero]

theorem norms_apply (q : Fin 4) (k : Fin 1024) : norms e (ix2 k ⟨q.val, by omega⟩) = ∑ d, codes e q k d * codes e q k d := by
  unfold norms
  have hk := k.isLt
  have hq := q.isLt
  pointwise []
  rfl
end

section
variable (e : Vec Ideal S4x1024x128 .f32)

theorem hi0 (k : Fin 1024) (d : Fin 128) : View.ld (dec e) (Rect.unit ![0, 0, 0, 0] ![1, 1, 1024, 128] inb_S3x4x1024x128_S1x1x1024x128_0_0_0_0) (ix4 0 0 k d) = codes e 0 k d := by
  rw [ld_dec00]; exact pay9_apply e 0 k d
theorem mid0 (h : ∀ q k d, codes e q k d ≠ ⊥ ∧ codes e q k d ≠ ⊤) (k : Fin 1024) (d : Fin 128) : View.ld (dec e) (Rect.unit ![1, 0, 0, 0] ![1, 1, 1024, 128] inb_S3x4x1024x128_S1x1x1024x128_1_0_0_0) (ix4 0 0 k d) = (0 : EReal) := by
  rw [ld_dec10]; exact pay10_apply e h 0 k d
theorem lo0 (h : ∀ q k d, codes e q k d ≠ ⊥ ∧ codes e q k d ≠ ⊤) (k : Fin 1024) (d : Fin 128) : View.ld (dec e) (Rect.unit ![2, 0, 0, 0] ![1, 1, 1024, 128] inb_S3x4x1024x128_S1x1x1024x128_2_0_0_0) (ix4 0 0 k d) = (0 : EReal) := by
  rw [ld_dec20]; exact pay11_apply e h 0 k d
theorem cn0 (k : Fin 1024) : View.ld (norms e) (Rect.unit ![0, 0] ![1024, 1] inb_S1024x128_S1024x1_0_0) (ix2 k 0) = ∑ d, codes e 0 k d * codes e 0 k d := by
  rw [← norms_apply e 0 k]
  refine View.ld_unit_apply_of (norms e) _ _ _ _ _ fun a => ?_
  fin_cases a
  · simp
  · rfl

theorem hi1 (k : Fin 1024) (d : Fin 128) : View.ld (dec e) (Rect.unit ![0, 1, 0, 0] ![1, 1, 1024, 128] inb_S3x4x1024x128_S1x1x1024x128_0_1_0_0) (ix4 0 0 k d) = codes e 1 k d := by
  rw [ld_dec01]; exact pay9_apply e 1 k d
theorem mid1 (h : ∀ q k d, codes e q k d ≠ ⊥ ∧ codes e q k d ≠ ⊤) (k : Fin 1024) (d : Fin 128) : View.ld (dec e) (Rect.unit ![1, 1, 0, 0] ![1, 1, 1024, 128] inb_S3x4x1024x128_S1x1x1024x128_1_1_0_0) (ix4 0 0 k d) = (0 : EReal) := by
  rw [ld_dec11]; exact pay10_apply e h 1 k d
theorem lo1 (h : ∀ q k d, codes e q k d ≠ ⊥ ∧ codes e q k d ≠ ⊤) (k : Fin 1024) (d : Fin 128) : View.ld (dec e) (Rect.unit ![2, 1, 0, 0] ![1, 1, 1024, 128] inb_S3x4x1024x128_S1x1x1024x128_2_1_0_0) (ix4 0 0 k d) = (0 : EReal) := by
  rw [ld_dec21]; exact pay11_apply e h 1 k d
theorem cn1 (k : Fin 1024) : View.ld (norms e) (Rect.unit ![0, 1] ![1024, 1] inb_S1024x128_S1024x1_0_1) (ix2 k 0) = ∑ d, codes e 1 k d * codes e 1 k d := by
  rw [← norms_apply e 1 k]
  refine View.ld_unit_apply_of (norms e) _ _ _ _ _ fun a => ?_
  fin_cases a
  · simp
  · rfl

theorem hi2 (k : Fin 1024) (d : Fin 128) : View.ld (dec e) (Rect.unit ![0, 2, 0, 0] ![1, 1, 1024, 128] inb_S3x4x1024x128_S1x1x1024x128_0_2_0_0) (ix4 0 0 k d) = codes e 2 k d := by
  rw [ld_dec02]; exact pay9_apply e 2 k d
theorem mid2 (h : ∀ q k d, codes e q k d ≠ ⊥ ∧ codes e q k d ≠ ⊤) (k : Fin 1024) (d : Fin 128) : View.ld (dec e) (Rect.unit ![1, 2, 0, 0] ![1, 1, 1024, 128] inb_S3x4x1024x128_S1x1x1024x128_1_2_0_0) (ix4 0 0 k d) = (0 : EReal) := by
  rw [ld_dec12]; exact pay10_apply e h 2 k d
theorem lo2 (h : ∀ q k d, codes e q k d ≠ ⊥ ∧ codes e q k d ≠ ⊤) (k : Fin 1024) (d : Fin 128) : View.ld (dec e) (Rect.unit ![2, 2, 0, 0] ![1, 1, 1024, 128] inb_S3x4x1024x128_S1x1x1024x128_2_2_0_0) (ix4 0 0 k d) = (0 : EReal) := by
  rw [ld_dec22]; exact pay11_apply e h 2 k d
theorem cn2 (k : Fin 1024) : View.ld (norms e) (Rect.unit ![0, 2] ![1024, 1] inb_S1024x128_S1024x1_0_2) (ix2 k 0) = ∑ d, codes e 2 k d * codes e 2 k d := by
  rw [← norms_apply e 2 k]
  refine View.ld_unit_apply_of (norms e) _ _ _ _ _ fun a => ?_
  fin_cases a
  · simp
  · rfl

theorem hi3 (k : Fin 1024) (d : Fin 128) : View.ld (dec e) (Rect.unit ![0, 3, 0, 0] ![1, 1, 1024, 128] inb_S3x4x1024x128_S1x1x1024x128_0_3_0_0) (ix4 0 0 k d) = codes e 3 k d := by
  rw [ld_dec03]; exact pay9_apply e 3 k d
theorem mid3 (h : ∀ q k d, codes e q k d ≠ ⊥ ∧ codes e q k d ≠ ⊤) (k : Fin 1024) (d : Fin 128) : View.ld (dec e) (Rect.unit ![1, 3, 0, 0] ![1, 1, 1024, 128] inb_S3x4x1024x128_S1x1x1024x128_1_3_0_0) (ix4 0 0 k d) = (0 : EReal) := by
  rw [ld_dec13]; exact pay10_apply e h 3 k d
theorem lo3 (h : ∀ q k d, codes e q k d ≠ ⊥ ∧ codes e q k d ≠ ⊤) (k : Fin 1024) (d : Fin 128) : View.ld (dec e) (Rect.unit ![2, 3, 0, 0] ![1, 1, 1024, 128] inb_S3x4x1024x128_S1x1x1024x128_2_3_0_0) (ix4 0 0 k d) = (0 : EReal) := by
  rw [ld_dec23]; exact pay11_apply e h 3 k d
theorem cn3 (k : Fin 1024) : View.ld (norms e) (Rect.unit ![0, 3] ![1024, 1] inb_S1024x128_S1024x1_0_3) (ix2 k 0) = ∑ d, codes e 3 k d * codes e 3 k d := by
  rw [← norms_apply e 3 k]
  refine View.ld_unit_apply_of (norms e) _ _ _ _ _ fun a => ?_
  fin_cases a
  · simp
  · rfl
end

/-! ## One block -/

theorem pay34_apply (x0 : Vec Ideal S1x128x2048 .f32) (d : Fin 128) (t : Fin 2048) : k0_pay34 x0 (ix2 d t) = x0 (ix3 0 d t) := by
  unfold k0_pay34
  pointwise []
theorem pay35_apply (d : Fin 128) (t : Fin 2048) : k0_pay35 (F := Ideal) (ix2 d t) = (0 : EReal) := by
  unfold k0_pay35
  pointwise []

theorem next_apply (r u : FVec Ideal S128x2048 .f32) (cb : Book) (t : Fin 2048) (hu : ∀ d, u (ix2 d t) = way (col r t) cb d) :
    col (next r u) t = rest (col r t) cb := funext fun d => by
  unfold col next
  pointwise []
  rw [hu]
  rfl
theorem gather_apply (r acc u : FVec Ideal S128x2048 .f32) (cb : Book) (t : Fin 2048) (hu : ∀ d, u (ix2 d t) = way (col r t) cb d) (d : Fin 128) :
    gather r acc u (ix2 d t) = acc (ix2 d t) + quant (col r t) cb d := by
  unfold gather
  pointwise []
  rw [hu]
  rfl

section
variable (e : Vec Ideal S4x1024x128 .f32) (h : ∀ q k d, codes e q k d ≠ ⊥ ∧ codes e q k d ≠ ⊤)
  (x0 : Vec Ideal S1x128x2048 .f32) (x : Batch) (b : Fin 8) (hx : ∀ d t, x0 (ix3 0 d t) = x b t d)
include h hx

theorem col0 (t : Fin 2048) : col (k0_pay34 x0) t = x b t := funext fun d => (pay34_apply x0 d t).trans (hx d t)
theorem oh0_apply (k : Fin 1024) (t : Fin 2048) : oh0 x0 (norms e) (dec e) (ix2 k t) = hot (x b t) (codes e 0) k := by
  have := choice_apply (k0_pay34 x0) _ _ (codes e 0) (hi0 e) (cn0 e) k t
  rw [col0 e h x0 x b hx] at this
  exact this
theorem dif0_apply (d : Fin 128) (t : Fin 2048) : dif0 x0 (norms e) (dec e) (ix2 d t) = way (x b t) (codes e 0) d := by
  have := diff_apply (k0_pay34 x0) _ _ _ (oh0 x0 (norms e) (dec e)) (codes e 0) (hi0 e) (mid0 e h) (lo0 e h)
    (fun k t => by rw [oh0_apply e h x0 x b hx, col0 e h x0 x b hx]) d t
  rw [col0 e h x0 x b hx] at this
  exact this
theorem col1 (t : Fin 2048) : col (res1 x0 (norms e) (dec e)) t = x1 x (codes e) b t := by
  have := next_apply (k0_pay34 x0) (dif0 x0 (norms e) (dec e)) (codes e 0) t (fun d => by rw [dif0_apply e h x0 x b hx, col0 e h x0 x b hx])
  rw [col0 e h x0 x b hx] at this
  exact this
theorem oh1_apply (k : Fin 1024) (t : Fin 2048) : oh1 x0 (norms e) (dec e) (ix2 k t) = hot ((x1 x (codes e)) b t) (codes e 1) k := by
  have := choice_apply (res1 x0 (norms e) (dec e)) _ _ (codes e 1) (hi1 e) (cn1 e) k t
  rw [col1 e h x0 x b hx] at this
  exact this
theorem dif1_apply (d : Fin 128) (t : Fin 2048) : dif1 x0 (norms e) (dec e) (ix2 d t) = way ((x1 x (codes e)) b t) (codes e 1) d := by
  have := diff_apply (res1 x0 (norms e) (dec e)) _ _ _ (oh1 x0 (norms e) (dec e)) (codes e 1) (hi1 e) (mid1 e h) (lo1 e h)
    (fun k t => by rw [oh1_apply e h x0 x b hx, col1 e h x0 x b hx]) d t
  rw [col1 e h x0 x b hx] at this
  exact this
theorem col2 (t : Fin 2048) : col (res2 x0 (norms e) (dec e)) t = x2 x (codes e) b t := by
  have := next_apply (res1 x0 (norms e) (dec e)) (dif1 x0 (norms e) (dec e)) (codes e 1) t (fun d => by rw [dif1_apply e h x0 x b hx, col1 e h x0 x b hx])
  rw [col1 e h x0 x b hx] at this
  exact this
theorem oh2_apply (k : Fin 1024) (t : Fin 2048) : oh2 x0 (norms e) (dec e) (ix2 k t) = hot ((x2 x (codes e)) b t) (codes e 2) k := by
  have := choice_apply (res2 x0 (norms e) (dec e)) _ _ (codes e 2) (hi2 e) (cn2 e) k t
  rw [col2 e h x0 x b hx] at this
  exact this
theorem dif2_apply (d : Fin 128) (t : Fin 2048) : dif2 x0 (norms e) (dec e) (ix2 d t) = way ((x2 x (codes e)) b t) (codes e 2) d := by
  have := diff_apply (res2 x0 (norms e) (dec e)) _ _ _ (oh2 x0 (norms e) (dec e)) (codes e 2) (hi2 e) (mid2 e h) (lo2 e h)
    (fun k t => by rw [oh2_apply e h x0 x b hx, col2 e h x0 x b hx]) d t
  rw [col2 e h x0 x b hx] at this
  exact this
theorem col3 (t : Fin 2048) : col (res3 x0 (norms e) (dec e)) t = x3 x (codes e) b t := by
  have := next_apply (res2 x0 (norms e) (dec e)) (dif2 x0 (norms e) (dec e)) (codes e 2) t (fun d => by rw [dif2_apply e h x0 x b hx, col2 e h x0 x b hx])
  rw [col2 e h x0 x b hx] at this
  exact this
theorem oh3_apply (k : Fin 1024) (t : Fin 2048) : oh3 x0 (norms e) (dec e) (ix2 k t) = hot ((x3 x (codes e)) b t) (codes e 3) k := by
  have := choice_apply (res3 x0 (norms e) (dec e)) _ _ (codes e 3) (hi3 e) (cn3 e) k t
  rw [col3 e h x0 x b hx] at this
  exact this
theorem dif3_apply (d : Fin 128) (t : Fin 2048) : dif3 x0 (norms e) (dec e) (ix2 d t) = way ((x3 x (codes e)) b t) (codes e 3) d := by
  have := diff_apply (res3 x0 (norms e) (dec e)) _ _ _ (oh3 x0 (norms e) (dec e)) (codes e 3) (hi3 e) (mid3 e h) (lo3 e h)
    (fun k t => by rw [oh3_apply e h x0 x b hx, col3 e h x0 x b hx]) d t
  rw [col3 e h x0 x b hx] at this
  exact this
theorem acc1_apply (d : Fin 128) (t : Fin 2048) : acc1 x0 (norms e) (dec e) (ix2 d t) = (k0_pay35 (F := Ideal)) (ix2 d t) + quant (x b t) (codes e 0) d := by
  have := gather_apply (k0_pay34 x0) (k0_pay35 (F := Ideal)) (dif0 x0 (norms e) (dec e)) (codes e 0) t (fun d => by rw [dif0_apply e h x0 x b hx, col0 e h x0 x b hx]) d
  rw [col0 e h x0 x b hx] at this
  exact this
theorem acc2_apply (d : Fin 128) (t : Fin 2048) : acc2 x0 (norms e) (dec e) (ix2 d t) = (acc1 x0 (norms e) (dec e)) (ix2 d t) + quant ((x1 x (codes e)) b t) (codes e 1) d := by
  have := gather_apply (res1 x0 (norms e) (dec e)) (acc1 x0 (norms e) (dec e)) (dif1 x0 (norms e) (dec e)) (codes e 1) t (fun d => by rw [dif1_apply e h x0 x b hx, col1 e h x0 x b hx]) d
  rw [col1 e h x0 x b hx] at this
  exact this
theorem acc3_apply (d : Fin 128) (t : Fin 2048) : acc3 x0 (norms e) (dec e) (ix2 d t) = (acc2 x0 (norms e) (dec e)) (ix2 d t) + quant ((x2 x (codes e)) b t) (codes e 2) d := by
  have := gather_apply (res2 x0 (norms e) (dec e)) (acc2 x0 (norms e) (dec e)) (dif2 x0 (norms e) (dec e)) (codes e 2) t (fun d => by rw [dif2_apply e h x0 x b hx, col2 e h x0 x b hx]) d
  rw [col2 e h x0 x b hx] at this
  exact this
theorem acc4_apply (d : Fin 128) (t : Fin 2048) : acc4 x0 (norms e) (dec e) (ix2 d t) = (acc3 x0 (norms e) (dec e)) (ix2 d t) + quant ((x3 x (codes e)) b t) (codes e 3) d := by
  have := gather_apply (res3 x0 (norms e) (dec e)) (acc3 x0 (norms e) (dec e)) (dif3 x0 (norms e) (dec e)) (codes e 3) t (fun d => by rw [dif3_apply e h x0 x b hx, col3 e h x0 x b hx]) d
  rw [col3 e h x0 x b hx] at this
  exact this

/-- The block of quantized vectors. -/
theorem outBlk_apply (d : Fin 128) (t : Fin 2048) : outBlk x0 (norms e) (dec e) (ix3 0 d t) = total x (codes e) b t d := by
  have h4 := acc4_apply e h x0 x b hx d t
  rw [acc3_apply e h x0 x b hx, acc2_apply e h x0 x b hx, acc1_apply e h x0 x b hx, pay35_apply] at h4
  unfold outBlk
  generalize acc4 x0 (norms e) (dec e) = g at h4 ⊢
  pointwise []
  exact h4
theorem cntOut0 (v : Vec Ideal S1024x128 .f32) (k : Fin 1024) :
    cntOut x0 (norms e) v (dec e) (ix2 k 0) = v (ix2 k 0) + ∑ t, hot (x b t) (codes e 0) k := by
  have ha := addCnt_apply (oh0 x0 (norms e) (dec e)) (View.ld v (Rect.unit ![0, 0] ![1024, 1] inb_S1024x128_S1024x1_0_0)) k
  simp only [oh0_apply e h x0 x b hx] at ha
  have hl : View.ld v (Rect.unit ![0, 0] ![1024, 1] inb_S1024x128_S1024x1_0_0) (ix2 k 0) = v (ix2 k 0) := by
    refine View.ld_unit_apply_of v _ _ _ _ _ fun a => ?_
    fin_cases a
    · simp
    · rfl
  rw [hl] at ha
  exact ha
theorem sqOut0 (v : Vec Ideal S8x128 .f32) (l : Fin 128) :
    sqOut x0 (norms e) v (dec e) (ix2 0 l) = v (ix2 0 l) + ∑ t, err (x b t) (codes e 0) := by
  have ha := addSq_apply (dif0 x0 (norms e) (dec e)) (View.ld v (Rect.unit ![0, 0] ![1, 128] inb_S8x128_S1x128_0_0)) l
  simp only [dif0_apply e h x0 x b hx] at ha
  have hl : View.ld v (Rect.unit ![0, 0] ![1, 128] inb_S8x128_S1x128_0_0) (ix2 0 l) = v (ix2 0 l) := by
    refine View.ld_unit_apply_of v _ _ _ _ _ fun a => ?_
    fin_cases a
    · rfl
    · simp
  rw [hl] at ha
  exact ha
theorem cntOut1 (v : Vec Ideal S1024x128 .f32) (k : Fin 1024) :
    cntOut x0 (norms e) v (dec e) (ix2 k 1) = v (ix2 k 1) + ∑ t, hot ((x1 x (codes e)) b t) (codes e 1) k := by
  have ha := addCnt_apply (oh1 x0 (norms e) (dec e)) (View.ld v (Rect.unit ![0, 1] ![1024, 1] inb_S1024x128_S1024x1_0_1)) k
  simp only [oh1_apply e h x0 x b hx] at ha
  have hl : View.ld v (Rect.unit ![0, 1] ![1024, 1] inb_S1024x128_S1024x1_0_1) (ix2 k 0) = v (ix2 k 1) := by
    refine View.ld_unit_apply_of v _ _ _ _ _ fun a => ?_
    fin_cases a
    · simp
    · rfl
  rw [hl] at ha
  exact ha
theorem sqOut1 (v : Vec Ideal S8x128 .f32) (l : Fin 128) :
    sqOut x0 (norms e) v (dec e) (ix2 1 l) = v (ix2 1 l) + ∑ t, err ((x1 x (codes e)) b t) (codes e 1) := by
  have ha := addSq_apply (dif1 x0 (norms e) (dec e)) (View.ld v (Rect.unit ![1, 0] ![1, 128] inb_S8x128_S1x128_1_0)) l
  simp only [dif1_apply e h x0 x b hx] at ha
  have hl : View.ld v (Rect.unit ![1, 0] ![1, 128] inb_S8x128_S1x128_1_0) (ix2 0 l) = v (ix2 1 l) := by
    refine View.ld_unit_apply_of v _ _ _ _ _ fun a => ?_
    fin_cases a
    · rfl
    · simp
  rw [hl] at ha
  exact ha
theorem cntOut2 (v : Vec Ideal S1024x128 .f32) (k : Fin 1024) :
    cntOut x0 (norms e) v (dec e) (ix2 k 2) = v (ix2 k 2) + ∑ t, hot ((x2 x (codes e)) b t) (codes e 2) k := by
  have ha := addCnt_apply (oh2 x0 (norms e) (dec e)) (View.ld v (Rect.unit ![0, 2] ![1024, 1] inb_S1024x128_S1024x1_0_2)) k
  simp only [oh2_apply e h x0 x b hx] at ha
  have hl : View.ld v (Rect.unit ![0, 2] ![1024, 1] inb_S1024x128_S1024x1_0_2) (ix2 k 0) = v (ix2 k 2) := by
    refine View.ld_unit_apply_of v _ _ _ _ _ fun a => ?_
    fin_cases a
    · simp
    · rfl
  rw [hl] at ha
  exact ha
theorem sqOut2 (v : Vec Ideal S8x128 .f32) (l : Fin 128) :
    sqOut x0 (norms e) v (dec e) (ix2 2 l) = v (ix2 2 l) + ∑ t, err ((x2 x (codes e)) b t) (codes e 2) := by
  have ha := addSq_apply (dif2 x0 (norms e) (dec e)) (View.ld v (Rect.unit ![2, 0] ![1, 128] inb_S8x128_S1x128_2_0)) l
  simp only [dif2_apply e h x0 x b hx] at ha
  have hl : View.ld v (Rect.unit ![2, 0] ![1, 128] inb_S8x128_S1x128_2_0) (ix2 0 l) = v (ix2 2 l) := by
    refine View.ld_unit_apply_of v _ _ _ _ _ fun a => ?_
    fin_cases a
    · rfl
    · simp
  rw [hl] at ha
  exact ha
theorem cntOut3 (v : Vec Ideal S1024x128 .f32) (k : Fin 1024) :
    cntOut x0 (norms e) v (dec e) (ix2 k 3) = v (ix2 k 3) + ∑ t, hot ((x3 x (codes e)) b t) (codes e 3) k := by
  have ha := addCnt_apply (oh3 x0 (norms e) (dec e)) (View.ld v (Rect.unit ![0, 3] ![1024, 1] inb_S1024x128_S1024x1_0_3)) k
  simp only [oh3_apply e h x0 x b hx] at ha
  have hl : View.ld v (Rect.unit ![0, 3] ![1024, 1] inb_S1024x128_S1024x1_0_3) (ix2 k 0) = v (ix2 k 3) := by
    refine View.ld_unit_apply_of v _ _ _ _ _ fun a => ?_
    fin_cases a
    · simp
    · rfl
  rw [hl] at ha
  exact ha
theorem sqOut3 (v : Vec Ideal S8x128 .f32) (l : Fin 128) :
    sqOut x0 (norms e) v (dec e) (ix2 3 l) = v (ix2 3 l) + ∑ t, err ((x3 x (codes e)) b t) (codes e 3) := by
  have ha := addSq_apply (dif3 x0 (norms e) (dec e)) (View.ld v (Rect.unit ![3, 0] ![1, 128] inb_S8x128_S1x128_3_0)) l
  simp only [dif3_apply e h x0 x b hx] at ha
  have hl : View.ld v (Rect.unit ![3, 0] ![1, 128] inb_S8x128_S1x128_3_0) (ix2 0 l) = v (ix2 3 l) := by
    refine View.ld_unit_apply_of v _ _ _ _ _ fun a => ?_
    fin_cases a
    · rfl
    · simp
  rw [hl] at ha
  exact ha
end

/-! ## The whole run -/

/-- What eight points add up to, one after the other, is the sum over the batches. -/
theorem sum_points (g : (n : ℕ) → n < cfg0.N → EReal) (f : Fin 8 → EReal) (h0 : ∀ h, g 0 h = 0 + f 0)
    (hs : ∀ n (h : n + 1 < cfg0.N), g (n + 1) h = g n (Nat.lt_of_succ_lt h) + f ⟨n + 1, h⟩) (h7 : 7 < cfg0.N) : g 7 h7 = ∑ b, f b := by
  rw [Fin.sum_univ_eight, hs, hs, hs, hs, hs, hs, hs, h0, zero_add]
  rfl

theorem pay3_apply (y : S1024x128.Idx) : k0_pay3 (F := Ideal) y = (0 : EReal) := by
  unfold k0_pay3
  pointwise []
theorem pay4_apply (y : S8x128.Idx) : k0_pay4 (F := Ideal) y = (0 : EReal) := by
  unfold k0_pay4
  pointwise []

/-- The perplexity of counts `u`. -/
theorem pay1_apply (v : Vec Ideal S1024x4 .f32) (j : Fin 4) (x : Batch) (cb : Book) (hv : ∀ k, v (ix2 k j) = uses x cb k) :
    k0_pay1 v (ix2 0 j) = perp x cb := by
  unfold k0_pay1
  pointwise []
  simp only [hv]
  rw [zero_sub]
  rfl

theorem ld_counts (v : Vec Ideal S1024x128 .f32) (k : Fin 1024) (j : Fin 4) :
    View.ld v (Rect.unit ![0, 0] ![1024, 4] inb_S1024x128_S1024x4_0_0) (ix2 k j) = v (ix2 k ⟨j.val, by omega⟩) := by
  refine View.ld_unit_apply_of v _ _ _ _ _ fun a => ?_
  fin_cases a <;> simp

theorem ld_sums (v : Vec Ideal S8x128 .f32) (j : Fin 4) :
    View.ld v (Rect.unit ![0, 0] ![4, 1] inb_S8x128_S4x1_0_0) (ix2 j 0) = v (ix2 ⟨j.val, by omega⟩ 0) := by
  refine View.ld_unit_apply_of v _ _ _ _ _ fun a => ?_
  fin_cases a
  · simp
  · rfl

section
variable (m : (ℓ : Loc nD τ sig) → Buf (Elt Ideal) ℓ) (c : Dev nD)
theorem cntN_zero (h : 0 < cfg0.N) : cntN m c 0 h = cntOut (iblk m c 0 ⟨0, h⟩) (iblk m c 2 ⟨0, h⟩) (k0_pay3 (F := Ideal)) (split m c) := rfl
theorem cntN_succ (n : ℕ) (h : n + 1 < cfg0.N) : cntN m c (n + 1) h =
    cntOut (iblk m c 0 ⟨n + 1, h⟩) (iblk m c 2 ⟨n + 1, h⟩) (cntN m c n (Nat.lt_of_succ_lt h)) (split m c) := rfl
theorem sqN_zero (h : 0 < cfg0.N) : sqN m c 0 h = sqOut (iblk m c 0 ⟨0, h⟩) (iblk m c 2 ⟨0, h⟩) (k0_pay4 (F := Ideal)) (split m c) := rfl
theorem sqN_succ (n : ℕ) (h : n + 1 < cfg0.N) : sqN m c (n + 1) h =
    sqOut (iblk m c 0 ⟨n + 1, h⟩) (iblk m c 2 ⟨n + 1, h⟩) (sqN m c n (Nat.lt_of_succ_lt h)) (split m c) := rfl
end

section
variable (m : (ℓ : Loc nD τ sig) → Buf (Elt Ideal) ℓ) (c : Dev nD) (z : Vec Ideal S8x128x2048 .f32) (e : Vec Ideal S4x1024x128 .f32)
  (hz : m ((c : Thread nD τ).loc main_arg0) = z) (he : m ((c : Thread nD τ).loc main_arg1) = e)
  (h : ∀ q k d, codes e q k d ≠ ⊥ ∧ codes e q k d ≠ ⊤)
include hz he h

theorem block_in (t : Fin cfg0.N) (b : Fin 8) (hb : t.val = b.val) (d : Fin 128) (k : Fin 2048) : (iblk m c 0 t : Vec Ideal S1x128x2048 .f32) (ix3 0 d k) = vecs z b k d := by
  rw [iblk0_apply m c t b hb d k, hz]
  rfl
theorem split_in : split m c = dec e := by
  unfold split
  rw [iblk1_eq m c pt0, he]
theorem norms_in (t : Fin cfg0.N) : (iblk m c 2 t : Vec Ideal S1024x128 .f32) = norms e := by
  rw [iblk2_eq m c t, he]

/-- The kernel's first result. -/
theorem zqOut_eq : zqOut m c = fun y => total (vecs z) (codes e) (y 0) (y 2) (y 1) := by
  funext y
  unfold zqOut
  rw [norms_in m c z e hz he h, split_in m c z e hz he h]
  exact outBlk_apply e h _ (vecs z) (y 0) (block_in m c z e hz he h (pt (y 0)) (y 0) rfl) (y 1) (y 2)

theorem cntN0 (k : Fin 1024) : cntN m c 7 pt7.isLt (ix2 k 0) = uses (vecs z) (codes e 0) k := by
  refine sum_points (fun n hn => cntN m c n hn (ix2 k 0)) (fun b => ∑ t, hot ((vecs z) b t) (codes e 0) k) (fun hn => ?_) (fun n hn => ?_) pt7.isLt
  · show cntN m c 0 hn (ix2 k 0) = 0 + ∑ t, hot ((vecs z) 0 t) (codes e 0) k
    rw [cntN_zero, norms_in m c z e hz he h, split_in m c z e hz he h, cntOut0 e h _ (vecs z) 0 (block_in m c z e hz he h ⟨0, hn⟩ 0 rfl), pay3_apply]
  · show cntN m c (n + 1) hn (ix2 k 0) = cntN m c n (Nat.lt_of_succ_lt hn) (ix2 k 0) + ∑ t, hot ((vecs z) ⟨n + 1, hn⟩ t) (codes e 0) k
    rw [cntN_succ, norms_in m c z e hz he h, split_in m c z e hz he h, cntOut0 e h _ (vecs z) ⟨n + 1, hn⟩ (block_in m c z e hz he h ⟨n + 1, hn⟩ ⟨n + 1, hn⟩ rfl)]
theorem sqN0 (l : Fin 128) : sqN m c 7 pt7.isLt (ix2 0 l) = errs (vecs z) (codes e 0) := by
  refine sum_points (fun n hn => sqN m c n hn (ix2 0 l)) (fun b => ∑ t, err ((vecs z) b t) (codes e 0)) (fun hn => ?_) (fun n hn => ?_) pt7.isLt
  · show sqN m c 0 hn (ix2 0 l) = 0 + ∑ t, err ((vecs z) 0 t) (codes e 0)
    rw [sqN_zero, norms_in m c z e hz he h, split_in m c z e hz he h, sqOut0 e h _ (vecs z) 0 (block_in m c z e hz he h ⟨0, hn⟩ 0 rfl), pay4_apply]
  · show sqN m c (n + 1) hn (ix2 0 l) = sqN m c n (Nat.lt_of_succ_lt hn) (ix2 0 l) + ∑ t, err ((vecs z) ⟨n + 1, hn⟩ t) (codes e 0)
    rw [sqN_succ, norms_in m c z e hz he h, split_in m c z e hz he h, sqOut0 e h _ (vecs z) ⟨n + 1, hn⟩ (block_in m c z e hz he h ⟨n + 1, hn⟩ ⟨n + 1, hn⟩ rfl)]

theorem cntN1 (k : Fin 1024) : cntN m c 7 pt7.isLt (ix2 k 1) = uses (x1 (vecs z) (codes e)) (codes e 1) k := by
  refine sum_points (fun n hn => cntN m c n hn (ix2 k 1)) (fun b => ∑ t, hot ((x1 (vecs z) (codes e)) b t) (codes e 1) k) (fun hn => ?_) (fun n hn => ?_) pt7.isLt
  · show cntN m c 0 hn (ix2 k 1) = 0 + ∑ t, hot ((x1 (vecs z) (codes e)) 0 t) (codes e 1) k
    rw [cntN_zero, norms_in m c z e hz he h, split_in m c z e hz he h, cntOut1 e h _ (vecs z) 0 (block_in m c z e hz he h ⟨0, hn⟩ 0 rfl), pay3_apply]
  · show cntN m c (n + 1) hn (ix2 k 1) = cntN m c n (Nat.lt_of_succ_lt hn) (ix2 k 1) + ∑ t, hot ((x1 (vecs z) (codes e)) ⟨n + 1, hn⟩ t) (codes e 1) k
    rw [cntN_succ, norms_in m c z e hz he h, split_in m c z e hz he h, cntOut1 e h _ (vecs z) ⟨n + 1, hn⟩ (block_in m c z e hz he h ⟨n + 1, hn⟩ ⟨n + 1, hn⟩ rfl)]
theorem sqN1 (l : Fin 128) : sqN m c 7 pt7.isLt (ix2 1 l) = errs (x1 (vecs z) (codes e)) (codes e 1) := by
  refine sum_points (fun n hn => sqN m c n hn (ix2 1 l)) (fun b => ∑ t, err ((x1 (vecs z) (codes e)) b t) (codes e 1)) (fun hn => ?_) (fun n hn => ?_) pt7.isLt
  · show sqN m c 0 hn (ix2 1 l) = 0 + ∑ t, err ((x1 (vecs z) (codes e)) 0 t) (codes e 1)
    rw [sqN_zero, norms_in m c z e hz he h, split_in m c z e hz he h, sqOut1 e h _ (vecs z) 0 (block_in m c z e hz he h ⟨0, hn⟩ 0 rfl), pay4_apply]
  · show sqN m c (n + 1) hn (ix2 1 l) = sqN m c n (Nat.lt_of_succ_lt hn) (ix2 1 l) + ∑ t, err ((x1 (vecs z) (codes e)) ⟨n + 1, hn⟩ t) (codes e 1)
    rw [sqN_succ, norms_in m c z e hz he h, split_in m c z e hz he h, sqOut1 e h _ (vecs z) ⟨n + 1, hn⟩ (block_in m c z e hz he h ⟨n + 1, hn⟩ ⟨n + 1, hn⟩ rfl)]

theorem cntN2 (k : Fin 1024) : cntN m c 7 pt7.isLt (ix2 k 2) = uses (x2 (vecs z) (codes e)) (codes e 2) k := by
  refine sum_points (fun n hn => cntN m c n hn (ix2 k 2)) (fun b => ∑ t, hot ((x2 (vecs z) (codes e)) b t) (codes e 2) k) (fun hn => ?_) (fun n hn => ?_) pt7.isLt
  · show cntN m c 0 hn (ix2 k 2) = 0 + ∑ t, hot ((x2 (vecs z) (codes e)) 0 t) (codes e 2) k
    rw [cntN_zero, norms_in m c z e hz he h, split_in m c z e hz he h, cntOut2 e h _ (vecs z) 0 (block_in m c z e hz he h ⟨0, hn⟩ 0 rfl), pay3_apply]
  · show cntN m c (n + 1) hn (ix2 k 2) = cntN m c n (Nat.lt_of_succ_lt hn) (ix2 k 2) + ∑ t, hot ((x2 (vecs z) (codes e)) ⟨n + 1, hn⟩ t) (codes e 2) k
    rw [cntN_succ, norms_in m c z e hz he h, split_in m c z e hz he h, cntOut2 e h _ (vecs z) ⟨n + 1, hn⟩ (block_in m c z e hz he h ⟨n + 1, hn⟩ ⟨n + 1, hn⟩ rfl)]
theorem sqN2 (l : Fin 128) : sqN m c 7 pt7.isLt (ix2 2 l) = errs (x2 (vecs z) (codes e)) (codes e 2) := by
  refine sum_points (fun n hn => sqN m c n hn (ix2 2 l)) (fun b => ∑ t, err ((x2 (vecs z) (codes e)) b t) (codes e 2)) (fun hn => ?_) (fun n hn => ?_) pt7.isLt
  · show sqN m c 0 hn (ix2 2 l) = 0 + ∑ t, err ((x2 (vecs z) (codes e)) 0 t) (codes e 2)
    rw [sqN_zero, norms_in m c z e hz he h, split_in m c z e hz he h, sqOut2 e h _ (vecs z) 0 (block_in m c z e hz he h ⟨0, hn⟩ 0 rfl), pay4_apply]
  · show sqN m c (n + 1) hn (ix2 2 l) = sqN m c n (Nat.lt_of_succ_lt hn) (ix2 2 l) + ∑ t, err ((x2 (vecs z) (codes e)) ⟨n + 1, hn⟩ t) (codes e 2)
    rw [sqN_succ, norms_in m c z e hz he h, split_in m c z e hz he h, sqOut2 e h _ (vecs z) ⟨n + 1, hn⟩ (block_in m c z e hz he h ⟨n + 1, hn⟩ ⟨n + 1, hn⟩ rfl)]

theorem cntN3 (k : Fin 1024) : cntN m c 7 pt7.isLt (ix2 k 3) = uses (x3 (vecs z) (codes e)) (codes e 3) k := by
  refine sum_points (fun n hn => cntN m c n hn (ix2 k 3)) (fun b => ∑ t, hot ((x3 (vecs z) (codes e)) b t) (codes e 3) k) (fun hn => ?_) (fun n hn => ?_) pt7.isLt
  · show cntN m c 0 hn (ix2 k 3) = 0 + ∑ t, hot ((x3 (vecs z) (codes e)) 0 t) (codes e 3) k
    rw [cntN_zero, norms_in m c z e hz he h, split_in m c z e hz he h, cntOut3 e h _ (vecs z) 0 (block_in m c z e hz he h ⟨0, hn⟩ 0 rfl), pay3_apply]
  · show cntN m c (n + 1) hn (ix2 k 3) = cntN m c n (Nat.lt_of_succ_lt hn) (ix2 k 3) + ∑ t, hot ((x3 (vecs z) (codes e)) ⟨n + 1, hn⟩ t) (codes e 3) k
    rw [cntN_succ, norms_in m c z e hz he h, split_in m c z e hz he h, cntOut3 e h _ (vecs z) ⟨n + 1, hn⟩ (block_in m c z e hz he h ⟨n + 1, hn⟩ ⟨n + 1, hn⟩ rfl)]
theorem sqN3 (l : Fin 128) : sqN m c 7 pt7.isLt (ix2 3 l) = errs (x3 (vecs z) (codes e)) (codes e 3) := by
  refine sum_points (fun n hn => sqN m c n hn (ix2 3 l)) (fun b => ∑ t, err ((x3 (vecs z) (codes e)) b t) (codes e 3)) (fun hn => ?_) (fun n hn => ?_) pt7.isLt
  · show sqN m c 0 hn (ix2 3 l) = 0 + ∑ t, err ((x3 (vecs z) (codes e)) 0 t) (codes e 3)
    rw [sqN_zero, norms_in m c z e hz he h, split_in m c z e hz he h, sqOut3 e h _ (vecs z) 0 (block_in m c z e hz he h ⟨0, hn⟩ 0 rfl), pay4_apply]
  · show sqN m c (n + 1) hn (ix2 3 l) = sqN m c n (Nat.lt_of_succ_lt hn) (ix2 3 l) + ∑ t, err ((x3 (vecs z) (codes e)) ⟨n + 1, hn⟩ t) (codes e 3)
    rw [sqN_succ, norms_in m c z e hz he h, split_in m c z e hz he h, sqOut3 e h _ (vecs z) ⟨n + 1, hn⟩ (block_in m c z e hz he h ⟨n + 1, hn⟩ ⟨n + 1, hn⟩ rfl)]

/-- The kernel's third result. -/
theorem perpOut_eq (j : Fin 4) : perpOut m c (ix2 0 j) = perps (vecs z) (codes e) j := by
  unfold perpOut perps
  match j with
  | 0 => exact pay1_apply _ 0 (vecs z) (codes e 0) fun k => (ld_counts _ k 0).trans (cntN0 m c z e hz he h k)
  | 1 => exact pay1_apply _ 1 (x1 (vecs z) (codes e)) (codes e 1) fun k => (ld_counts _ k 1).trans (cntN1 m c z e hz he h k)
  | 2 => exact pay1_apply _ 2 (x2 (vecs z) (codes e)) (codes e 2) fun k => (ld_counts _ k 2).trans (cntN2 m c z e hz he h k)
  | 3 => exact pay1_apply _ 3 (x3 (vecs z) (codes e)) (codes e 3) fun k => (ld_counts _ k 3).trans (cntN3 m c z e hz he h k)

/-- The kernel's second result. -/
theorem lossOut_eq : lossOut m c (ix2 0 0) = totalLoss (vecs z) (codes e) := by
  unfold lossOut totalLoss loss k0_pay2
  have hl := ld_sums (sqN m c 7 pt7.isLt)
  generalize View.ld (sqN m c 7 pt7.isLt) (Rect.unit ![0, 0] ![4, 1] inb_S8x128_S4x1_0_0) = v at hl ⊢
  have h0 : v (ix2 0 0) = _ := (hl 0).trans (sqN0 m c z e hz he h 0)
  have h1 : v (ix2 1 0) = _ := (hl 1).trans (sqN1 m c z e hz he h 0)
  have h2 : v (ix2 2 0) = _ := (hl 2).trans (sqN2 m c z e hz he h 0)
  have h3 : v (ix2 3 0) = _ := (hl 3).trans (sqN3 m c z e hz he h 0)
  pointwise []
  simp only [Fin.sum_univ_four, Finset.univ_unique, Finset.sum_singleton]
  rw [h0, h1, h2, h3, scale_add, scale_add, scale_add]
end

end Cert.KernelIdeal.Vq
end
-- ==== Proof.Pre.lean ====
/- The precondition: what it says of the codebooks, and its shape facts. -/
module

public import proofs.«01_k».proof.Pre_codes_finite
public import proofs.«01_k».proof.Proof.KSpec
public import Idealize.ShloMosaic.Lib.ReduceAll

@[expose] public section

noncomputable section

namespace Cert.Pre_codes_finite

open Idealize.ShloMosaic

/-- The shapes of the precondition fit together. -/
instance shapes : Facts where
  bcast_S_S4x1024x128 := by decide
  reducesTo_S4x1024x128_S_d0_1_2 := by decide
  h_S_ := by decide

/-- A value whose absolute value is below infinity is a real number. -/
theorem real_of_abs_lt {x : EReal} (h : max x (-x) < ⊤) : x ≠ ⊥ ∧ x ≠ ⊤ := by
  constructor <;> rintro rfl <;> simp at h

/-- Where the precondition holds, every entry of the codebooks is a real number. -/
theorem finite [Facts] (z : FVec Ideal S8x128x2048 .f32) (e : FVec Ideal S4x1024x128 .f32) (h : fn (F := Ideal) z e = fun _ => 1#1)
    (q : Fin 4) (k : Fin 1024) (d : Fin 128) : e (ix3 q k d) ≠ ⊥ ∧ e (ix3 q k d) ≠ ⊤ := by
  haveI : Subsingleton S_.Idx := ⟨fun _ _ => funext fun i => i.elim0⟩
  have h1 := Host.reduce_andi_all _ _ _ _ (fun i => i.elim0) (congrFun h fun i => i.elim0) (ix3 q k d)
  have h2 : Ideal.cmp .olt (max (e (ix3 q k d)) (-(e (ix3 q k d)))) (Ideal.ofBits .f32 0x7F800000#32) = 1#1 := h1
  rw [Cert.Spec.bits_top] at h2
  refine real_of_abs_lt ?_
  by_contra hn
  have h3 : Ideal.cmp .olt (max (e (ix3 q k d)) (-(e (ix3 q k d)))) ⊤ = 0#1 := by
    show BitVec.ofBool (decide _) = _
    rw [decide_eq_false hn]; rfl
  rw [h3] at h2
  exact absurd h2 (by decide)

end Cert.Pre_codes_finite

end
-- ==== Proof.RVal.lean ====
/- The reference as functions: one quantization step over the flattened residual and one codebook. -/
module

public import proofs.«01_k».proof.Proof.Gen.ReferenceIdeal

@[expose] public section

set_option Elab.async false

noncomputable section

namespace Cert.ReferenceIdeal.Vq

open Cert.ReferenceIdeal Cert.ReferenceIdeal.Gen Idealize.ShloMosaic Idealize.ShloMosaic.TcCoe Idealize.SL.Sem Idealize.ShloMosaic.StableHlo

variable {F : FTy → Type} [FloatOps F]

/-- The vectors to quantize, one per row. -/
def flatz (z : Vec F S8x128x2048 .f32) : Vec F S16384x128 .f32 :=
  shapeCast S16384x128 (transpose S8x2048x128 [0, 2, 1] z transposes_S8x128x2048_S8x2048x128_0_2_1) shapeCasts_S8x2048x128_S16384x128
/-- The quantized rows before any step. -/
def zeros : Vec F S16384x128 .f32 := broadcastInDim S16384x128 ![] bcast_S_S16384x128 (constant S_ .f32 0x00000000#32)
/-- Codebook 0. -/
def code0 (e : Vec F S4x1024x128 .f32) : Vec F S1024x128 .f32 :=
  shapeCast S1024x128 (extractStridedSlice S1x1024x128 ![0, 0, 0] e slices_S4x1024x128_S1x1024x128_0_0_0) shapeCasts_S1x1024x128_S1024x128
/-- Codebook 1. -/
def code1 (e : Vec F S4x1024x128 .f32) : Vec F S1024x128 .f32 :=
  shapeCast S1024x128 (extractStridedSlice S1x1024x128 ![1, 0, 0] e slices_S4x1024x128_S1x1024x128_1_0_0) shapeCasts_S1x1024x128_S1024x128
/-- Codebook 2. -/
def code2 (e : Vec F S4x1024x128 .f32) : Vec F S1024x128 .f32 :=
  shapeCast S1024x128 (extractStridedSlice S1x1024x128 ![2, 0, 0] e slices_S4x1024x128_S1x1024x128_2_0_0) shapeCasts_S1x1024x128_S1024x128
/-- Codebook 3. -/
def code3 (e : Vec F S4x1024x128 .f32) : Vec F S1024x128 .f32 :=
  shapeCast S1024x128 (extractStridedSlice S1x1024x128 ![3, 0, 0] e slices_S4x1024x128_S1x1024x128_3_0_0) shapeCasts_S1x1024x128_S1024x128
/-- The squared distances of every row to every code. -/
def scoreR (r : Vec F S16384x128 .f32) (e : Vec F S1024x128 .f32) : Vec F S16384x1024 .f32 :=
  addf (subf (broadcastInDim S16384x1024 ![0, 1] bcast_S16384x1_S16384x1024_0_1 (broadcastInDim S16384x1 ![0] bcast_S16384_S16384x1_0
      (Host.reduceAdd (mulf r r) (constant S_ .f32 0x00000000#32) reducesTo_S16384x128_S16384_d1 h_S_)))
    (mulf (broadcastInDim S16384x1024 ![] bcast_S_S16384x1024 (constant S_ .f32 0x40000000#32))
      (Host.dotGeneral dot_S16384x128_S128x1024_S16384x1024_1_0_0_1_n_n none r (transpose S128x1024 [1, 0] e transposes_S1024x128_S128x1024_1_0))))
    (broadcastInDim S16384x1024 ![0, 1] bcast_S1x1024_S16384x1024_0_1 (broadcastInDim S1x1024 ![1] bcast_S1024_S1x1024_1
      (Host.reduceAdd (mulf e e) (constant S_ .f32 0x00000000#32) reducesTo_S1024x128_S1024_d1 h_S_)))
/-- The nearest code of every row. -/
def nearR (s : Vec F S16384x1024 .f32) : Vec F S16384 .i32 := fun j =>
  (Host.argReduce reducer_argmin_f32_i32 s (iotaInDim S16384x1024 32 1) (constant S_ .f32 0x7F800000#32) (constantI S_ 32 0#32) reducesTo_S16384x1024_S16384_d1 h_S_ j).2
/-- The index a row is read at: a negative one counts from the end. -/
def wrapR (i : Vec F S16384 .i32) : Vec F S16384x1 .i32 := broadcastInDim S16384x1 ![0] bcast_S16384_S16384x1_0
  (select (cmpi .slt i (broadcastInDim S16384 ![] bcast_S_S16384 (constantI S_ 32 0#32)))
    (addi i (broadcastInDim S16384 ![] bcast_S_S16384 (constantI S_ 32 1024#32))) i)
/-- The codes at the indices. -/
def takeR (e : Vec F S1024x128 .f32) (i : Vec F S16384 .i32) : Vec F S16384x128 .f32 :=
  select (broadcastInDim S16384x128 ![0] bcast_S16384_S16384x128_0
      (Host.reduce IntOp.andi (andi (cmpi .sge (wrapR (F := F) i) (broadcastInDim S16384x1 ![] bcast_S_S16384x1 (constantI S_ 32 0#32)))
        (cmpi .sle (wrapR (F := F) i) (broadcastInDim S16384x1 ![0, 1] bcast_S1x1_S16384x1_0_1 (broadcastInDim S1x1 ![1] bcast_S1_S1x1_1 (constantI S1 32 1023#32)))))
        (constantI S_ 1 1#1) reducesTo_S16384x1_S16384_d1 h_S_))
    (Host.gather gather_S1024x128_S16384x1_S16384x128_1_0_n_n_0_1_1128 e (wrapR (F := F) i))
    (broadcastInDim S16384x128 ![] bcast_S_S16384x128 (constant S_ .f32 0x7FC00000#32))
/-- Each row's index as a row of zeros and a one. -/
def hotR (i : Vec F S16384 .i32) : Vec F S16384x1024 .f32 :=
  uitofp .f32 (cmpi .eq (broadcastInDim S16384x1024 ![0, 1] bcast_S16384x1_S16384x1024_0_1 (broadcastInDim S16384x1 ![0] bcast_S16384_S16384x1_0 i))
    (broadcastInDim S16384x1024 ![0, 1] bcast_S1x1024_S16384x1024_0_1 (iotaInDim S1x1024 32 1)))
/-- How often each code is used, as a share of the rows. -/
def shareR (i : Vec F S16384 .i32) : Vec F S1024 .f32 :=
  Host.divf (Host.reduceAdd (hotR (F := F) i) (constant S_ .f32 0x00000000#32) reducesTo_S16384x1024_S1024_d0 h_S_)
    (broadcastInDim S1024 ![] bcast_S_S1024 (constant S_ .f32 0x46800000#32))
/-- The perplexity of the choice. -/
def perpR (i : Vec F S16384 .i32) : Vec F S_ .f32 :=
  Host.exp (Host.negf (Host.reduceAdd (mulf (shareR (F := F) i) (Host.log (addf (shareR (F := F) i) (broadcastInDim S1024 ![] bcast_S_S1024 (constant S_ .f32 0x2EDBE6FF#32)))))
    (constant S_ .f32 0x00000000#32) reducesTo_S1024_S_d0 h_S_))
/-- The mean squared error. -/
def meanR (t r : Vec F S16384x128 .f32) : Vec F S_ .f32 :=
  Host.divf (Host.reduceAdd (mulf (subf t r) (subf t r)) (constant S_ .f32 0x00000000#32) reducesTo_S16384x128_S_d0_1 h_S_) (constant S_ .f32 0x4A000000#32)
/-- The step's loss. -/
def lossR (t r : Vec F S16384x128 .f32) : Vec F S_ .f32 := addf (mulf (constant S_ .f32 0x3E800000#32) (meanR t r)) (meanR t r)
/-- The quantized rows of one step: the row and the way from it to its code. -/
def quantR (t r : Vec F S16384x128 .f32) : Vec F S16384x128 .f32 := addf r (subf t r)
/-- Four scalars in a row. -/
def rowR (u0 u1 u2 u3 : Vec F S1 .f32) : Vec F S4 .f32 :=
  concatenate S4 0 [⟨S1, u0⟩, ⟨S1, u1⟩, ⟨S1, u2⟩, ⟨S1, u3⟩] concatenates_S1_S1_S1_S1_S4_d0
/-- The four perplexities. -/
def stackR (p0 p1 p2 p3 : Vec F S_ .f32) : Vec F S4 .f32 :=
  rowR (broadcastInDim S1 ![] bcast_S_S1 p0) (broadcastInDim S1 ![] bcast_S_S1 p1) (broadcastInDim S1 ![] bcast_S_S1 p2) (broadcastInDim S1 ![] bcast_S_S1 p3)
/-- The rows put back in the argument's layout. -/
def unflat (q : Vec F S16384x128 .f32) : Vec F S8x128x2048 .f32 :=
  transpose S8x128x2048 [0, 2, 1] (shapeCast S8x2048x128 q shapeCasts_S16384x128_S8x2048x128) transposes_S8x2048x128_S8x128x2048_0_2_1

/-! ## The four steps -/

/-- The nearest codes to residual `r` in codebook `e`. -/
def ixR (r : Vec F S16384x128 .f32) (e : Vec F S1024x128 .f32) : Vec F S16384 .i32 := nearR (F := F) (scoreR r e)
def tkR (r : Vec F S16384x128 .f32) (e : Vec F S1024x128 .f32) : Vec F S16384x128 .f32 := takeR e (ixR r e)
def qstR (r : Vec F S16384x128 .f32) (e : Vec F S1024x128 .f32) : Vec F S16384x128 .f32 := quantR (tkR r e) r
def nextR (r : Vec F S16384x128 .f32) (e : Vec F S1024x128 .f32) : Vec F S16384x128 .f32 := subf r (qstR r e)
variable (z : Vec F S8x128x2048 .f32) (e : Vec F S4x1024x128 .f32)
def r0 : Vec F S16384x128 .f32 := flatz z
def r1 : Vec F S16384x128 .f32 := nextR (r0 z) (code0 e)
def r2 : Vec F S16384x128 .f32 := nextR (r1 z e) (code1 e)
def r3 : Vec F S16384x128 .f32 := nextR (r2 z e) (code2 e)
def a1 : Vec F S16384x128 .f32 := addf zeros (qstR (r0 z) (code0 e))
def t1 : Vec F S_ .f32 := addf (constant S_ .f32 0x00000000#32) (lossR (tkR (r0 z) (code0 e)) (r0 z))
def p0 : Vec F S_ .f32 := perpR (F := F) (ixR (r0 z) (code0 e))
def a2 : Vec F S16384x128 .f32 := addf (a1 z e) (qstR (r1 z e) (code1 e))
def t2 : Vec F S_ .f32 := addf (t1 z e) (lossR (tkR (r1 z e) (code1 e)) (r1 z e))
def p1 : Vec F S_ .f32 := perpR (F := F) (ixR (r1 z e) (code1 e))
def a3 : Vec F S16384x128 .f32 := addf (a2 z e) (qstR (r2 z e) (code2 e))
def t3 : Vec F S_ .f32 := addf (t2 z e) (lossR (tkR (r2 z e) (code2 e)) (r2 z e))
def p2 : Vec F S_ .f32 := perpR (F := F) (ixR (r2 z e) (code2 e))
def a4 : Vec F S16384x128 .f32 := addf (a3 z e) (qstR (r3 z e) (code3 e))
def t4 : Vec F S_ .f32 := addf (t3 z e) (lossR (tkR (r3 z e) (code3 e)) (r3 z e))
def p3 : Vec F S_ .f32 := perpR (F := F) (ixR (r3 z e) (code3 e))

end Cert.ReferenceIdeal.Vq

end
-- ==== Proof.RMath.lean ====
/- The reference's step read at one row: its nearest code and the code itself. -/
module

public import proofs.«01_k».proof.Proof.RVal
public import proofs.«01_k».proof.Proof.Consts
public import Idealize.ShloMosaic.Lib.Routing.Ops

@[expose] public section

set_option maxRecDepth 16384

noncomputable section

namespace Cert.ReferenceIdeal.Vq

open Cert.ReferenceIdeal Cert.ReferenceIdeal.Gen Cert.Spec Idealize.ShloMosaic Idealize.ShloMosaic.TcCoe Idealize.SL.Sem Idealize.ShloMosaic.StableHlo

/-- A row of a residual. -/
def row (r : Vec Ideal S16384x128 .f32) (n : Fin 16384) : Pt := fun d => r (ix2 n d)
/-- A codebook's codes. -/
def book (e : Vec Ideal S1024x128 .f32) : Book := fun k d => e (ix2 k d)

theorem scoreR_apply (r : Vec Ideal S16384x128 .f32) (e : Vec Ideal S1024x128 .f32) (n : Fin 16384) (k : Fin 1024) :
    scoreR r e (ix2 n k) = dist (row r n) (book e) k := by
  unfold scoreR
  pointwise []
  rw [bits_two]
  rfl

/-! ## The first minimum, as the reference folds it -/

/-- The order of the fold: by value, then by index. -/
def Below (p q : EReal × BitVec 32) : Prop := p.1 < q.1 ∨ p.1 = q.1 ∧ p.2.toInt ≤ q.2.toInt

theorem Below.refl (p : EReal × BitVec 32) : Below p p := .inr ⟨rfl, le_rfl⟩
theorem Below.trans {p q r : EReal × BitVec 32} (h : Below p q) (h' : Below q r) : Below p r := by
  rcases h with h | ⟨h, g⟩ <;> rcases h' with h' | ⟨h', g'⟩
  · exact .inl (h.trans h')
  · exact .inl (h' ▸ h)
  · exact .inl (h ▸ h')
  · exact .inr ⟨h.trans h', g.trans g'⟩

theorem reducer_spec (a b : EReal × BitVec 32) : (reducer_argmin_f32_i32 (F := Ideal) a b = a ∨ reducer_argmin_f32_i32 (F := Ideal) a b = b) ∧
    Below (reducer_argmin_f32_i32 (F := Ideal) a b) a ∧ Below (reducer_argmin_f32_i32 (F := Ideal) a b) b := by
  obtain ⟨a1, a2⟩ := a
  obtain ⟨b1, b2⟩ := b
  have key : reducer_argmin_f32_i32 (F := Ideal) (a1, a2) (b1, b2) = if a1 < b1 ∨ a1 = b1 ∧ a2.toInt < b2.toInt then (a1, a2) else (b1, b2) := by
    unfold reducer_argmin_f32_i32
    simp only [Ideal.cmpf_def, Ideal.cmp, IntOp.cmpi, IntOp.ori, IntOp.andi, Scalar.select, BitVec.slt]
    by_cases h1 : a1 < b1
    · by_cases h4 : a1 = b1 <;> by_cases h3 : a2.toInt < b2.toInt <;> simp [h1, h4, h3]
    · by_cases h2 : a1 = b1
      · by_cases h3 : a2.toInt < b2.toInt <;> simp [h1, h2, h3]
      · simp [h1, h2]
  rw [key]
  split
  · rename_i h
    refine ⟨.inl rfl, Below.refl _, ?_⟩
    rcases h with h | ⟨h, g⟩
    · exact .inl h
    · exact .inr ⟨h, g.le⟩
  · rename_i h
    refine ⟨.inr rfl, ?_, Below.refl _⟩
    rw [not_or, not_and, not_lt] at h
    rcases lt_or_eq_of_le h.1 with g | g
    · exact .inl g
    · exact .inr ⟨g, not_lt.mp (h.2 g.symm)⟩

theorem foldl_spec (l : List (EReal × BitVec 32)) (p : EReal × BitVec 32) :
    (∀ q ∈ p :: l, Below (l.foldl (reducer_argmin_f32_i32 (F := Ideal)) p) q) ∧ l.foldl (reducer_argmin_f32_i32 (F := Ideal)) p ∈ p :: l := by
  induction l generalizing p with
  | nil => simp [Below.refl]
  | cons x l ih =>
    obtain ⟨h0, h1, h2⟩ := reducer_spec p x
    obtain ⟨i1, i2⟩ := ih (reducer_argmin_f32_i32 (F := Ideal) p x)
    rw [List.foldl_cons]
    refine ⟨fun q hq => ?_, ?_⟩
    · rcases List.mem_cons.mp hq with rfl | hq
      · exact (i1 _ (List.mem_cons_self ..)).trans h1
      · rcases List.mem_cons.mp hq with rfl | hq
        · exact (i1 _ (List.mem_cons_self ..)).trans h2
        · exact i1 _ (List.mem_cons_of_mem _ hq)
    · rcases List.mem_cons.mp i2 with h | h
      · rw [h]
        rcases h0 with g | g <;> rw [g] <;> simp
      · exact List.mem_cons_of_mem _ (List.mem_cons_of_mem _ h)

/-- A row's pairs are its scores with their places. -/
theorem mem_fiber (s : Vec Ideal S16384x1024 .f32) (n : Fin 16384) (p : EReal × BitVec 32) :
    p ∈ Host.argReduceFiber (s : S16384x1024.Idx → EReal) (iotaInDim S16384x1024 32 1) reducesTo_S16384x1024_S16384_d1 (ix1 n)
      ↔ ∃ k : Fin 1024, p = (s (ix2 n k), BitVec.ofNat 32 k.val) := by
  unfold Host.argReduceFiber
  simp only [List.mem_map, List.mem_filter, List.mem_finRange, true_and, decide_eq_true_eq]
  constructor
  · rintro ⟨i, hi, rfl⟩
    generalize S16384x1024.rowMajor.symm i = y at hi ⊢
    have h0 : (y 0).val = n.val := by
      have := congrArg (fun f : S16384.Idx => (f 0).val) hi
      exact this
    refine ⟨y 1, ?_⟩
    have hy : y = ix2 n (y 1) := by
      funext a
      refine Fin.ext ?_
      match a with
      | ⟨0, _⟩ => exact h0
      | ⟨1, _⟩ => rfl
    conv_lhs => rw [hy]
    rfl
  · rintro ⟨k, rfl⟩
    refine ⟨S16384x1024.rowMajor (ix2 n k), ?_, ?_⟩
    · rw [Equiv.symm_apply_apply]
      funext a
      obtain rfl : a = 0 := Subsingleton.elim _ _
      rfl
    · rw [Equiv.symm_apply_apply]
      rfl

theorem toInt_ofNat {n : Nat} (h : n ≤ 1024) : (BitVec.ofNat 32 n).toInt = n := by
  rw [BitVec.toInt_eq_toNat_cond, BitVec.toNat_ofNat, Nat.mod_eq_of_lt (by omega), if_pos (by omega)]

/-- An arg-reduction over the extended reals is a fold over the fiber. -/
theorem argReduce_foldl {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t) (hu : 0 < u.numel) (j : t.Idx)
    (a : EReal) (b : BitVec 32) (ha : ix (Shape.Idx.first hu) = a) (hb : iy (Shape.Idx.first hu) = b) :
    Host.argReduce (F := Ideal) (φ := .f32) f x y ix iy h hu j = (Host.argReduceFiber (x : s.Idx → EReal) y h j).foldl f (a, b) := by
  subst ha hb
  rw [Ideal.argReduce_eq_reduce2]
  exact Host.reduce2_eq_foldl_fiber f x y ix iy h hu j

theorem argReduce_snd {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t) (hu : 0 < u.numel) (j : t.Idx)
    (a : EReal) (b : BitVec 32) (ha : ix (Shape.Idx.first hu) = a) (hb : iy (Shape.Idx.first hu) = b) (g : t.Idx → BitVec 32)
    (hg : g = fun j => (Host.argReduce (F := Ideal) (φ := .f32) f x y ix iy h hu j).2) :
    g j = ((Host.argReduceFiber (x : s.Idx → EReal) y h j).foldl f (a, b)).2 := by
  subst hg
  exact congrArg Prod.snd (argReduce_foldl f x y ix iy h hu j a b ha hb)

theorem nearR_foldl (s : Vec Ideal S16384x1024 .f32) (n : Fin 16384) : nearR (F := Ideal) s (ix1 n) =
    ((Host.argReduceFiber (s : S16384x1024.Idx → EReal) (iotaInDim S16384x1024 32 1) reducesTo_S16384x1024_S16384_d1 (ix1 n)).foldl
      (reducer_argmin_f32_i32 (F := Ideal)) ((⊤ : EReal), 0#32)).2 := by
  have ha : constant (F := Ideal) S_ .f32 0x7F800000#32 (Shape.Idx.first h_S_) = (⊤ : EReal) := by
    show Ideal.ofBits .f32 0x7F800000#32 = ⊤
    exact bits_top
  have hb : constantI S_ 32 0#32 (Shape.Idx.first h_S_) = 0#32 := rfl
  have hn : nearR (F := Ideal) s = fun j => (Host.argReduce (F := Ideal) (φ := .f32) reducer_argmin_f32_i32 s (iotaInDim S16384x1024 32 1) (constant S_ .f32 0x7F800000#32)
      (constantI S_ 32 0#32) reducesTo_S16384x1024_S16384_d1 h_S_ j).2 := by
    unfold nearR
    exact funext fun _ => Eq.refl _
  exact argReduce_snd _ _ _ _ _ _ _ _ _ _ ha hb _ hn

/-- The reference's index of the nearest code. -/
theorem nearR_apply (s : Vec Ideal S16384x1024 .f32) (n : Fin 16384) :
    nearR (F := Ideal) s (ix1 n) = BitVec.ofNat 32 (pick fun k => s (ix2 n k)).val := by
  obtain ⟨h1, h2⟩ := foldl_spec (Host.argReduceFiber (s : S16384x1024.Idx → EReal) (iotaInDim S16384x1024 32 1) reducesTo_S16384x1024_S16384_d1 (ix1 n)) ((⊤ : EReal), 0#32)
  rw [nearR_foldl]
  generalize List.foldl (reducer_argmin_f32_i32 (F := Ideal)) ((⊤ : EReal), 0#32) _ = p at h1 h2 ⊢
  have hall : ∀ k : Fin 1024, Below p (s (ix2 n k), BitVec.ofNat 32 k.val) := fun k =>
    h1 _ (List.mem_cons_of_mem _ ((mem_fiber s n _).mpr ⟨k, rfl⟩))
  have hmem : ∃ k : Fin 1024, p = (s (ix2 n k), BitVec.ofNat 32 k.val) := by
    rcases List.mem_cons.mp h2 with h | h
    · refine ⟨0, ?_⟩
      have h0 := hall 0
      rw [h] at h0 ⊢
      rcases h0 with h0 | ⟨h0, -⟩
      · exact absurd h0 (not_lt.mpr le_top)
      · exact Prod.ext h0 rfl
    · exact (mem_fiber s n _).mp h
  obtain ⟨k, hk⟩ := hmem
  rw [hk]
  have hf : First (fun k => s (ix2 n k)) k := by
    constructor
    · intro j
      rcases hk ▸ hall j with h | ⟨h, -⟩
      · exact le_of_lt h
      · exact le_of_eq h
    · intro j hj
      rcases hk ▸ hall j with h | ⟨-, h⟩
      · exact h
      · simp only [toInt_ofNat (n := k.val) (by omega), toInt_ofNat (n := j.val) (by omega)] at h
        rw [Fin.lt_def] at hj
        omega
  rw [← eq_pick hf]

theorem ixR_apply (r : Vec Ideal S16384x128 .f32) (e : Vec Ideal S1024x128 .f32) (n : Fin 16384) :
    ixR (F := Ideal) r e (ix1 n) = BitVec.ofNat 32 (near (row r n) (book e)).val := by
  unfold ixR
  rw [nearR_apply]
  rw [show (fun k => scoreR r e (ix2 n k)) = dist (row r n) (book e) from funext fun k => scoreR_apply r e n k]
  rfl

/-! ## The code, the quantized row and the counts -/

theorem wrapR_apply (i : Vec Ideal S16384 .i32) (n : Fin 16384) (k : Fin 1024) (h : i (ix1 n) = BitVec.ofNat 32 k.val) :
    wrapR (F := Ideal) i (ix2 n 0) = BitVec.ofNat 32 k.val := by
  unfold wrapR
  pointwise []
  rw [h]
  have hk := k.isLt
  have : ¬ (BitVec.ofNat 32 k.val).toInt < 0 := by
    rw [toInt_ofNat (by omega)]; simp
  simp [IntOp.cmpi, BitVec.slt, this, Scalar.select]

theorem takeR_apply (e : Vec Ideal S1024x128 .f32) (i : Vec Ideal S16384 .i32) (n : Fin 16384) (d : Fin 128) (k : Fin 1024)
    (h : i (ix1 n) = BitVec.ofNat 32 k.val) : takeR e i (ix2 n d) = e (ix2 k d) := by
  have hw := wrapR_apply i n k h
  have hg : Host.gather gather_S1024x128_S16384x1_S16384x128_1_0_n_n_0_1_1128 e (wrapR (F := Ideal) i) (ix2 n d) = e (ix2 k d) :=
    Routing.gather_row gather_S1024x128_S16384x1_S16384x128_1_0_n_n_0_1_1128 rfl rfl rfl rfl rfl e (wrapR (F := Ideal) i) n d k hw (by norm_num)
  unfold takeR
  generalize wrapR (F := Ideal) i = w at hw hg ⊢
  pointwise []
  have hx : ∀ x : Fin 1, w (ix2 n x) = BitVec.ofNat 32 k.val := fun x => by rw [Subsingleton.elim x 0]; exact hw
  simp only [hx]
  rw [hg]
  have hk := k.isLt
  have h1 : 0 ≤ (BitVec.ofNat 32 k.val).toInt := by
    rw [toInt_ofNat (by omega)]; simp
  have h2 : (BitVec.ofNat 32 k.val).toInt ≤ 1023 := by
    rw [toInt_ofNat (by omega)]; omega
  simp [IntOp.cmpi, BitVec.sle, h1, h2, Scalar.select, IntOp.andi, Finset.univ_unique, Finset.fold_singleton]

end Cert.ReferenceIdeal.Vq

end
-- ==== Proof.RSpec.lean ====
/- The reference's three results are those of the mathematics: the quantized vectors, the loss, the perplexities. -/
module

public import proofs.«01_k».proof.Proof.RMath

@[expose] public section

set_option maxRecDepth 16384

noncomputable section

namespace Cert.ReferenceIdeal.Vq

open Cert.ReferenceIdeal Cert.ReferenceIdeal.Gen Cert.Spec Idealize.ShloMosaic Idealize.ShloMosaic.TcCoe Idealize.SL.Sem Idealize.ShloMosaic.StableHlo

theorem tkR_apply (r : Vec Ideal S16384x128 .f32) (e : Vec Ideal S1024x128 .f32) (n : Fin 16384) (d : Fin 128) :
    tkR r e (ix2 n d) = book e (near (row r n) (book e)) d :=
  takeR_apply e _ n d _ (ixR_apply r e n)

theorem qstR_apply (r : Vec Ideal S16384x128 .f32) (e : Vec Ideal S1024x128 .f32) (n : Fin 16384) (d : Fin 128) :
    qstR r e (ix2 n d) = quant (row r n) (book e) d := by
  unfold qstR quantR
  pointwise []
  rw [tkR_apply]
  rfl

theorem nextR_apply (r : Vec Ideal S16384x128 .f32) (e : Vec Ideal S1024x128 .f32) (n : Fin 16384) (d : Fin 128) :
    nextR r e (ix2 n d) = rest (row r n) (book e) d := by
  unfold nextR
  pointwise []
  rw [qstR_apply]
  rfl

/-- The rows of a residual, by batch and position. -/
def rows (r : Vec Ideal S16384x128 .f32) : Batch := fun b t => row r (flatRow b t)

theorem rows_nextR (r : Vec Ideal S16384x128 .f32) (e : Vec Ideal S1024x128 .f32) : rows (nextR r e) = rests (rows r) (book e) :=
  funext fun b => funext fun t => funext fun d => nextR_apply r e _ d

/-- Whether two codes are the same, as the reference writes it. -/
theorem same_apply (p k : Fin 1024) : (FloatOps.uitofp (F := Ideal) .f32 (IntOp.cmpi .eq (BitVec.ofNat 32 p.val) (BitVec.ofNat 32 k.val)) : EReal) = if k = p then 1 else 0 := by
  have hp := p.isLt
  have hk := k.isLt
  by_cases h : k = p
  · rw [if_pos h, ← h, show IntOp.cmpi .eq (BitVec.ofNat 32 k.val) (BitVec.ofNat 32 k.val) = 1#1 by simp [IntOp.cmpi]]
    simp [FloatOps.uitofp]
  · rw [if_neg h]
    have : BitVec.ofNat 32 p.val ≠ BitVec.ofNat 32 k.val := fun e' => h (Fin.ext (by
      have := congrArg BitVec.toNat e'
      simp only [BitVec.toNat_ofNat] at this
      rw [Nat.mod_eq_of_lt (by omega), Nat.mod_eq_of_lt (by omega)] at this
      exact this.symm))
    have hb : (BitVec.ofNat 32 p.val == BitVec.ofNat 32 k.val) = false := beq_eq_false_iff_ne.mpr this
    rw [show IntOp.cmpi .eq (BitVec.ofNat 32 p.val) (BitVec.ofNat 32 k.val) = 0#1 by simp [IntOp.cmpi, hb]]
    simp [FloatOps.uitofp]

/-- The share of code `k` where row `n`'s index is that of code `p n`. -/
theorem shareR_of (i : Vec Ideal S16384 .i32) (p : Fin 16384 → Fin 1024) (hi : ∀ n, i (ix1 n) = BitVec.ofNat 32 (p n).val) (k : Fin 1024) :
    shareR (F := Ideal) i (ix1 k) = (∑ n, if k = p n then (1 : EReal) else 0) * Ideal.ofBits .f32 0x38800000#32 := by
  unfold shareR hotR
  pointwise []
  rw [div_rows]
  simp only [hi, same_apply]

theorem shareR_apply (r : Vec Ideal S16384x128 .f32) (e : Vec Ideal S1024x128 .f32) (k : Fin 1024) :
    shareR (F := Ideal) (ixR r e) (ix1 k) = share (rows r) (book e) k := by
  rw [shareR_of _ (fun n => near (row r n) (book e)) (fun n => ixR_apply r e n)]
  exact congrArg (fun u : EReal => u * Ideal.ofBits .f32 0x38800000#32) (sum_rows fun n => hot (row r n) (book e) k)

theorem perpR_apply (r : Vec Ideal S16384x128 .f32) (e : Vec Ideal S1024x128 .f32) (j : S_.Idx) :
    perpR (F := Ideal) (ixR r e) j = perp (rows r) (book e) := by
  have hs := shareR_apply r e
  unfold perpR
  generalize shareR (F := Ideal) (ixR r e) = s at hs ⊢
  pointwise []
  simp only [hs]
  rfl

theorem lossR_apply (r : Vec Ideal S16384x128 .f32) (e : Vec Ideal S1024x128 .f32) (j : S_.Idx) :
    lossR (tkR r e) r j = loss (rows r) (book e) := by
  have ht := tkR_apply r e
  unfold lossR meanR
  generalize tkR r e = s at ht ⊢
  pointwise []
  simp only [ht]
  have he : (∑ n : Fin 16384, ∑ d : Fin 128, (book e (near (row r n) (book e)) d - r (ix2 n d)) * (book e (near (row r n) (book e)) d - r (ix2 n d)) : EReal)
      = errs (rows r) (book e) := sum_rows (fun n => err (row r n) (book e))
  rw [he]
  exact mean_scale _ (Finset.sum_nonneg fun _ _ => Finset.sum_nonneg fun _ _ => Finset.sum_nonneg fun _ _ => sq_nonneg _)

/-! ## The four steps -/

variable (z : Vec Ideal S8x128x2048 .f32) (e : Vec Ideal S4x1024x128 .f32)

/-- The vectors of the first argument. -/
def vecs : Batch := fun b t d => z (ix3 b d t)
/-- The codebooks of the second. -/
def codes : Fin 4 → Book := fun q k d => e (ix3 q k d)

theorem book_code0 : book (code0 e) = codes e 0 := funext fun k => funext fun d => by
  unfold book code0
  pointwise []
  rfl
theorem book_code1 : book (code1 e) = codes e 1 := funext fun k => funext fun d => by
  unfold book code1
  pointwise []
  rfl
theorem book_code2 : book (code2 e) = codes e 2 := funext fun k => funext fun d => by
  unfold book code2
  pointwise []
  rfl
theorem book_code3 : book (code3 e) = codes e 3 := funext fun k => funext fun d => by
  unfold book code3
  pointwise []
  rfl

theorem rows_r0 : rows (r0 z) = vecs z := funext fun b => funext fun t => funext fun d => by
  unfold rows row r0 flatz vecs flatRow
  pointwise []
theorem rows_r1 : rows (r1 z e) = x1 (vecs z) (codes e) := by unfold r1 x1; rw [rows_nextR, rows_r0, book_code0]
theorem rows_r2 : rows (r2 z e) = x2 (vecs z) (codes e) := by unfold r2 x2; rw [rows_nextR, rows_r1, book_code1]
theorem rows_r3 : rows (r3 z e) = x3 (vecs z) (codes e) := by unfold r3 x3; rw [rows_nextR, rows_r2, book_code2]

theorem zeros_apply (n : Fin 16384) (d : Fin 128) : zeros (F := Ideal) (ix2 n d) = (0 : EReal) := by
  unfold zeros
  pointwise []

/-- The reference's first result. -/
theorem quantized_eq : unflat (a4 z e) = fun y => total (vecs z) (codes e) (y 0) (y 2) (y 1) := by
  funext y
  obtain ⟨b, d, t, rfl⟩ : ∃ (b : Fin 8) (d : Fin 128) (t : Fin 2048), y = ix3 b d t := ⟨y 0, y 1, y 2, eq_ix3 y⟩
  have q0 := fun n d => qstR_apply (r0 z) (code0 e) n d
  have q1 := fun n d => qstR_apply (r1 z e) (code1 e) n d
  have q2 := fun n d => qstR_apply (r2 z e) (code2 e) n d
  have q3 := fun n d => qstR_apply (r3 z e) (code3 e) n d
  unfold a4 a3 a2 a1 unflat
  generalize qstR (r0 z) (code0 e) = g0 at q0 ⊢
  generalize qstR (r1 z e) (code1 e) = g1 at q1 ⊢
  generalize qstR (r2 z e) (code2 e) = g2 at q2 ⊢
  generalize qstR (r3 z e) (code3 e) = g3 at q3 ⊢
  pointwise []
  simp only [q0, q1, q2, q3, zeros_apply, book_code0, book_code1, book_code2, book_code3]
  show (0 + quant (rows (r0 z) b t) (codes e 0) d + quant (rows (r1 z e) b t) (codes e 1) d + quant (rows (r2 z e) b t) (codes e 2) d + quant (rows (r3 z e) b t) (codes e 3) d : EReal) = _
  rw [rows_r0, rows_r1, rows_r2, rows_r3]
  rfl

/-- The reference's second result. -/
theorem loss_eq : t4 z e = fun _ => totalLoss (vecs z) (codes e) := by
  funext j
  have q0 := lossR_apply (r0 z) (code0 e) j
  have q1 := lossR_apply (r1 z e) (code1 e) j
  have q2 := lossR_apply (r2 z e) (code2 e) j
  have q3 := lossR_apply (r3 z e) (code3 e) j
  rw [rows_r0, book_code0] at q0
  rw [rows_r1, book_code1] at q1
  rw [rows_r2, book_code2] at q2
  rw [rows_r3, book_code3] at q3
  unfold t4 t3 t2 t1
  generalize lossR (tkR (r0 z) (code0 e)) (r0 z) = g0 at q0 ⊢
  generalize lossR (tkR (r1 z e) (code1 e)) (r1 z e) = g1 at q1 ⊢
  generalize lossR (tkR (r2 z e) (code2 e)) (r2 z e) = g2 at q2 ⊢
  generalize lossR (tkR (r3 z e) (code3 e)) (r3 z e) = g3 at q3 ⊢
  unfold totalLoss
  rw [← q0, ← q1, ← q2, ← q3]
  pointwise []

/-- The reference's third result. -/
theorem perp_eq : stackR (p0 z e) (p1 z e) (p2 z e) (p3 z e) = fun y => perps (vecs z) (codes e) (y 0) := by
  funext y
  have q0 : ∀ j, p0 z e j = perp (vecs z) (codes e 0) := fun j => by unfold p0; rw [perpR_apply, rows_r0, book_code0]
  have q1 : ∀ j, p1 z e j = perp (x1 (vecs z) (codes e)) (codes e 1) := fun j => by unfold p1; rw [perpR_apply, rows_r1, book_code1]
  have q2 : ∀ j, p2 z e j = perp (x2 (vecs z) (codes e)) (codes e 2) := fun j => by unfold p2; rw [perpR_apply, rows_r2, book_code2]
  have q3 : ∀ j, p3 z e j = perp (x3 (vecs z) (codes e)) (codes e 3) := fun j => by unfold p3; rw [perpR_apply, rows_r3, book_code3]
  unfold perps
  generalize p0 z e = g0 at q0 ⊢
  generalize p1 z e = g1 at q1 ⊢
  generalize p2 z e = g2 at q2 ⊢
  generalize p3 z e = g3 at q3 ⊢
  simp only [← q0 ix0, ← q1 ix0, ← q2 ix0, ← q3 ix0]
  obtain ⟨k, rfl⟩ : ∃ k : Fin 4, y = ix1 k := ⟨y 0, eq_ix1 y⟩
  unfold stackR rowR
  match k with
  | 0 => pointwise []
  | 1 => pointwise []
  | 2 => pointwise []
  | 3 => pointwise []

end Cert.ReferenceIdeal.Vq

end
-- ==== Proof.ROps.lean ====
/- The reference's operations, cut into windows. -/
module

public import proofs.«01_k».proof.Proof.RVal
public import Idealize.ShloMosaic.Lib.StableHlo.Run
public import Idealize.ShloMosaic.Lib.Pipeline.Frame

@[expose] public section

set_option Elab.async false

noncomputable section

namespace Cert.ReferenceIdeal.Vq

open Cert.ReferenceIdeal Cert.ReferenceIdeal.Gen Idealize.ShloMosaic Idealize.ShloMosaic.TcCoe Idealize.SL.Sem Idealize.ShloMosaic.StableHlo

variable {F : FTy → Type} [FloatOps F]

abbrev wpre : List (HloOp τ sig (Elt F)) :=
  [ unary main_arg0 main_v0 ((transpose S8x2048x128 [0, 2, 1] · transposes_S8x128x2048_S8x2048x128_0_2_1) : (⟨S8x128x2048, .f32⟩ : BufTy).Contents (Elt F) → (⟨S8x2048x128, .f32⟩ : BufTy).Contents (Elt F)),
    reshape main_v0 main_v1 (rfl : (.f32 : EltTy) = .f32) shapeCasts_S8x2048x128_S16384x128,
    nullary main_cst (constant S_ .f32 0x00000000#32),
    unary main_cst main_v2 (broadcastInDim S16384x128 ![] bcast_S_S16384x128 : (⟨S_, .f32⟩ : BufTy).Contents (Elt F) → (⟨S16384x128, .f32⟩ : BufTy).Contents (Elt F)) ]
abbrev wA0 : List (HloOp τ sig (Elt F)) :=
  [ unary main_arg1 main_v3 ((extractStridedSlice S1x1024x128 ![0, 0, 0] · slices_S4x1024x128_S1x1024x128_0_0_0) : (⟨S4x1024x128, .f32⟩ : BufTy).Contents (Elt F) → (⟨S1x1024x128, .f32⟩ : BufTy).Contents (Elt F)),
    reshape main_v3 main_v4 (rfl : (.f32 : EltTy) = .f32) shapeCasts_S1x1024x128_S1024x128,
    binary main_v1 main_v1 main_v5 (mulf : (⟨S16384x128, .f32⟩ : BufTy).Contents (Elt F) → (⟨S16384x128, .f32⟩ : BufTy).Contents (Elt F) → (⟨S16384x128, .f32⟩ : BufTy).Contents (Elt F)),
    nullary main_cst_0 (constant S_ .f32 0x00000000#32),
    binary main_v5 main_cst_0 main_v6 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v6 main_v7 (broadcastInDim S16384x1 ![0] bcast_S16384_S16384x1_0 : (⟨S16384, .f32⟩ : BufTy).Contents (Elt F) → (⟨S16384x1, .f32⟩ : BufTy).Contents (Elt F)),
    unary main_v4 main_v8 ((transpose S128x1024 [1, 0] · transposes_S1024x128_S128x1024_1_0) : (⟨S1024x128, .f32⟩ : BufTy).Contents (Elt F) → (⟨S128x1024, .f32⟩ : BufTy).Contents (Elt F)),
    binary main_v1 main_v8 main_v9 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    nullary main_cst_1 (constant S_ .f32 0x40000000#32),
    unary main_cst_1 main_v10 (broadcastInDim S16384x1024 ![] bcast_S_S16384x1024 : (⟨S_, .f32⟩ : BufTy).Contents (Elt F) → (⟨S16384x1024, .f32⟩ : BufTy).Contents (Elt F)),
    binary main_v10 main_v9 main_v11 (mulf : (⟨S16384x1024, .f32⟩ : BufTy).Contents (Elt F) → (⟨S16384x1024, .f32⟩ : BufTy).Contents (Elt F) → (⟨S16384x1024, .f32⟩ : BufTy).Contents (Elt F)),
    unary main_v7 main_v12 (broadcastInDim S16384x1024 ![0, 1] bcast_S16384x1_S16384x1024_0_1 : (⟨S16384x1, .f32⟩ : BufTy).Contents (Elt F) → (⟨S16384x1024, .f32⟩ : BufTy).Contents (Elt F)),
    binary main_v12 main_v11 main_v13 (subf : (⟨S16384x1024, .f32⟩ : BufTy).Contents (Elt F) → (⟨S16384x1024, .f32⟩ : BufTy).Contents (Elt F) → (⟨S16384x1024, .f32⟩ : BufTy).Contents (Elt F)),
    binary main_v4 main_v4 main_v14 (mulf : (⟨S1024x128, .f32⟩ : BufTy).Contents (Elt F) → (⟨S1024x128, .f32⟩ : BufTy).Contents (Elt F) → (⟨S1024x128, .f32⟩ : BufTy).Contents (Elt F)),
    nullary main_cst_2 (constant S_ .f32 0x00000000#32),
    binary main_v14 main_cst_2 main_v15 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    unary main_v15 main_v16 (broadcastInDim S1x1024 ![1] bcast_S1024_S1x1024_1 : (⟨S1024, .f32⟩ : BufTy).Contents (Elt F) → (⟨S1x1024, .f32⟩ : BufTy).Contents (Elt F)),
    unary main_v16 main_v17 (broadcastInDim S16384x1024 ![0, 1] bcast_S1x1024_S16384x1024_0_1 : (⟨S1x1024, .f32⟩ : BufTy).Contents (Elt F) → (⟨S16384x1024, .f32⟩ : BufTy).Contents (Elt F)),
    binary main_v13 main_v17 main_v18 (addf : (⟨S16384x1024, .f32⟩ : BufTy).Contents (Elt F) → (⟨S16384x1024, .f32⟩ : BufTy).Contents (Elt F) → (⟨S16384x1024, .f32⟩ : BufTy).Contents (Elt F)) ]
abbrev wB0 : List (HloOp τ sig (Elt F)) :=
  [ TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v18) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x1024_S16384_d1 h_S_ j).1),
    TRef.quaternary (TRef.of (T := ⟨S16384x1024, .f32⟩) main_v18) (TRef.of (T := ⟨S16384x1024, .i32⟩) main_call0_v0) (TRef.of (T := ⟨S_, .f32⟩) main_call0_cst) (TRef.of (T := ⟨S_, .i32⟩) main_call0_c) (TRef.of (T := ⟨S16384, .i32⟩) main_v19) (fun x y u v j => (Host.argReduce reducer_argmin_f32_i32 x y u v reducesTo_S16384x1024_S16384_d1 h_S_ j).2) ]
abbrev wC0 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16384, .i32⟩) main_call1_v0) (broadcastInDim S16384 ![] bcast_S_S16384),
    TRef.binary (TRef.of (T := ⟨S16384, .i32⟩) main_v19) (TRef.of (T := ⟨S16384, .i32⟩) main_call1_v0) (TRef.of (T := ⟨S16384, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S16384, .i32⟩) main_call1_v2) (broadcastInDim S16384 ![] bcast_S_S16384),
    TRef.binary (TRef.of (T := ⟨S16384, .i32⟩) main_v19) (TRef.of (T := ⟨S16384, .i32⟩) main_call1_v2) (TRef.of (T := ⟨S16384, .i32⟩) main_call1_v3) addi,
    TRef.ternary (TRef.of (T := ⟨S16384, .i1⟩) main_call1_v1) (TRef.of (T := ⟨S16384, .i32⟩) main_call1_v3) (TRef.of (T := ⟨S16384, .i32⟩) main_v19) (TRef.of (T := ⟨S16384, .i32⟩) main_call1_v4) select,
    TRef.unary (TRef.of (T := ⟨S16384, .i32⟩) main_call1_v4) (TRef.of (T := ⟨S16384x1, .i32⟩) main_call1_v5) (broadcastInDim S16384x1 ![0] bcast_S16384_S16384x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S16384x1, .i32⟩) main_call1_v6) (broadcastInDim S16384x1 ![] bcast_S_S16384x1),
    TRef.binary (TRef.of (T := ⟨S16384x1, .i32⟩) main_call1_v5) (TRef.of (T := ⟨S16384x1, .i32⟩) main_call1_v6) (TRef.of (T := ⟨S16384x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S16384x1, .i32⟩) main_call1_v9) (broadcastInDim S16384x1 ![0, 1] bcast_S1x1_S16384x1_0_1),
    TRef.binary (TRef.of (T := ⟨S16384x1, .i32⟩) main_call1_v5) (TRef.of (T := ⟨S16384x1, .i32⟩) main_call1_v9) (TRef.of (T := ⟨S16384x1, .i1⟩) main_call1_v10) (cmpi .sle),
    TRef.binary (TRef.of (T := ⟨S16384x1, .i1⟩) main_call1_v7) (TRef.of (T := ⟨S16384x1, .i1⟩) main_call1_v10) (TRef.of (T := ⟨S16384x1, .i1⟩) main_call1_v11) andi,
    TRef.nullary (TRef.of (T := ⟨S_, .i1⟩) main_call1_c_3) (constantI S_ 1 1#1),
    TRef.binary (TRef.of (T := ⟨S16384x1, .i1⟩) main_call1_v11) (TRef.of (T := ⟨S_, .i1⟩) main_call1_c_3) (TRef.of (T := ⟨S16384, .i1⟩) main_call1_v12) (fun x v => Host.reduce IntOp.andi x v reducesTo_S16384x1_S16384_d1 h_S_),
    TRef.binary (TRef.of (T := ⟨S1024x128, .f32⟩) main_v4) (TRef.of (T := ⟨S16384x1, .i32⟩) main_call1_v5) (TRef.of (T := ⟨S16384x128, .f32⟩) main_call1_v13) (fun x i => Host.gather gather_S1024x128_S16384x1_S16384x128_1_0_n_n_0_1_1128 x i),
    TRef.unary (TRef.of (T := ⟨S16384, .i1⟩) main_call1_v12) (TRef.of (T := ⟨S16384x128, .i1⟩) main_call1_v14) (broadcastInDim S16384x128 ![0] bcast_S16384_S16384x128_0),
    TRef.nullary (TRef.of (T := ⟨S_, .f32⟩) main_call1_cst) (constant S_ .f32 0x7FC00000#32),
    TRef.unary (TRef.of (T := ⟨S_, .f32⟩) main_call1_cst) (TRef.of (T := ⟨S16384x128, .f32⟩) main_call1_v15) (broadcastInDim S16384x128 ![] bcast_S_S16384x128),
    TRef.ternary (TRef.of (T := ⟨S16384x128, .i1⟩) main_call1_v14) (TRef.of (T := ⟨S16384x128, .f32⟩) main_call1_v13) (TRef.of (T := ⟨S16384x128, .f32⟩) main_call1_v15) (TRef.of (T := ⟨S16384x128, .f32⟩) main_v20) select ]
abbrev wD0 : List (HloOp τ sig (Elt F)) :=
  [ TRef.unary (TRef.of (T := ⟨S16384, .i32⟩) main_v19) (TRef.of (T := ⟨S16384x1, .i32⟩) main_call2_v0) (broadcastInDim S16384x1 ![0] bcast_S16384_S16384x1_0),
    TRef.nullary (TRef.of (T := ⟨S1x1024, .i32⟩) main_call2_v1) (iotaInDim S1x1024 32 1),
    TRef.unary (TRef.of (T := ⟨S16384x1, .i32⟩) main_call2_v0) (TRef.of (T := ⟨S16384x1024, .i32⟩) main_call2_v2) (broadcastInDim S16384x1024 ![0, 1] bcast_S16384x1_S16384x1024_0_1),
    TRef.unary (TRef.of (T := ⟨S1x1024, .i32⟩) main_call2_v1) (TRef.of (T := ⟨S16384x1024, .i32⟩) main_call2_v3) (broadcastInDim S16384x1024 ![0, 1] bcast_S1x1024_S16384x1024_0_1),
    TRef.binary (TRef.of (T := ⟨S16384x1024, .i32⟩) main_call2_v2) (TRef.of (T := ⟨S16384x1024, .i32⟩) main_call2_v3) (TRef.of (T := ⟨S16384x1024, .i1⟩) main_call2_v4) (cmpi .eq),
    TRef.unary (TRef.of (T := ⟨S16384x1024, .i1⟩) main_call2_v4) (TRef.of (T := ⟨S16384x1024, .f32⟩) main_v21) (uitofp .f32),
    nullary main_cst_3 (constant S_ .f32 0x00000000#32),
    binary main_v21 main_cst_3 main_v22 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_4 (constant S_ .f32 0x46800000#32),
    unary main_cst_4 main_v23 (broadcastInDim S1024 ![] bcast_S_S1024 : (⟨S_, .f32⟩ : BufTy).Contents (Elt F) → (⟨S1024, .f32⟩ : BufTy).Contents (Elt F)),
    binary main_v22 main_v23 main_v24 (Host.divf : (⟨S1024, .f32⟩ : BufTy).Contents (Elt F) → (⟨S1024, .f32⟩ : BufTy).Contents (Elt F) → (⟨S1024, .f32⟩ : BufTy).Contents (Elt F)),
    nullary main_cst_5 (constant S_ .f32 0x2EDBE6FF#32),
    unary main_cst_5 main_v25 (broadcastInDim S1024 ![] bcast_S_S1024 : (⟨S_, .f32⟩ : BufTy).Contents (Elt F) → (⟨S1024, .f32⟩ : BufTy).Contents (Elt F)),
    binary main_v24 main_v25 main_v26 (addf : (⟨S1024, .f32⟩ : BufTy).Contents (Elt F) → (⟨S1024, .f32⟩ : BufTy).Contents (Elt F) → (⟨S1024, .f32⟩ : BufTy).Contents (Elt F)),
    unary main_v26 main_v27 (Host.log : (⟨S1024, .f32⟩ : BufTy).Contents (Elt F) → (⟨S1024, .f32⟩ : BufTy).Contents (Elt F)),
    binary main_v24 main_v27 main_v28 (mulf : (⟨S1024, .f32⟩ : BufTy).Contents (Elt F) → (⟨S1024, .f32⟩ : BufTy).Contents (Elt F) → (⟨S1024, .f32⟩ : BufTy).Contents (Elt F)),
    nullary main_cst_6 (constant S_ .f32 0x00000000#32),
    binary main_v28 main_cst_6 main_v29 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v29 main_v30 (Host.negf : (⟨S_, .f32⟩ : BufTy).Contents (Elt F) → (⟨S_, .f32⟩ : BufTy).Contents (Elt F)),
    unary main_v30 main_v31 (Host.exp : (⟨S_, .f32⟩ : BufTy).Contents (Elt F) → (⟨S_, .f32⟩ : BufTy).Contents (Elt F)) ]
abbrev wE0 : List (HloOp τ sig (Elt F)) :=
  [ binary main_v20 main_v1 main_v32 (subf : (⟨S16384x128, .f32⟩ : BufTy).Contents (Elt F) → (⟨S16384x128, .f32⟩ : BufTy).Contents (Elt F) → (⟨S16384x128, .f32⟩ : BufTy).Contents (Elt F)),
    binary main_v32 main_v32 main_v33 (mulf : (⟨S16384x128, .f32⟩ : BufTy).Contents (Elt F) → (⟨S16384x128, .f32⟩ : BufTy).Contents (Elt F) → (⟨S16384x128, .f32⟩ : BufTy).Contents (Elt F)),
    nullary main_cst_7 (constant S_ .f32 0x00000000#32),
    binary main_v33 main_cst_7 main_v34 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_8 (constant S_ .f32 0x4A000000#32),
    binary main_v34 main_cst_8 main_v35 (Host.divf : (⟨S_, .f32⟩ : BufTy).Contents (Elt F) → (⟨S_, .f32⟩ : BufTy).Contents (Elt F) → (⟨S_, .f32⟩ : BufTy).Contents (Elt F)),
    nullary main_cst_9 (constant S_ .f32 0x3E800000#32),
    binary main_cst_9 main_v35 main_v36 (mulf : (⟨S_, .f32⟩ : BufTy).Contents (Elt F) → (⟨S_, .f32⟩ : BufTy).Contents (Elt F) → (⟨S_, .f32⟩ : BufTy).Contents (Elt F)),
    binary main_v20 main_v1 main_v37 (subf : (⟨S16384x128, .f32⟩ : BufTy).Contents (Elt F) → (⟨S16384x128, .f32⟩ : BufTy).Contents (Elt F) → (⟨S16384x128, .f32⟩ : BufTy).Contents (Elt F)),
    binary main_v37 main_v37 main_v38 (mulf : (⟨S16384x128, .f32⟩ : BufTy).Contents (Elt F) → (⟨S16384x128, .f32⟩ : BufTy).Contents (Elt F) → (⟨S16384x128, .f32⟩ : BufTy).Contents (Elt F)),
    nullary main_cst_10 (constant S_ .f32 0x00000000#32),
    binary main_v38 main_cst_10 main_v39 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_11 (constant S_ .f32 0x4A000000#32),
    binary main_v39 main_cst_11 main_v40 (Host.divf : (⟨S_, .f32⟩ : BufTy).Contents (Elt F) → (⟨S_, .f32⟩ : BufTy).Contents (Elt F) → (⟨S_, .f32⟩ : BufTy).Contents (Elt F)),
    binary main_v36 main_v40 main_v41 (addf : (⟨S_, .f32⟩ : BufTy).Contents (Elt F) → (⟨S_, .f32⟩ : BufTy).Contents (Elt F) → (⟨S_, .f32⟩ : BufTy).Contents (Elt F)) ]
abbrev wF0a : List (HloOp τ sig (Elt F)) :=
  [ binary main_v20 main_v1 main_v42 (subf : (⟨S16384x128, .f32⟩ : BufTy).Contents (Elt F) → (⟨S16384x128, .f32⟩ : BufTy).Contents (Elt F) → (⟨S16384x128, .f32⟩ : BufTy).Contents (Elt F)),
    binary main_v1 main_v42 main_v43 (addf : (⟨S16384x128, .f32⟩ : BufTy).Contents (Elt F) → (⟨S16384x128, .f32⟩ : BufTy).Contents (Elt F) → (⟨S16384x128, .f32⟩ : BufTy).Contents (Elt F)),
    binary main_v1 main_v43 main_v44 (subf : (⟨S16384x128, .f32⟩ : BufTy).Contents (Elt F) → (⟨S16384x128, .f32⟩ : BufTy).Contents (Elt F) → (⟨S16384x128, .f32⟩ : BufTy).Contents (Elt F)),
    binary main_v2 main_v43 main_v45 (addf : (⟨S16384x128, .f32⟩ : BufTy).Contents (Elt F) → (⟨S16384x128, .f32⟩ : BufTy).Contents (Elt F) → (⟨S16384x128, .f32⟩ : BufTy).Contents (Elt F)),
    nullary main_cst_12 (constant S_ .f32 0x00000000#32) ]
abbrev wF0b : List (HloOp τ sig (Elt F)) :=
  [ binary main_cst_12 main_v41 main_v46 (addf : (⟨S_, .f32⟩ : BufTy).Contents (Elt F) → (⟨S_, .f32⟩ : BufTy).Contents (Elt F) → (⟨S_, .f32⟩ : BufTy).Contents (Elt F)) ]
abbrev wA1 : List (HloOp τ sig (Elt F)) :=
  [ unary main_arg1 main_v47 ((extractStridedSlice S1x1024x128 ![1, 0, 0] · slices_S4x1024x128_S1x1024x128_1_0_0) : (⟨S4x1024x128, .f32⟩ : BufTy).Contents (Elt F) → (⟨S1x1024x128, .f32⟩ : BufTy).Contents (Elt F)),
    reshape main_v47 main_v48 (rfl : (.f32 : EltTy) = .f32) shapeCasts_S1x1024x128_S1024x128,
    binary main_v44 main_v44 main_v49 (mulf : (⟨S16384x128, .f32⟩ : BufTy).Contents (Elt F) → (⟨S16384x128, .f32⟩ : BufTy).Contents (Elt F) → (⟨S16384x128, .f32⟩ : BufTy).Contents (Elt F)),
    nullary main_cst_13 (constant S_ .f32 0x00000000#32),
    binary main_v49 main_cst_13 main_v50 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v50 main_v51 (broadcastInDim S16384x1 ![0] bcast_S16384_S16384x1_0 : (⟨S16384, .f32⟩ : BufTy).Contents (Elt F) → (⟨S16384x1, .f32⟩ : BufTy).Contents (Elt F)),
    unary main_v48 main_v52 ((transpose S128x1024 [1, 0] · transposes_S1024x128_S128x1024_1_0) : (⟨S1024x128, .f32⟩ : BufTy).Contents (Elt F) → (⟨S128x1024, .f32⟩ : BufTy).Contents (Elt F)),
    binary main_v44 main_v52 main_v53 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    nullary main_cst_14 (constant S_ .f32 0x40000000#32),
    unary main_cst_14 main_v54 (broadcastInDim S16384x1024 ![] bcast_S_S16384x1024 : (⟨S_, .f32⟩ : BufTy).Contents (Elt F) → (⟨S16384x1024, .f32⟩ : BufTy).Contents (Elt F)),
    binary main_v54 main_v53 main_v55 (mulf : (⟨S16384x1024, .f32⟩ : BufTy).Contents (Elt F) → (⟨S16384x1024, .f32⟩ : BufTy).Contents (Elt F) → (⟨S16384x1024, .f32⟩ : BufTy).Contents (Elt F)),
    unary main_v51 main_v56 (broadcastInDim S16384x1024 ![0, 1] bcast_S16384x1_S16384x1024_0_1 : (⟨S16384x1, .f32⟩ : BufTy).Contents (Elt F) → (⟨S16384x1024, .f32⟩ : BufTy).Contents (Elt F)),
    binary main_v56 main_v55 main_v57 (subf : (⟨S16384x1024, .f32⟩ : BufTy).Contents (Elt F) → (⟨S16384x1024, .f32⟩ : BufTy).Contents (Elt F) → (⟨S16384x1024, .f32⟩ : BufTy).Contents (Elt F)),
    binary main_v48 main_v48 main_v58 (mulf : (⟨S1024x128, .f32⟩ : BufTy).Contents (Elt F) → (⟨S1024x128, .f32⟩ : BufTy).Contents (Elt F) → (⟨S1024x128, .f32⟩ : BufTy).Contents (Elt F)),
    nullary main_cst_15 (constant S_ .f32 0x00000000#32),
    binary main_v58 main_cst_15 main_v59 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    unary main_v59 main_v60 (broadcastInDim S1x1024 ![1] bcast_S1024_S1x1024_1 : (⟨S1024, .f32⟩ : BufTy).Contents (Elt F) → (⟨S1x1024, .f32⟩ : BufTy).Contents (Elt F)),
    unary main_v60 main_v61 (broadcastInDim S16384x1024 ![0, 1] bcast_S1x1024_S16384x1024_0_1 : (⟨S1x1024, .f32⟩ : BufTy).Contents (Elt F) → (⟨S16384x1024, .f32⟩ : BufTy).Contents (Elt F)),
    binary main_v57 main_v61 main_v62 (addf : (⟨S16384x1024, .f32⟩ : BufTy).Contents (Elt F) → (⟨S16384x1024, .f32⟩ : BufTy).Contents (Elt F) → (⟨S16384x1024, .f32⟩ : BufTy).Contents (Elt F)) ]
abbrev wB1 : List (HloOp τ sig (Elt F)) :=
  [ TRef.nullary (TRef.of (T := ⟨S16384x1024, .i32⟩) main_call3_v0) (iotaInDim S16384x1024 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S16384x1024, .f32⟩) main_v62) (TRef.of (T := ⟨S16384x1024, .i32⟩) main_call3_v0) (TRef.of (T := ⟨S_, .f32⟩) main_call3_cst) (TRef.of (T := ⟨S_, .i32⟩) main_call3_c) (TRef.of (T := ⟨S16384, .f32⟩) main_call3_v1_0) (fun x y u v j => (Host.argReduce reducer_argmin_f32_i32 x y u v reducesTo_S16384x1024_S16384_d1 h_S_ j).1),
    TRef.quaternary (TRef.of (T := ⟨S16384x1024, .f32⟩) main_v62) (TRef.of (T := ⟨S16384x1024, .i32⟩) main_call3_v0) (TRef.of (T := ⟨S_, .f32⟩) main_call3_cst) (TRef.of (T := ⟨S_, .i32⟩) main_call3_c) (TRef.of (T := ⟨S16384, .i32⟩) main_v63) (fun x y u v j => (Host.argReduce reducer_argmin_f32_i32 x y u v reducesTo_S16384x1024_S16384_d1 h_S_ j).2) ]
abbrev wC1 : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S16384, .i32⟩) main_call4_v0) (broadcastInDim S16384 ![] bcast_S_S16384),
    TRef.binary (TRef.of (T := ⟨S16384, .i32⟩) main_v63) (TRef.of (T := ⟨S16384, .i32⟩) main_call4_v0) (TRef.of (T := ⟨S16384, .i1⟩) main_call4_v1) (cmpi .slt),
    TRef.nullary (TRef.of (T := ⟨S_, .i32⟩) main_call4_c_0) (constantI S_ 32 1024#32),
    TRef.unary (TRef.of (T := ⟨S_, .i32⟩) main_call4_c_0) (TRef.of (T := ⟨S16384, .i32⟩) main_call4_v2) (broadcastInDim S16384 ![] bcast_S_S16384),
    TRef.binary (TRef.of (T := ⟨S16384, .i32⟩) main_v63) (TRef.of (T := ⟨S16384, .i32⟩) main_call4_v2) (TRef.of (T := ⟨S16384, .i32⟩) main_call4_v3) addi,
    TRef.ternary (TRef.of (T := ⟨S16384, .i1⟩) main_call4_v1) (TRef.of (T := ⟨S16384, .i32⟩) main_call4_v3) (TRef.of (T := ⟨S16384, .i32⟩) main_v63) (TRef.of (T := ⟨S16384, .i32⟩) main_call4_v4) select,
    TRef.unary (TRef.of (T := ⟨S16384, .i32⟩) main_call4_v4) (TRef.of (T := ⟨S16384x1, .i32⟩) main_call4_v5) (broadcastInDim S16384x1 ![0] bcast_S16384_S16384x1_0),
    TRef.nullary (TRef.of (T := ⟨S1, .i32⟩) main_call4_c_1) (constantI S1 32 1023#32),
    TRef.nullary (TRef.of (T := ⟨S_, .i32⟩) main_call4_c_2) (constantI S_ 32 0#32),
    TRef.unary (TRef.of (T := ⟨S_, .i32⟩) main_call4_c_2) (TRef.of (T := ⟨S16384x1, .i32⟩) main_call4_v6) (broadcastInDim S16384x1 ![] bcast_S_S16384x1),
    TRef.binary (TRef.of (T := ⟨S16384x1, .i32⟩) main_call4_v5) (TRef.of (T := ⟨S16384x1, .i32⟩) main_call4_v6) (TRef.of (T := ⟨S16384x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S16384x1, .i32⟩) main_call4_v9) (broadcastInDim S16384x1 ![0, 1] bcast_S1x1_S16384x1_0_1),
    TRef.binary (TRef.of (T := ⟨S16384x1, .i32⟩) main_call4_v5) (TRef.of (T := ⟨S16384x1, .i32⟩) main_call4_v9) (TRef.of (T := ⟨S16384x1, .i1⟩) main_call4_v10) (cmpi .sle),
    TRef.binary (TRef.of (T := ⟨S16384x1, .i1⟩) main_call4_v7) (TRef.of (T := ⟨S16384x1, .i1⟩) main_call4_v10) (TRef.of (T := ⟨S16384x1, .i1⟩) main_call4_v11) andi,
    TRef.nullary (TRef.of (T := ⟨S_, .i1⟩) main_call4_c_3) (constantI S_ 1 1#1),
    TRef.binary (TRef.of (T := ⟨S16384x1, .i1⟩) main_call4_v11) (TRef.of (T := ⟨S_, .i1⟩) main_call4_c_3) (TRef.of (T := ⟨S16384, .i1⟩) main_call4_v12) (fun x v => Host.reduce IntOp.andi x v reducesTo_S16384x1_S16384_d1 h_S_),
    TRef.binary (TRef.of (T := ⟨S1024x128, .f32⟩) main_v48) (TRef.of (T := ⟨S16384x1, .i32⟩) main_call4_v5) (TRef.of (T := ⟨S16384x128, .f32⟩) main_call4_v13) (fun x i => Host.gather gather_S1024x128_S16384x1_S16384x128_1_0_n_n_0_1_1128 x i),
    TRef.unary (TRef.of (T := ⟨S16384, .i1⟩) main_call4_v12) (TRef.of (T := ⟨S16384x128, .i1⟩) main_call4_v14) (broadcastInDim S16384x128 ![0] bcast_S16384_S16384x128_0),
    TRef.nullary (TRef.of (T := ⟨S_, .f32⟩) main_call4_cst) (constant S_ .f32 0x7FC00000#32),
    TRef.unary (TRef.of (T := ⟨S_, .f32⟩) main_call4_cst) (TRef.of (T := ⟨S16384x128, .f32⟩) main_call4_v15) (broadcastInDim S16384x128 ![] bcast_S_S16384x128),
    TRef.ternary (TRef.of (T := ⟨S16384x128, .i1⟩) main_call4_v14) (TRef.of (T := ⟨S16384x128, .f32⟩) main_call4_v13) (TRef.of (T := ⟨S16384x128, .f32⟩) main_call4_v15) (TRef.of (T := ⟨S16384x128, .f32⟩) main_v64) select ]
abbrev wD1 : List (HloOp τ sig (Elt F)) :=
  [ TRef.unary (TRef.of (T := ⟨S16384, .i32⟩) main_v63) (TRef.of (T := ⟨S16384x1, .i32⟩) main_call5_v0) (broadcastInDim S16384x1 ![0] bcast_S16384_S16384x1_0),
    TRef.nullary (TRef.of (T := ⟨S1x1024, .i32⟩) main_call5_v1) (iotaInDim S1x1024 32 1),
    TRef.unary (TRef.of (T := ⟨S16384x1, .i32⟩) main_call5_v0) (TRef.of (T := ⟨S16384x1024, .i32⟩) main_call5_v2) (broadcastInDim S16384x1024 ![0, 1] bcast_S16384x1_S16384x1024_0_1),
    TRef.unary (TRef.of (T := ⟨S1x1024, .i32⟩) main_call5_v1) (TRef.of (T := ⟨S16384x1024, .i32⟩) main_call5_v3) (broadcastInDim S16384x1024 ![0, 1] bcast_S1x1024_S16384x1024_0_1),
    TRef.binary (TRef.of (T := ⟨S16384x1024, .i32⟩) main_call5_v2) (TRef.of (T := ⟨S16384x1024, .i32⟩) main_call5_v3) (TRef.of (T := ⟨S16384x1024, .i1⟩) main_call5_v4) (cmpi .eq),
    TRef.unary (TRef.of (T := ⟨S16384x1024, .i1⟩) main_call5_v4) (TRef.of (T := ⟨S16384x1024, .f32⟩) main_v65) (uitofp .f32),
    nullary main_cst_16 (constant S_ .f32 0x00000000#32),
    binary main_v65 main_cst_16 main_v66 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_17 (constant S_ .f32 0x46800000#32),
    unary main_cst_17 main_v67 (broadcastInDim S1024 ![] bcast_S_S1024 : (⟨S_, .f32⟩ : BufTy).Contents (Elt F) → (⟨S1024, .f32⟩ : BufTy).Contents (Elt F)),
    binary main_v66 main_v67 main_v68 (Host.divf : (⟨S1024, .f32⟩ : BufTy).Contents (Elt F) → (⟨S1024, .f32⟩ : BufTy).Contents (Elt F) → (⟨S1024, .f32⟩ : BufTy).Contents (Elt F)),
    nullary main_cst_18 (constant S_ .f32 0x2EDBE6FF#32),
    unary main_cst_18 main_v69 (broadcastInDim S1024 ![] bcast_S_S1024 : (⟨S_, .f32⟩ : BufTy).Contents (Elt F) → (⟨S1024, .f32⟩ : BufTy).Contents (Elt F)),
    binary main_v68 main_v69 main_v70 (addf : (⟨S1024, .f32⟩ : BufTy).Contents (Elt F) → (⟨S1024, .f32⟩ : BufTy).Contents (Elt F) → (⟨S1024, .f32⟩ : BufTy).Contents (Elt F)),
    unary main_v70 main_v71 (Host.log : (⟨S1024, .f32⟩ : BufTy).Contents (Elt F) → (⟨S1024, .f32⟩ : BufTy).Contents (Elt F)),
    binary main_v68 main_v71 main_v72 (mulf : (⟨S1024, .f32⟩ : BufTy).Contents (Elt F) → (⟨S1024, .f32⟩ : BufTy).Contents (Elt F) → (⟨S1024, .f32⟩ : BufTy).Contents (Elt F)),
    nullary main_cst_19 (constant S_ .f32 0x00000000#32),
    binary main_v72 main_cst_19 main_v73 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v73 main_v74 (Host.negf : (⟨S_, .f32⟩ : BufTy).Contents (Elt F) → (⟨S_, .f32⟩ : BufTy).Contents (Elt F)),
    unary main_v74 main_v75 (Host.exp : (⟨S_, .f32⟩ : BufTy).Contents (Elt F) → (⟨S_, .f32⟩ : BufTy).Contents (Elt F)) ]
abbrev wE1 : List (HloOp τ sig (Elt F)) :=
  [ binary main_v64 main_v44 main_v76 (subf : (⟨S16384x128, .f32⟩ : BufTy).Contents (Elt F) → (⟨S16384x128, .f32⟩ : BufTy).Contents (Elt F) → (⟨S16384x128, .f32⟩ : BufTy).Contents (Elt F)),
    binary main_v76 main_v76 main_v77 (mulf : (⟨S16384x128, .f32⟩ : BufTy).Contents (Elt F) → (⟨S16384x128, .f32⟩ : BufTy).Contents (Elt F) → (⟨S16384x128, .f32⟩ : BufTy).Contents (Elt F)),
    nullary main_cst_20 (constant S_ .f32 0x00000000#32),
    binary main_v77 main_cst_20 main_v78 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_21 (constant S_ .f32 0x4A000000#32),
    binary main_v78 main_cst_21 main_v79 (Host.divf : (⟨S_, .f32⟩ : BufTy).Contents (Elt F) → (⟨S_, .f32⟩ : BufTy).Contents (Elt F) → (⟨S_, .f32⟩ : BufTy).Contents (Elt F)),
    nullary main_cst_22 (constant S_ .f32 0x3E800000#32),
    binary main_cst_22 main_v79 main_v80 (mulf : (⟨S_, .f32⟩ : BufTy).Contents (Elt F) → (⟨S_, .f32⟩ : BufTy).Contents (Elt F) → (⟨S_, .f32⟩ : BufTy).Contents (Elt F)),
    binary main_v64 main_v44 main_v81 (subf : (⟨S16384x128, .f32⟩ : BufTy).Contents (Elt F) → (⟨S16384x128, .f32⟩ : BufTy).Contents (Elt F) → (⟨S16384x128, .f32⟩ : BufTy).Contents (Elt F)),
    binary main_v81 main_v81 main_v82 (mulf : (⟨S16384x128, .f32⟩ : BufTy).Contents (Elt F) → (⟨S16384x128, .f32⟩ : BufTy).Contents (Elt F) → (⟨S16384x128, .f32⟩ : BufTy).Contents (Elt F)),
    nullary main_cst_23 (constant S_ .f32 0x00000000#32),
    binary main_v82 main_cst_23 main_v83 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_24 (constant S_ .f32 0x4A000000#32),
    binary main_v83 main_cst_24 main_v84 (Host.divf : (⟨S_, .f32⟩ : BufTy).Contents (Elt F) → (⟨S_, .f32⟩ : BufTy).Contents (Elt F) → (⟨S_, .f32⟩ : BufTy).Contents (Elt F)),
    binary main_v80 main_v84 main_v85 (addf : (⟨S_, .f32⟩ : BufTy).Contents (Elt F) → (⟨S_, .f32⟩ : BufTy).Contents (Elt F) → (⟨S_, .f32⟩ : BufTy).Contents (Elt F)) ]
abbrev wF1 : List (HloOp τ sig (Elt F)) :=
  [ binary main_v64 main_v44 main_v86 (subf : (⟨S16384x128, .f32⟩ : BufTy).Contents (Elt F) → (⟨S16384x128, .f32⟩ : BufTy).Contents (Elt F) → (⟨S16384x128, .f32⟩ : BufTy).Contents (Elt F)),
    binary main_v44 main_v86 main_v87 (addf : (⟨S16384x128, .f32⟩ : BufTy).Contents (Elt F) → (⟨S16384x128, .f32⟩ : BufTy).Contents (Elt F) → (⟨S16384x128, .f32⟩ : BufTy).Contents (Elt F)),
    binary main_v44 main_v87 main_v88 (subf : (⟨S16384x128, .f32⟩ : BufTy).Contents (Elt F) → (⟨S16384x128, .f32⟩ : BufTy).Contents (Elt F) → (⟨S16384x128, .f32⟩ : BufTy).Contents (Elt F)),
    binary main_v45 main_v87 main_v89 (addf : (⟨S16384x128, .f32⟩ : BufTy).Contents (Elt F) → (⟨S16384x128, .f32⟩ : BufTy).Contents (Elt F) → (⟨S16384x128, .f32⟩ : BufTy).Contents (Elt F)),
    binary main_v46 main_v85 main_v90 (addf : (⟨S_, .f32⟩ : BufTy).Contents (Elt F) → (⟨S_, .f32⟩ : BufTy).Contents (Elt F) → (⟨S_, .f32⟩ : BufTy).Contents (Elt F)) ]
abbrev wA2a : List (HloOp τ sig (Elt F)) :=
  [ unary main_arg1 main_v91 ((extractStridedSlice S1x1024x128 ![2, 0, 0] · slices_S4x1024x128_S1x1024x128_2_0_0) : (⟨S4x1024x128, .f32⟩ : BufTy).Contents (Elt F) → (⟨S1x1024x128, .f32⟩ : BufTy).Contents (Elt F)),
    reshape main_v91 main_v92 (rfl : (.f32 : EltTy) = .f32) shapeCasts_S1x1024x128_S1024x128,
    binary main_v88 main_v88 main_v93 (mulf : (⟨S16384x128, .f32⟩ : BufTy).Contents (Elt F) → (⟨S16384x128, .f32⟩ : BufTy).Contents (Elt F) → (⟨S16384x128, .f32⟩ : BufTy).Contents (Elt F)) ]
abbrev wA2b : List (HloOp τ sig (Elt F)) :=
  [ nullary main_cst_25 (constant S_ .f32 0x00000000#32),
    binary main_v93 main_cst_25 main_v94 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v94 main_v95 (broadcastInDim S16384x1 ![0] bcast_S16384_S16384x1_0 : (⟨S16384, .f32⟩ : BufTy).Contents (Elt F) → (⟨S16384x1, .f32⟩ : BufTy).Contents (Elt F)),
    unary main_v92 main_v96 ((transpose S128x1024 [1, 0] · transposes_S1024x128_S128x1024_1_0) : (⟨S1024x128, .f32⟩ : BufTy).Contents (Elt F) → (⟨S128x1024, .f32⟩ : BufTy).Contents (Elt F)),
    binary main_v88 main_v96 main_v97 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    nullary main_cst_26 (constant S_ .f32 0x40000000#32),
    unary main_cst_26 main_v98 (broadcastInDim S16384x1024 ![] bcast_S_S16384x1024 : (⟨S_, .f32⟩ : BufTy).Contents (Elt F) → (⟨S16384x1024, .f32⟩ : BufTy).Contents (Elt F)),
    binary main_v98 main_v97 main_v99 (mulf : (⟨S16384x1024, .f32⟩ : BufTy).Contents (Elt F) → (⟨S16384x1024, .f32⟩ : BufTy).Contents (Elt F) → (⟨S16384x1024, .f32⟩ : BufTy).Contents (Elt F)),
    unary main_v95 main_v100 (broadcastInDim S16384x1024 ![0, 1] bcast_S16384x1_S16384x1024_0_1 : (⟨S16384x1, .f32⟩ : BufTy).Contents (Elt F) → (⟨S16384x1024, .f32⟩ : BufTy).Contents (Elt F)),
    binary main_v100 main_v99 main_v101 (subf : (⟨S16384x1024, .f32⟩ : BufTy).Contents (Elt F) → (⟨S16384x1024, .f32⟩ : BufTy).Contents (Elt F) → (⟨S16384x1024, .f32⟩ : BufTy).Contents (Elt F)),
    binary main_v92 main_v92 main_v102 (mulf : (⟨S1024x128, .f32⟩ : BufTy).Contents (Elt F) → (⟨S1024x128, .f32⟩ : BufTy).Contents (Elt F) → (⟨S1024x128, .f32⟩ : BufTy).Contents (Elt F)),
    nullary main_cst_27 (constant S_ .f32 0x00000000#32),
    binary main_v102 main_cst_27 main_v103 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    unary main_v103 main_v104 (broadcastInDim S1x1024 ![1] bcast_S1024_S1x1024_1 : (⟨S1024, .f32⟩ : BufTy).Contents (Elt F) → (⟨S1x1024, .f32⟩ : BufTy).Contents (Elt F)),
    unary main_v104 main_v105 (broadcastInDim S16384x1024 ![0, 1] bcast_S1x1024_S16384x1024_0_1 : (⟨S1x1024, .f32⟩ : BufTy).Contents (Elt F) → (⟨S16384x1024, .f32⟩ : BufTy).Contents (Elt F)),
    binary main_v101 main_v105 main_v106 (addf : (⟨S16384x1024, .f32⟩ : BufTy).Contents (Elt F) → (⟨S16384x1024, .f32⟩ : BufTy).Contents (Elt F) → (⟨S16384x1024, .f32⟩ : BufTy).Contents (Elt F)) ]
abbrev wB2 : List (HloOp τ sig (Elt F)) :=
  [ TRef.nullary (TRef.of (T := ⟨S16384x1024, .i32⟩) main_call6_v0) (iotaInDim S16384x1024 32 1),
    TRef.nullary (TRef.of (T := ⟨S_, .f32⟩) main_call6_cst) (constant S_ .f32 0x7F800000#32),
    TRef.nullary (TRef.of (T := ⟨S_, .i32⟩) main_call6_c) (constantI S_ 32 0#32),
    TRef.quaternary (TRef.of (T := ⟨S16384x1024, .f32⟩) main_v106) (TRef.of (T := ⟨S16384x1024, .i32⟩) main_call6_v0) (TRef.of (T := ⟨S_, .f32⟩) main_call6_cst) (TRef.of (T := ⟨S_, .i32⟩) main_call6_c) (TRef.of (T := ⟨S16384, .f32⟩) main_call6_v1_0) (fun x y u v j => (Host.argReduce reducer_argmin_f32_i32 x y u v reducesTo_S16384x1024_S16384_d1 h_S_ j).1),
    TRef.quaternary (TRef.of (T := ⟨S16384x1024, .f32⟩) main_v106) (TRef.of (T := ⟨S16384x1024, .i32⟩) main_call6_v0) (TRef.of (T := ⟨S_, .f32⟩) main_call6_cst) (TRef.of (T := ⟨S_, .i32⟩) main_call6_c) (TRef.of (T := ⟨S16384, .i32⟩) main_v107) (fun x y u v j => (Host.argReduce reducer_argmin_f32_i32 x y u v reducesTo_S16384x1024_S16384_d1 h_S_ j).2) ]
abbrev wC2 : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S16384, .i32⟩) main_call7_v0) (broadcastInDim S16384 ![] bcast_S_S16384),
    TRef.binary (TRef.of (T := ⟨S16384, .i32⟩) main_v107) (TRef.of (T := ⟨S16384, .i32⟩) main_call7_v0) (TRef.of (T := ⟨S16384, .i1⟩) main_call7_v1) (cmpi .slt),
    TRef.nullary (TRef.of (T := ⟨S_, .i32⟩) main_call7_c_0) (constantI S_ 32 1024#32),
    TRef.unary (TRef.of (T := ⟨S_, .i32⟩) main_call7_c_0) (TRef.of (T := ⟨S16384, .i32⟩) main_call7_v2) (broadcastInDim S16384 ![] bcast_S_S16384),
    TRef.binary (TRef.of (T := ⟨S16384, .i32⟩) main_v107) (TRef.of (T := ⟨S16384, .i32⟩) main_call7_v2) (TRef.of (T := ⟨S16384, .i32⟩) main_call7_v3) addi,
    TRef.ternary (TRef.of (T := ⟨S16384, .i1⟩) main_call7_v1) (TRef.of (T := ⟨S16384, .i32⟩) main_call7_v3) (TRef.of (T := ⟨S16384, .i32⟩) main_v107) (TRef.of (T := ⟨S16384, .i32⟩) main_call7_v4) select,
    TRef.unary (TRef.of (T := ⟨S16384, .i32⟩) main_call7_v4) (TRef.of (T := ⟨S16384x1, .i32⟩) main_call7_v5) (broadcastInDim S16384x1 ![0] bcast_S16384_S16384x1_0),
    TRef.nullary (TRef.of (T := ⟨S1, .i32⟩) main_call7_c_1) (constantI S1 32 1023#32),
    TRef.nullary (TRef.of (T := ⟨S_, .i32⟩) main_call7_c_2) (constantI S_ 32 0#32),
    TRef.unary (TRef.of (T := ⟨S_, .i32⟩) main_call7_c_2) (TRef.of (T := ⟨S16384x1, .i32⟩) main_call7_v6) (broadcastInDim S16384x1 ![] bcast_S_S16384x1),
    TRef.binary (TRef.of (T := ⟨S16384x1, .i32⟩) main_call7_v5) (TRef.of (T := ⟨S16384x1, .i32⟩) main_call7_v6) (TRef.of (T := ⟨S16384x1, .i1⟩) main_call7_v7) (cmpi .sge),
    TRef.unary (TRef.of (T := ⟨S1, .i32⟩) main_call7_c_1) (TRef.of (T := ⟨S1x1, .i32⟩) main_call7_v8) (broadcastInDim S1x1 ![1] bcast_S1_S1x1_1),
    TRef.unary (TRef.of (T := ⟨S1x1, .i32⟩) main_call7_v8) (TRef.of (T := ⟨S16384x1, .i32⟩) main_call7_v9) (broadcastInDim S16384x1 ![0, 1] bcast_S1x1_S16384x1_0_1),
    TRef.binary (TRef.of (T := ⟨S16384x1, .i32⟩) main_call7_v5) (TRef.of (T := ⟨S16384x1, .i32⟩) main_call7_v9) (TRef.of (T := ⟨S16384x1, .i1⟩) main_call7_v10) (cmpi .sle),
    TRef.binary (TRef.of (T := ⟨S16384x1, .i1⟩) main_call7_v7) (TRef.of (T := ⟨S16384x1, .i1⟩) main_call7_v10) (TRef.of (T := ⟨S16384x1, .i1⟩) main_call7_v11) andi,
    TRef.nullary (TRef.of (T := ⟨S_, .i1⟩) main_call7_c_3) (constantI S_ 1 1#1),
    TRef.binary (TRef.of (T := ⟨S16384x1, .i1⟩) main_call7_v11) (TRef.of (T := ⟨S_, .i1⟩) main_call7_c_3) (TRef.of (T := ⟨S16384, .i1⟩) main_call7_v12) (fun x v => Host.reduce IntOp.andi x v reducesTo_S16384x1_S16384_d1 h_S_),
    TRef.binary (TRef.of (T := ⟨S1024x128, .f32⟩) main_v92) (TRef.of (T := ⟨S16384x1, .i32⟩) main_call7_v5) (TRef.of (T := ⟨S16384x128, .f32⟩) main_call7_v13) (fun x i => Host.gather gather_S1024x128_S16384x1_S16384x128_1_0_n_n_0_1_1128 x i),
    TRef.unary (TRef.of (T := ⟨S16384, .i1⟩) main_call7_v12) (TRef.of (T := ⟨S16384x128, .i1⟩) main_call7_v14) (broadcastInDim S16384x128 ![0] bcast_S16384_S16384x128_0),
    TRef.nullary (TRef.of (T := ⟨S_, .f32⟩) main_call7_cst) (constant S_ .f32 0x7FC00000#32),
    TRef.unary (TRef.of (T := ⟨S_, .f32⟩) main_call7_cst) (TRef.of (T := ⟨S16384x128, .f32⟩) main_call7_v15) (broadcastInDim S16384x128 ![] bcast_S_S16384x128),
    TRef.ternary (TRef.of (T := ⟨S16384x128, .i1⟩) main_call7_v14) (TRef.of (T := ⟨S16384x128, .f32⟩) main_call7_v13) (TRef.of (T := ⟨S16384x128, .f32⟩) main_call7_v15) (TRef.of (T := ⟨S16384x128, .f32⟩) main_v108) select ]
abbrev wD2 : List (HloOp τ sig (Elt F)) :=
  [ TRef.unary (TRef.of (T := ⟨S16384, .i32⟩) main_v107) (TRef.of (T := ⟨S16384x1, .i32⟩) main_call8_v0) (broadcastInDim S16384x1 ![0] bcast_S16384_S16384x1_0),
    TRef.nullary (TRef.of (T := ⟨S1x1024, .i32⟩) main_call8_v1) (iotaInDim S1x1024 32 1),
    TRef.unary (TRef.of (T := ⟨S16384x1, .i32⟩) main_call8_v0) (TRef.of (T := ⟨S16384x1024, .i32⟩) main_call8_v2) (broadcastInDim S16384x1024 ![0, 1] bcast_S16384x1_S16384x1024_0_1),
    TRef.unary (TRef.of (T := ⟨S1x1024, .i32⟩) main_call8_v1) (TRef.of (T := ⟨S16384x1024, .i32⟩) main_call8_v3) (broadcastInDim S16384x1024 ![0, 1] bcast_S1x1024_S16384x1024_0_1),
    TRef.binary (TRef.of (T := ⟨S16384x1024, .i32⟩) main_call8_v2) (TRef.of (T := ⟨S16384x1024, .i32⟩) main_call8_v3) (TRef.of (T := ⟨S16384x1024, .i1⟩) main_call8_v4) (cmpi .eq),
    TRef.unary (TRef.of (T := ⟨S16384x1024, .i1⟩) main_call8_v4) (TRef.of (T := ⟨S16384x1024, .f32⟩) main_v109) (uitofp .f32),
    nullary main_cst_28 (constant S_ .f32 0x00000000#32),
    binary main_v109 main_cst_28 main_v110 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_29 (constant S_ .f32 0x46800000#32),
    unary main_cst_29 main_v111 (broadcastInDim S1024 ![] bcast_S_S1024 : (⟨S_, .f32⟩ : BufTy).Contents (Elt F) → (⟨S1024, .f32⟩ : BufTy).Contents (Elt F)),
    binary main_v110 main_v111 main_v112 (Host.divf : (⟨S1024, .f32⟩ : BufTy).Contents (Elt F) → (⟨S1024, .f32⟩ : BufTy).Contents (Elt F) → (⟨S1024, .f32⟩ : BufTy).Contents (Elt F)),
    nullary main_cst_30 (constant S_ .f32 0x2EDBE6FF#32),
    unary main_cst_30 main_v113 (broadcastInDim S1024 ![] bcast_S_S1024 : (⟨S_, .f32⟩ : BufTy).Contents (Elt F) → (⟨S1024, .f32⟩ : BufTy).Contents (Elt F)),
    binary main_v112 main_v113 main_v114 (addf : (⟨S1024, .f32⟩ : BufTy).Contents (Elt F) → (⟨S1024, .f32⟩ : BufTy).Contents (Elt F) → (⟨S1024, .f32⟩ : BufTy).Contents (Elt F)),
    unary main_v114 main_v115 (Host.log : (⟨S1024, .f32⟩ : BufTy).Contents (Elt F) → (⟨S1024, .f32⟩ : BufTy).Contents (Elt F)),
    binary main_v112 main_v115 main_v116 (mulf : (⟨S1024, .f32⟩ : BufTy).Contents (Elt F) → (⟨S1024, .f32⟩ : BufTy).Contents (Elt F) → (⟨S1024, .f32⟩ : BufTy).Contents (Elt F)),
    nullary main_cst_31 (constant S_ .f32 0x00000000#32),
    binary main_v116 main_cst_31 main_v117 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v117 main_v118 (Host.negf : (⟨S_, .f32⟩ : BufTy).Contents (Elt F) → (⟨S_, .f32⟩ : BufTy).Contents (Elt F)),
    unary main_v118 main_v119 (Host.exp : (⟨S_, .f32⟩ : BufTy).Contents (Elt F) → (⟨S_, .f32⟩ : BufTy).Contents (Elt F)) ]
abbrev wE2 : List (HloOp τ sig (Elt F)) :=
  [ binary main_v108 main_v88 main_v120 (subf : (⟨S16384x128, .f32⟩ : BufTy).Contents (Elt F) → (⟨S16384x128, .f32⟩ : BufTy).Contents (Elt F) → (⟨S16384x128, .f32⟩ : BufTy).Contents (Elt F)),
    binary main_v120 main_v120 main_v121 (mulf : (⟨S16384x128, .f32⟩ : BufTy).Contents (Elt F) → (⟨S16384x128, .f32⟩ : BufTy).Contents (Elt F) → (⟨S16384x128, .f32⟩ : BufTy).Contents (Elt F)),
    nullary main_cst_32 (constant S_ .f32 0x00000000#32),
    binary main_v121 main_cst_32 main_v122 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_33 (constant S_ .f32 0x4A000000#32),
    binary main_v122 main_cst_33 main_v123 (Host.divf : (⟨S_, .f32⟩ : BufTy).Contents (Elt F) → (⟨S_, .f32⟩ : BufTy).Contents (Elt F) → (⟨S_, .f32⟩ : BufTy).Contents (Elt F)),
    nullary main_cst_34 (constant S_ .f32 0x3E800000#32),
    binary main_cst_34 main_v123 main_v124 (mulf : (⟨S_, .f32⟩ : BufTy).Contents (Elt F) → (⟨S_, .f32⟩ : BufTy).Contents (Elt F) → (⟨S_, .f32⟩ : BufTy).Contents (Elt F)),
    binary main_v108 main_v88 main_v125 (subf : (⟨S16384x128, .f32⟩ : BufTy).Contents (Elt F) → (⟨S16384x128, .f32⟩ : BufTy).Contents (Elt F) → (⟨S16384x128, .f32⟩ : BufTy).Contents (Elt F)),
    binary main_v125 main_v125 main_v126 (mulf : (⟨S16384x128, .f32⟩ : BufTy).Contents (Elt F) → (⟨S16384x128, .f32⟩ : BufTy).Contents (Elt F) → (⟨S16384x128, .f32⟩ : BufTy).Contents (Elt F)),
    nullary main_cst_35 (constant S_ .f32 0x00000000#32),
    binary main_v126 main_cst_35 main_v127 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_36 (constant S_ .f32 0x4A000000#32),
    binary main_v127 main_cst_36 main_v128 (Host.divf : (⟨S_, .f32⟩ : BufTy).Contents (Elt F) → (⟨S_, .f32⟩ : BufTy).Contents (Elt F) → (⟨S_, .f32⟩ : BufTy).Contents (Elt F)),
    binary main_v124 main_v128 main_v129 (addf : (⟨S_, .f32⟩ : BufTy).Contents (Elt F) → (⟨S_, .f32⟩ : BufTy).Contents (Elt F) → (⟨S_, .f32⟩ : BufTy).Contents (Elt F)) ]
abbrev wF2 : List (HloOp τ sig (Elt F)) :=
  [ binary main_v108 main_v88 main_v130 (subf : (⟨S16384x128, .f32⟩ : BufTy).Contents (Elt F) → (⟨S16384x128, .f32⟩ : BufTy).Contents (Elt F) → (⟨S16384x128, .f32⟩ : BufTy).Contents (Elt F)),
    binary main_v88 main_v130 main_v131 (addf : (⟨S16384x128, .f32⟩ : BufTy).Contents (Elt F) → (⟨S16384x128, .f32⟩ : BufTy).Contents (Elt F) → (⟨S16384x128, .f32⟩ : BufTy).Contents (Elt F)),
    binary main_v88 main_v131 main_v132 (subf : (⟨S16384x128, .f32⟩ : BufTy).Contents (Elt F) → (⟨S16384x128, .f32⟩ : BufTy).Contents (Elt F) → (⟨S16384x128, .f32⟩ : BufTy).Contents (Elt F)),
    binary main_v89 main_v131 main_v133 (addf : (⟨S16384x128, .f32⟩ : BufTy).Contents (Elt F) → (⟨S16384x128, .f32⟩ : BufTy).Contents (Elt F) → (⟨S16384x128, .f32⟩ : BufTy).Contents (Elt F)),
    binary main_v90 main_v129 main_v134 (addf : (⟨S_, .f32⟩ : BufTy).Contents (Elt F) → (⟨S_, .f32⟩ : BufTy).Contents (Elt F) → (⟨S_, .f32⟩ : BufTy).Contents (Elt F)) ]
abbrev wA3a : List (HloOp τ sig (Elt F)) :=
  [ unary main_arg1 main_v135 ((extractStridedSlice S1x1024x128 ![3, 0, 0] · slices_S4x1024x128_S1x1024x128_3_0_0) : (⟨S4x1024x128, .f32⟩ : BufTy).Contents (Elt F) → (⟨S1x1024x128, .f32⟩ : BufTy).Contents (Elt F)),
    reshape main_v135 main_v136 (rfl : (.f32 : EltTy) = .f32) shapeCasts_S1x1024x128_S1024x128,
    binary main_v132 main_v132 main_v137 (mulf : (⟨S16384x128, .f32⟩ : BufTy).Contents (Elt F) → (⟨S16384x128, .f32⟩ : BufTy).Contents (Elt F) → (⟨S16384x128, .f32⟩ : BufTy).Contents (Elt F)),
    nullary main_cst_37 (constant S_ .f32 0x00000000#32),
    binary main_v137 main_cst_37 main_v138 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v138 main_v139 (broadcastInDim S16384x1 ![0] bcast_S16384_S16384x1_0 : (⟨S16384, .f32⟩ : BufTy).Contents (Elt F) → (⟨S16384x1, .f32⟩ : BufTy).Contents (Elt F)),
    unary main_v136 main_v140 ((transpose S128x1024 [1, 0] · transposes_S1024x128_S128x1024_1_0) : (⟨S1024x128, .f32⟩ : BufTy).Contents (Elt F) → (⟨S128x1024, .f32⟩ : BufTy).Contents (Elt F)) ]
abbrev wA3b : List (HloOp τ sig (Elt F)) :=
  [ binary main_v132 main_v140 main_v141 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    nullary main_cst_38 (constant S_ .f32 0x40000000#32),
    unary main_cst_38 main_v142 (broadcastInDim S16384x1024 ![] bcast_S_S16384x1024 : (⟨S_, .f32⟩ : BufTy).Contents (Elt F) → (⟨S16384x1024, .f32⟩ : BufTy).Contents (Elt F)),
    binary main_v142 main_v141 main_v143 (mulf : (⟨S16384x1024, .f32⟩ : BufTy).Contents (Elt F) → (⟨S16384x1024, .f32⟩ : BufTy).Contents (Elt F) → (⟨S16384x1024, .f32⟩ : BufTy).Contents (Elt F)),
    unary main_v139 main_v144 (broadcastInDim S16384x1024 ![0, 1] bcast_S16384x1_S16384x1024_0_1 : (⟨S16384x1, .f32⟩ : BufTy).Contents (Elt F) → (⟨S16384x1024, .f32⟩ : BufTy).Contents (Elt F)),
    binary main_v144 main_v143 main_v145 (subf : (⟨S16384x1024, .f32⟩ : BufTy).Contents (Elt F) → (⟨S16384x1024, .f32⟩ : BufTy).Contents (Elt F) → (⟨S16384x1024, .f32⟩ : BufTy).Contents (Elt F)),
    binary main_v136 main_v136 main_v146 (mulf : (⟨S1024x128, .f32⟩ : BufTy).Contents (Elt F) → (⟨S1024x128, .f32⟩ : BufTy).Contents (Elt F) → (⟨S1024x128, .f32⟩ : BufTy).Contents (Elt F)),
    nullary main_cst_39 (constant S_ .f32 0x00000000#32),
    binary main_v146 main_cst_39 main_v147 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    unary main_v147 main_v148 (broadcastInDim S1x1024 ![1] bcast_S1024_S1x1024_1 : (⟨S1024, .f32⟩ : BufTy).Contents (Elt F) → (⟨S1x1024, .f32⟩ : BufTy).Contents (Elt F)),
    unary main_v148 main_v149 (broadcastInDim S16384x1024 ![0, 1] bcast_S1x1024_S16384x1024_0_1 : (⟨S1x1024, .f32⟩ : BufTy).Contents (Elt F) → (⟨S16384x1024, .f32⟩ : BufTy).Contents (Elt F)),
    binary main_v145 main_v149 main_v150 (addf : (⟨S16384x1024, .f32⟩ : BufTy).Contents (Elt F) → (⟨S16384x1024, .f32⟩ : BufTy).Contents (Elt F) → (⟨S16384x1024, .f32⟩ : BufTy).Contents (Elt F)) ]
abbrev wB3 : List (HloOp τ sig (Elt F)) :=
  [ TRef.nullary (TRef.of (T := ⟨S16384x1024, .i32⟩) main_call9_v0) (iotaInDim S16384x1024 32 1),
    TRef.nullary (TRef.of (T := ⟨S_, .f32⟩) main_call9_cst) (constant S_ .f32 0x7F800000#32),
    TRef.nullary (TRef.of (T := ⟨S_, .i32⟩) main_call9_c) (constantI S_ 32 0#32),
    TRef.quaternary (TRef.of (T := ⟨S16384x1024, .f32⟩) main_v150) (TRef.of (T := ⟨S16384x1024, .i32⟩) main_call9_v0) (TRef.of (T := ⟨S_, .f32⟩) main_call9_cst) (TRef.of (T := ⟨S_, .i32⟩) main_call9_c) (TRef.of (T := ⟨S16384, .f32⟩) main_call9_v1_0) (fun x y u v j => (Host.argReduce reducer_argmin_f32_i32 x y u v reducesTo_S16384x1024_S16384_d1 h_S_ j).1),
    TRef.quaternary (TRef.of (T := ⟨S16384x1024, .f32⟩) main_v150) (TRef.of (T := ⟨S16384x1024, .i32⟩) main_call9_v0) (TRef.of (T := ⟨S_, .f32⟩) main_call9_cst) (TRef.of (T := ⟨S_, .i32⟩) main_call9_c) (TRef.of (T := ⟨S16384, .i32⟩) main_v151) (fun x y u v j => (Host.argReduce reducer_argmin_f32_i32 x y u v reducesTo_S16384x1024_S16384_d1 h_S_ j).2) ]
abbrev wC3 : List (HloOp τ sig (Elt F)) :=
  [ TRef.nullary (TRef.of (T := ⟨S_, .i32⟩) main_call10_c) (constantI S_ 32 0#32),
    TRef.unary (TRef.of (T := ⟨S_, .i32⟩) main_call10_c) (TRef.of (T := ⟨S16384, .i32⟩) main_call10_v0) (broadcastInDim S16384 ![] bcast_S_S16384),
    TRef.binary (TRef.of (T := ⟨S16384, .i32⟩) main_v151) (TRef.of (T := ⟨S16384, .i32⟩) main_call10_v0) (TRef.of (T := ⟨S16384, .i1⟩) main_call10_v1) (cmpi .slt),
    TRef.nullary (TRef.of (T := ⟨S_, .i32⟩) main_call10_c_0) (constantI S_ 32 1024#32),
    TRef.unary (TRef.of (T := ⟨S_, .i32⟩) main_call10_c_0) (TRef.of (T := ⟨S16384, .i32⟩) main_call10_v2) (broadcastInDim S16384 ![] bcast_S_S16384),
    TRef.binary (TRef.of (T := ⟨S16384, .i32⟩) main_v151) (TRef.of (T := ⟨S16384, .i32⟩) main_call10_v2) (TRef.of (T := ⟨S16384, .i32⟩) main_call10_v3) addi,
    TRef.ternary (TRef.of (T := ⟨S16384, .i1⟩) main_call10_v1) (TRef.of (T := ⟨S16384, .i32⟩) main_call10_v3) (TRef.of (T := ⟨S16384, .i32⟩) main_v151) (TRef.of (T := ⟨S16384, .i32⟩) main_call10_v4) select,
    TRef.unary (TRef.of (T := ⟨S16384, .i32⟩) main_call10_v4) (TRef.of (T := ⟨S16384x1, .i32⟩) main_call10_v5) (broadcastInDim S16384x1 ![0] bcast_S16384_S16384x1_0),
    TRef.nullary (TRef.of (T := ⟨S1, .i32⟩) main_call10_c_1) (constantI S1 32 1023#32),
    TRef.nullary (TRef.of (T := ⟨S_, .i32⟩) main_call10_c_2) (constantI S_ 32 0#32),
    TRef.unary (TRef.of (T := ⟨S_, .i32⟩) main_call10_c_2) (TRef.of (T := ⟨S16384x1, .i32⟩) main_call10_v6) (broadcastInDim S16384x1 ![] bcast_S_S16384x1),
    TRef.binary (TRef.of (T := ⟨S16384x1, .i32⟩) main_call10_v5) (TRef.of (T := ⟨S16384x1, .i32⟩) main_call10_v6) (TRef.of (T := ⟨S16384x1, .i1⟩) main_call10_v7) (cmpi .sge),
    TRef.unary (TRef.of (T := ⟨S1, .i32⟩) main_call10_c_1) (TRef.of (T := ⟨S1x1, .i32⟩) main_call10_v8) (broadcastInDim S1x1 ![1] bcast_S1_S1x1_1),
    TRef.unary (TRef.of (T := ⟨S1x1, .i32⟩) main_call10_v8) (TRef.of (T := ⟨S16384x1, .i32⟩) main_call10_v9) (broadcastInDim S16384x1 ![0, 1] bcast_S1x1_S16384x1_0_1),
    TRef.binary (TRef.of (T := ⟨S16384x1, .i32⟩) main_call10_v5) (TRef.of (T := ⟨S16384x1, .i32⟩) main_call10_v9) (TRef.of (T := ⟨S16384x1, .i1⟩) main_call10_v10) (cmpi .sle),
    TRef.binary (TRef.of (T := ⟨S16384x1, .i1⟩) main_call10_v7) (TRef.of (T := ⟨S16384x1, .i1⟩) main_call10_v10) (TRef.of (T := ⟨S16384x1, .i1⟩) main_call10_v11) andi,
    TRef.nullary (TRef.of (T := ⟨S_, .i1⟩) main_call10_c_3) (constantI S_ 1 1#1),
    TRef.binary (TRef.of (T := ⟨S16384x1, .i1⟩) main_call10_v11) (TRef.of (T := ⟨S_, .i1⟩) main_call10_c_3) (TRef.of (T := ⟨S16384, .i1⟩) main_call10_v12) (fun x v => Host.reduce IntOp.andi x v reducesTo_S16384x1_S16384_d1 h_S_),
    TRef.binary (TRef.of (T := ⟨S1024x128, .f32⟩) main_v136) (TRef.of (T := ⟨S16384x1, .i32⟩) main_call10_v5) (TRef.of (T := ⟨S16384x128, .f32⟩) main_call10_v13) (fun x i => Host.gather gather_S1024x128_S16384x1_S16384x128_1_0_n_n_0_1_1128 x i),
    TRef.unary (TRef.of (T := ⟨S16384, .i1⟩) main_call10_v12) (TRef.of (T := ⟨S16384x128, .i1⟩) main_call10_v14) (broadcastInDim S16384x128 ![0] bcast_S16384_S16384x128_0),
    TRef.nullary (TRef.of (T := ⟨S_, .f32⟩) main_call10_cst) (constant S_ .f32 0x7FC00000#32),
    TRef.unary (TRef.of (T := ⟨S_, .f32⟩) main_call10_cst) (TRef.of (T := ⟨S16384x128, .f32⟩) main_call10_v15) (broadcastInDim S16384x128 ![] bcast_S_S16384x128),
    TRef.ternary (TRef.of (T := ⟨S16384x128, .i1⟩) main_call10_v14) (TRef.of (T := ⟨S16384x128, .f32⟩) main_call10_v13) (TRef.of (T := ⟨S16384x128, .f32⟩) main_call10_v15) (TRef.of (T := ⟨S16384x128, .f32⟩) main_v152) select ]
abbrev wD3 : List (HloOp τ sig (Elt F)) :=
  [ TRef.unary (TRef.of (T := ⟨S16384, .i32⟩) main_v151) (TRef.of (T := ⟨S16384x1, .i32⟩) main_call11_v0) (broadcastInDim S16384x1 ![0] bcast_S16384_S16384x1_0),
    TRef.nullary (TRef.of (T := ⟨S1x1024, .i32⟩) main_call11_v1) (iotaInDim S1x1024 32 1),
    TRef.unary (TRef.of (T := ⟨S16384x1, .i32⟩) main_call11_v0) (TRef.of (T := ⟨S16384x1024, .i32⟩) main_call11_v2) (broadcastInDim S16384x1024 ![0, 1] bcast_S16384x1_S16384x1024_0_1),
    TRef.unary (TRef.of (T := ⟨S1x1024, .i32⟩) main_call11_v1) (TRef.of (T := ⟨S16384x1024, .i32⟩) main_call11_v3) (broadcastInDim S16384x1024 ![0, 1] bcast_S1x1024_S16384x1024_0_1),
    TRef.binary (TRef.of (T := ⟨S16384x1024, .i32⟩) main_call11_v2) (TRef.of (T := ⟨S16384x1024, .i32⟩) main_call11_v3) (TRef.of (T := ⟨S16384x1024, .i1⟩) main_call11_v4) (cmpi .eq),
    TRef.unary (TRef.of (T := ⟨S16384x1024, .i1⟩) main_call11_v4) (TRef.of (T := ⟨S16384x1024, .f32⟩) main_v153) (uitofp .f32),
    nullary main_cst_40 (constant S_ .f32 0x00000000#32),
    binary main_v153 main_cst_40 main_v154 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_41 (constant S_ .f32 0x46800000#32),
    unary main_cst_41 main_v155 (broadcastInDim S1024 ![] bcast_S_S1024 : (⟨S_, .f32⟩ : BufTy).Contents (Elt F) → (⟨S1024, .f32⟩ : BufTy).Contents (Elt F)),
    binary main_v154 main_v155 main_v156 (Host.divf : (⟨S1024, .f32⟩ : BufTy).Contents (Elt F) → (⟨S1024, .f32⟩ : BufTy).Contents (Elt F) → (⟨S1024, .f32⟩ : BufTy).Contents (Elt F)),
    nullary main_cst_42 (constant S_ .f32 0x2EDBE6FF#32),
    unary main_cst_42 main_v157 (broadcastInDim S1024 ![] bcast_S_S1024 : (⟨S_, .f32⟩ : BufTy).Contents (Elt F) → (⟨S1024, .f32⟩ : BufTy).Contents (Elt F)),
    binary main_v156 main_v157 main_v158 (addf : (⟨S1024, .f32⟩ : BufTy).Contents (Elt F) → (⟨S1024, .f32⟩ : BufTy).Contents (Elt F) → (⟨S1024, .f32⟩ : BufTy).Contents (Elt F)),
    unary main_v158 main_v159 (Host.log : (⟨S1024, .f32⟩ : BufTy).Contents (Elt F) → (⟨S1024, .f32⟩ : BufTy).Contents (Elt F)),
    binary main_v156 main_v159 main_v160 (mulf : (⟨S1024, .f32⟩ : BufTy).Contents (Elt F) → (⟨S1024, .f32⟩ : BufTy).Contents (Elt F) → (⟨S1024, .f32⟩ : BufTy).Contents (Elt F)),
    nullary main_cst_43 (constant S_ .f32 0x00000000#32),
    binary main_v160 main_cst_43 main_v161 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v161 main_v162 (Host.negf : (⟨S_, .f32⟩ : BufTy).Contents (Elt F) → (⟨S_, .f32⟩ : BufTy).Contents (Elt F)),
    unary main_v162 main_v163 (Host.exp : (⟨S_, .f32⟩ : BufTy).Contents (Elt F) → (⟨S_, .f32⟩ : BufTy).Contents (Elt F)) ]
abbrev wE3 : List (HloOp τ sig (Elt F)) :=
  [ binary main_v152 main_v132 main_v164 (subf : (⟨S16384x128, .f32⟩ : BufTy).Contents (Elt F) → (⟨S16384x128, .f32⟩ : BufTy).Contents (Elt F) → (⟨S16384x128, .f32⟩ : BufTy).Contents (Elt F)),
    binary main_v164 main_v164 main_v165 (mulf : (⟨S16384x128, .f32⟩ : BufTy).Contents (Elt F) → (⟨S16384x128, .f32⟩ : BufTy).Contents (Elt F) → (⟨S16384x128, .f32⟩ : BufTy).Contents (Elt F)),
    nullary main_cst_44 (constant S_ .f32 0x00000000#32),
    binary main_v165 main_cst_44 main_v166 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_45 (constant S_ .f32 0x4A000000#32),
    binary main_v166 main_cst_45 main_v167 (Host.divf : (⟨S_, .f32⟩ : BufTy).Contents (Elt F) → (⟨S_, .f32⟩ : BufTy).Contents (Elt F) → (⟨S_, .f32⟩ : BufTy).Contents (Elt F)),
    nullary main_cst_46 (constant S_ .f32 0x3E800000#32),
    binary main_cst_46 main_v167 main_v168 (mulf : (⟨S_, .f32⟩ : BufTy).Contents (Elt F) → (⟨S_, .f32⟩ : BufTy).Contents (Elt F) → (⟨S_, .f32⟩ : BufTy).Contents (Elt F)),
    binary main_v152 main_v132 main_v169 (subf : (⟨S16384x128, .f32⟩ : BufTy).Contents (Elt F) → (⟨S16384x128, .f32⟩ : BufTy).Contents (Elt F) → (⟨S16384x128, .f32⟩ : BufTy).Contents (Elt F)),
    binary main_v169 main_v169 main_v170 (mulf : (⟨S16384x128, .f32⟩ : BufTy).Contents (Elt F) → (⟨S16384x128, .f32⟩ : BufTy).Contents (Elt F) → (⟨S16384x128, .f32⟩ : BufTy).Contents (Elt F)),
    nullary main_cst_47 (constant S_ .f32 0x00000000#32),
    binary main_v170 main_cst_47 main_v171 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_48 (constant S_ .f32 0x4A000000#32),
    binary main_v171 main_cst_48 main_v172 (Host.divf : (⟨S_, .f32⟩ : BufTy).Contents (Elt F) → (⟨S_, .f32⟩ : BufTy).Contents (Elt F) → (⟨S_, .f32⟩ : BufTy).Contents (Elt F)),
    binary main_v168 main_v172 main_v173 (addf : (⟨S_, .f32⟩ : BufTy).Contents (Elt F) → (⟨S_, .f32⟩ : BufTy).Contents (Elt F) → (⟨S_, .f32⟩ : BufTy).Contents (Elt F)) ]
abbrev wF3 : List (HloOp τ sig (Elt F)) :=
  [ binary main_v152 main_v132 main_v174 (subf : (⟨S16384x128, .f32⟩ : BufTy).Contents (Elt F) → (⟨S16384x128, .f32⟩ : BufTy).Contents (Elt F) → (⟨S16384x128, .f32⟩ : BufTy).Contents (Elt F)),
    binary main_v132 main_v174 main_v175 (addf : (⟨S16384x128, .f32⟩ : BufTy).Contents (Elt F) → (⟨S16384x128, .f32⟩ : BufTy).Contents (Elt F) → (⟨S16384x128, .f32⟩ : BufTy).Contents (Elt F)),
    binary main_v132 main_v175 main_v176 (subf : (⟨S16384x128, .f32⟩ : BufTy).Contents (Elt F) → (⟨S16384x128, .f32⟩ : BufTy).Contents (Elt F) → (⟨S16384x128, .f32⟩ : BufTy).Contents (Elt F)),
    binary main_v133 main_v175 main_v177 (addf : (⟨S16384x128, .f32⟩ : BufTy).Contents (Elt F) → (⟨S16384x128, .f32⟩ : BufTy).Contents (Elt F) → (⟨S16384x128, .f32⟩ : BufTy).Contents (Elt F)),
    binary main_v134 main_v173 main_v178 (addf : (⟨S_, .f32⟩ : BufTy).Contents (Elt F) → (⟨S_, .f32⟩ : BufTy).Contents (Elt F) → (⟨S_, .f32⟩ : BufTy).Contents (Elt F)) ]
abbrev wpost : List (HloOp τ sig (Elt F)) :=
  [ reshape main_v177 main_v179 (rfl : (.f32 : EltTy) = .f32) shapeCasts_S16384x128_S8x2048x128,
    unary main_v179 main_v180 ((transpose S8x128x2048 [0, 2, 1] · transposes_S8x2048x128_S8x128x2048_0_2_1) : (⟨S8x2048x128, .f32⟩ : BufTy).Contents (Elt F) → (⟨S8x128x2048, .f32⟩ : BufTy).Contents (Elt F)),
    unary main_v31 main_v181 (broadcastInDim S1 ![] bcast_S_S1 : (⟨S_, .f32⟩ : BufTy).Contents (Elt F) → (⟨S1, .f32⟩ : BufTy).Contents (Elt F)),
    unary main_v75 main_v182 (broadcastInDim S1 ![] bcast_S_S1 : (⟨S_, .f32⟩ : BufTy).Contents (Elt F) → (⟨S1, .f32⟩ : BufTy).Contents (Elt F)),
    unary main_v119 main_v183 (broadcastInDim S1 ![] bcast_S_S1 : (⟨S_, .f32⟩ : BufTy).Contents (Elt F) → (⟨S1, .f32⟩ : BufTy).Contents (Elt F)),
    unary main_v163 main_v184 (broadcastInDim S1 ![] bcast_S_S1 : (⟨S_, .f32⟩ : BufTy).Contents (Elt F) → (⟨S1, .f32⟩ : BufTy).Contents (Elt F)),
    nary ![main_v181, main_v182, main_v183, main_v184] main_v185 (fun u => rowR (u 0) (u 1) (u 2) (u 3)) ]
/-- What part 0 of the program runs. -/
def part0 : List (HloOp τ sig (Elt F)) := wpre ++ (wA0 ++ (wB0 ++ (wC0 ++ (wD0 ++ (wE0 ++ (wF0a))))))
/-- What part 1 of the program runs. -/
def part1 : List (HloOp τ sig (Elt F)) := wF0b ++ (wA1 ++ (wB1 ++ (wC1 ++ (wD1 ++ (wE1 ++ (wF1 ++ (wA2a)))))))
/-- What part 2 of the program runs. -/
def part2 : List (HloOp τ sig (Elt F)) := wA2b ++ (wB2 ++ (wC2 ++ (wD2 ++ (wE2 ++ (wF2 ++ (wA3a))))))
/-- What part 3 of the program runs. -/
def part3 : List (HloOp τ sig (Elt F)) := wA3b ++ (wB3 ++ (wC3 ++ (wD3 ++ (wE3 ++ (wF3 ++ (wpost))))))
abbrev ops : List (HloOp τ sig (Elt F)) := part0 ++ (part1 ++ (part2 ++ part3))
set_option maxRecDepth 8192 in
set_option maxHeartbeats 4000000 in
theorem main_part0_eq (c : Dev nD) : main_part0 (F := F) c = seq part0 := rfl
set_option maxRecDepth 8192 in
set_option maxHeartbeats 4000000 in
theorem main_part1_eq (c : Dev nD) : main_part1 (F := F) c = seq part1 := rfl
set_option maxRecDepth 8192 in
set_option maxHeartbeats 4000000 in
theorem main_part2_eq (c : Dev nD) : main_part2 (F := F) c = seq part2 := rfl
set_option maxRecDepth 8192 in
set_option maxHeartbeats 4000000 in
theorem main_part3_eq (c : Dev nD) : main_part3 (F := F) c = seq part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem wpre_sub : (wpre : List (HloOp τ sig (Elt F))).Forall fun op => op.bufs ⊆ tcRefs τ sig :=
  ⟨unary_bufs_sub .., reshape_bufs_sub .., nullary_bufs_sub .., unary_bufs_sub ..⟩
theorem wpre_fresh : (wpre : List (HloOp τ sig (Elt F))).Forall fun op => op.fresh = ∅ := ⟨rfl, rfl, rfl, rfl⟩
/-- What window `wpre` writes. -/
abbrev wpre_W : List (Ref sig .tc) := [main_v0, main_v1, main_cst, main_v2]
set_option maxRecDepth 8192 in
theorem wpre_writes : (wpre : List (HloOp τ sig (Elt F))).Forall fun op => op.writes ⊆ (wpre_W.map (Proc.devRef (τ := τ) .tc)).toFinset := by
  simp only [List.Forall]
  refine ⟨?_, ?_, ?_, ?_⟩ <;> exact Finset.singleton_subset_iff.mpr (List.mem_toFinset.mpr (List.mem_map_of_mem (by decide)))
set_option maxRecDepth 8192 in
theorem wA0_sub : (wA0 : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem wA0_fresh : (wA0 : List (HloOp τ sig (Elt F))).Forall fun op => op.fresh = ∅ := ⟨rfl, rfl, rfl, rfl, rfl, rfl, rfl, rfl, rfl, rfl, rfl, rfl, rfl, rfl, rfl, rfl, rfl, rfl, rfl⟩
/-- What window `wA0` writes. -/
abbrev wA0_W : List (Ref sig .tc) := [main_v3, main_v4, main_v5, main_cst_0, main_v6, main_v7, main_v8, main_v9, main_cst_1, main_v10, main_v11, main_v12, main_v13, main_v14, main_cst_2, main_v15, main_v16, main_v17, main_v18]
set_option maxRecDepth 8192 in
theorem wA0_writes : (wA0 : List (HloOp τ sig (Elt F))).Forall fun op => op.writes ⊆ (wA0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wB0_sub : (wB0 : List (HloOp τ sig (Elt F))).Forall fun op => op.bufs ⊆ tcRefs τ sig :=
  ⟨nullary_bufs_sub .., nullary_bufs_sub .., nullary_bufs_sub .., quaternary_bufs_sub .., quaternary_bufs_sub ..⟩
theorem wB0_fresh : (wB0 : List (HloOp τ sig (Elt F))).Forall fun op => op.fresh = ∅ := ⟨rfl, rfl, rfl, rfl, rfl⟩
/-- What window `wB0` writes. -/
abbrev wB0_W : List (Ref sig .tc) := [main_call0_v0, main_call0_cst, main_call0_c, main_call0_v1_0, main_v19]
set_option maxRecDepth 8192 in
theorem wB0_writes : (wB0 : List (HloOp τ sig (Elt F))).Forall fun op => op.writes ⊆ (wB0_W.map (Proc.devRef (τ := τ) .tc)).toFinset := by
  simp only [List.Forall]
  refine ⟨?_, ?_, ?_, ?_, ?_⟩ <;> exact Finset.singleton_subset_iff.mpr (List.mem_toFinset.mpr (List.mem_map_of_mem (by decide)))
set_option maxRecDepth 8192 in
theorem wC0_sub : (wC0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem wC0_fresh : (wC0 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩
/-- What window `wC0` writes. -/
abbrev wC0_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v20]
set_option maxRecDepth 8192 in
theorem wC0_writes : (wC0 : List (HloOp τ sig (Elt F))).Forall fun op => op.writes ⊆ (wC0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wD0_sub : (wD0 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩
theorem wD0_fresh : (wD0 : List (HloOp τ sig (Elt F))).Forall fun op => op.fresh = ∅ := ⟨rfl, rfl, rfl, rfl, rfl, rfl, rfl, rfl, rfl, rfl, rfl, rfl, rfl, rfl, rfl, rfl, rfl, rfl, rfl, rfl⟩
/-- What window `wD0` writes. -/
abbrev wD0_W : List (Ref sig .tc) := [main_call2_v0, main_call2_v1, main_call2_v2, main_call2_v3, main_call2_v4, main_v21, main_cst_3, main_v22, main_cst_4, main_v23, main_v24, main_cst_5, main_v25, main_v26, main_v27, main_v28, main_cst_6, main_v29, main_v30, main_v31]
set_option maxRecDepth 8192 in
theorem wD0_writes : (wD0 : List (HloOp τ sig (Elt F))).Forall fun op => op.writes ⊆ (wD0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wE0_sub : (wE0 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub ..⟩
theorem wE0_fresh : (wE0 : List (HloOp τ sig (Elt F))).Forall fun op => op.fresh = ∅ := ⟨rfl, rfl, rfl, rfl, rfl, rfl, rfl, rfl, rfl, rfl, rfl, rfl, rfl, rfl, rfl⟩
/-- What window `wE0` writes. -/
abbrev wE0_W : List (Ref sig .tc) := [main_v32, main_v33, main_cst_7, main_v34, main_cst_8, main_v35, main_cst_9, main_v36, main_v37, main_v38, main_cst_10, main_v39, main_cst_11, main_v40, main_v41]
set_option maxRecDepth 8192 in
theorem wE0_writes : (wE0 : List (HloOp τ sig (Elt F))).Forall fun op => op.writes ⊆ (wE0_W.map (Proc.devRef (τ := τ) .tc)).toFinset := by
  simp only [List.Forall]
  refine ⟨?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wF0a_sub : (wF0a : List (HloOp τ sig (Elt F))).Forall fun op => op.bufs ⊆ tcRefs τ sig :=
  ⟨binary_bufs_sub .., binary_bufs_sub .., binary_bufs_sub .., binary_bufs_sub .., nullary_bufs_sub ..⟩
theorem wF0a_fresh : (wF0a : List (HloOp τ sig (Elt F))).Forall fun op => op.fresh = ∅ := ⟨rfl, rfl, rfl, rfl, rfl⟩
/-- What window `wF0a` writes. -/
abbrev wF0a_W : List (Ref sig .tc) := [main_v42, main_v43, main_v44, main_v45, main_cst_12]
set_option maxRecDepth 8192 in
theorem wF0a_writes : (wF0a : List (HloOp τ sig (Elt F))).Forall fun op => op.writes ⊆ (wF0a_W.map (Proc.devRef (τ := τ) .tc)).toFinset := by
  simp only [List.Forall]
  refine ⟨?_, ?_, ?_, ?_, ?_⟩ <;> exact Finset.singleton_subset_iff.mpr (List.mem_toFinset.mpr (List.mem_map_of_mem (by decide)))
set_option maxRecDepth 8192 in
theorem wF0b_sub : (wF0b : List (HloOp τ sig (Elt F))).Forall fun op => op.bufs ⊆ tcRefs τ sig :=
  binary_bufs_sub ..
theorem wF0b_fresh : (wF0b : List (HloOp τ sig (Elt F))).Forall fun op => op.fresh = ∅ := rfl
/-- What window `wF0b` writes. -/
abbrev wF0b_W : List (Ref sig .tc) := [main_v46]
set_option maxRecDepth 8192 in
theorem wF0b_writes : (wF0b : List (HloOp τ sig (Elt F))).Forall fun op => op.writes ⊆ (wF0b_W.map (Proc.devRef (τ := τ) .tc)).toFinset := by
  simp only [List.Forall]
  refine ?_ <;> exact Finset.singleton_subset_iff.mpr (List.mem_toFinset.mpr (List.mem_map_of_mem (by decide)))
set_option maxRecDepth 8192 in
theorem wA1_sub : (wA1 : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem wA1_fresh : (wA1 : List (HloOp τ sig (Elt F))).Forall fun op => op.fresh = ∅ := ⟨rfl, rfl, rfl, rfl, rfl, rfl, rfl, rfl, rfl, rfl, rfl, rfl, rfl, rfl, rfl, rfl, rfl, rfl, rfl⟩
/-- What window `wA1` writes. -/
abbrev wA1_W : List (Ref sig .tc) := [main_v47, main_v48, main_v49, main_cst_13, main_v50, main_v51, main_v52, main_v53, main_cst_14, main_v54, main_v55, main_v56, main_v57, main_v58, main_cst_15, main_v59, main_v60, main_v61, main_v62]
set_option maxRecDepth 8192 in
theorem wA1_writes : (wA1 : List (HloOp τ sig (Elt F))).Forall fun op => op.writes ⊆ (wA1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wB1_sub : (wB1 : List (HloOp τ sig (Elt F))).Forall fun op => op.bufs ⊆ tcRefs τ sig :=
  ⟨nullary_bufs_sub .., nullary_bufs_sub .., nullary_bufs_sub .., quaternary_bufs_sub .., quaternary_bufs_sub ..⟩
theorem wB1_fresh : (wB1 : List (HloOp τ sig (Elt F))).Forall fun op => op.fresh = ∅ := ⟨rfl, rfl, rfl, rfl, rfl⟩
/-- What window `wB1` writes. -/
abbrev wB1_W : List (Ref sig .tc) := [main_call3_v0, main_call3_cst, main_call3_c, main_call3_v1_0, main_v63]
set_option maxRecDepth 8192 in
theorem wB1_writes : (wB1 : List (HloOp τ sig (Elt F))).Forall fun op => op.writes ⊆ (wB1_W.map (Proc.devRef (τ := τ) .tc)).toFinset := by
  simp only [List.Forall]
  refine ⟨?_, ?_, ?_, ?_, ?_⟩ <;> exact Finset.singleton_subset_iff.mpr (List.mem_toFinset.mpr (List.mem_map_of_mem (by decide)))
set_option maxRecDepth 8192 in
theorem wC1_sub : (wC1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem wC1_fresh : (wC1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩
/-- What window `wC1` writes. -/
abbrev wC1_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v64]
set_option maxRecDepth 8192 in
theorem wC1_writes : (wC1 : List (HloOp τ sig (Elt F))).Forall fun op => op.writes ⊆ (wC1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wD1_sub : (wD1 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩
theorem wD1_fresh : (wD1 : List (HloOp τ sig (Elt F))).Forall fun op => op.fresh = ∅ := ⟨rfl, rfl, rfl, rfl, rfl, rfl, rfl, rfl, rfl, rfl, rfl, rfl, rfl, rfl, rfl, rfl, rfl, rfl, rfl, rfl⟩
/-- What window `wD1` writes. -/
abbrev wD1_W : List (Ref sig .tc) := [main_call5_v0, main_call5_v1, main_call5_v2, main_call5_v3, main_call5_v4, main_v65, main_cst_16, main_v66, main_cst_17, main_v67, main_v68, main_cst_18, main_v69, main_v70, main_v71, main_v72, main_cst_19, main_v73, main_v74, main_v75]
set_option maxRecDepth 8192 in
theorem wD1_writes : (wD1 : List (HloOp τ sig (Elt F))).Forall fun op => op.writes ⊆ (wD1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wE1_sub : (wE1 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub ..⟩
theorem wE1_fresh : (wE1 : List (HloOp τ sig (Elt F))).Forall fun op => op.fresh = ∅ := ⟨rfl, rfl, rfl, rfl, rfl, rfl, rfl, rfl, rfl, rfl, rfl, rfl, rfl, rfl, rfl⟩
/-- What window `wE1` writes. -/
abbrev wE1_W : List (Ref sig .tc) := [main_v76, main_v77, main_cst_20, main_v78, main_cst_21, main_v79, main_cst_22, main_v80, main_v81, main_v82, main_cst_23, main_v83, main_cst_24, main_v84, main_v85]
set_option maxRecDepth 8192 in
theorem wE1_writes : (wE1 : List (HloOp τ sig (Elt F))).Forall fun op => op.writes ⊆ (wE1_W.map (Proc.devRef (τ := τ) .tc)).toFinset := by
  simp only [List.Forall]
  refine ⟨?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wF1_sub : (wF1 : List (HloOp τ sig (Elt F))).Forall fun op => op.bufs ⊆ tcRefs τ sig :=
  ⟨binary_bufs_sub .., binary_bufs_sub .., binary_bufs_sub .., binary_bufs_sub .., binary_bufs_sub ..⟩
theorem wF1_fresh : (wF1 : List (HloOp τ sig (Elt F))).Forall fun op => op.fresh = ∅ := ⟨rfl, rfl, rfl, rfl, rfl⟩
/-- What window `wF1` writes. -/
abbrev wF1_W : List (Ref sig .tc) := [main_v86, main_v87, main_v88, main_v89, main_v90]
set_option maxRecDepth 8192 in
theorem wF1_writes : (wF1 : List (HloOp τ sig (Elt F))).Forall fun op => op.writes ⊆ (wF1_W.map (Proc.devRef (τ := τ) .tc)).toFinset := by
  simp only [List.Forall]
  refine ⟨?_, ?_, ?_, ?_, ?_⟩ <;> exact Finset.singleton_subset_iff.mpr (List.mem_toFinset.mpr (List.mem_map_of_mem (by decide)))
set_option maxRecDepth 8192 in
theorem wA2a_sub : (wA2a : List (HloOp τ sig (Elt F))).Forall fun op => op.bufs ⊆ tcRefs τ sig :=
  ⟨unary_bufs_sub .., reshape_bufs_sub .., binary_bufs_sub ..⟩
theorem wA2a_fresh : (wA2a : List (HloOp τ sig (Elt F))).Forall fun op => op.fresh = ∅ := ⟨rfl, rfl, rfl⟩
/-- What window `wA2a` writes. -/
abbrev wA2a_W : List (Ref sig .tc) := [main_v91, main_v92, main_v93]
set_option maxRecDepth 8192 in
theorem wA2a_writes : (wA2a : List (HloOp τ sig (Elt F))).Forall fun op => op.writes ⊆ (wA2a_W.map (Proc.devRef (τ := τ) .tc)).toFinset := by
  simp only [List.Forall]
  refine ⟨?_, ?_, ?_⟩ <;> exact Finset.singleton_subset_iff.mpr (List.mem_toFinset.mpr (List.mem_map_of_mem (by decide)))
set_option maxRecDepth 8192 in
theorem wA2b_sub : (wA2b : List (HloOp τ sig (Elt F))).Forall fun op => op.bufs ⊆ tcRefs τ sig :=
  ⟨nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem wA2b_fresh : (wA2b : List (HloOp τ sig (Elt F))).Forall fun op => op.fresh = ∅ := ⟨rfl, rfl, rfl, rfl, rfl, rfl, rfl, rfl, rfl, rfl, rfl, rfl, rfl, rfl, rfl, rfl⟩
/-- What window `wA2b` writes. -/
abbrev wA2b_W : List (Ref sig .tc) := [main_cst_25, main_v94, main_v95, main_v96, main_v97, main_cst_26, main_v98, main_v99, main_v100, main_v101, main_v102, main_cst_27, main_v103, main_v104, main_v105, main_v106]
set_option maxRecDepth 8192 in
theorem wA2b_writes : (wA2b : List (HloOp τ sig (Elt F))).Forall fun op => op.writes ⊆ (wA2b_W.map (Proc.devRef (τ := τ) .tc)).toFinset := by
  simp only [List.Forall]
  refine ⟨?_, ?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wB2_sub : (wB2 : List (HloOp τ sig (Elt F))).Forall fun op => op.bufs ⊆ tcRefs τ sig :=
  ⟨nullary_bufs_sub .., nullary_bufs_sub .., nullary_bufs_sub .., quaternary_bufs_sub .., quaternary_bufs_sub ..⟩
theorem wB2_fresh : (wB2 : List (HloOp τ sig (Elt F))).Forall fun op => op.fresh = ∅ := ⟨rfl, rfl, rfl, rfl, rfl⟩
/-- What window `wB2` writes. -/
abbrev wB2_W : List (Ref sig .tc) := [main_call6_v0, main_call6_cst, main_call6_c, main_call6_v1_0, main_v107]
set_option maxRecDepth 8192 in
theorem wB2_writes : (wB2 : List (HloOp τ sig (Elt F))).Forall fun op => op.writes ⊆ (wB2_W.map (Proc.devRef (τ := τ) .tc)).toFinset := by
  simp only [List.Forall]
  refine ⟨?_, ?_, ?_, ?_, ?_⟩ <;> exact Finset.singleton_subset_iff.mpr (List.mem_toFinset.mpr (List.mem_map_of_mem (by decide)))
set_option maxRecDepth 8192 in
theorem wC2_sub : (wC2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem wC2_fresh : (wC2 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩
/-- What window `wC2` writes. -/
abbrev wC2_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v108]
set_option maxRecDepth 8192 in
theorem wC2_writes : (wC2 : List (HloOp τ sig (Elt F))).Forall fun op => op.writes ⊆ (wC2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wD2_sub : (wD2 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩
theorem wD2_fresh : (wD2 : List (HloOp τ sig (Elt F))).Forall fun op => op.fresh = ∅ := ⟨rfl, rfl, rfl, rfl, rfl, rfl, rfl, rfl, rfl, rfl, rfl, rfl, rfl, rfl, rfl, rfl, rfl, rfl, rfl, rfl⟩
/-- What window `wD2` writes. -/
abbrev wD2_W : List (Ref sig .tc) := [main_call8_v0, main_call8_v1, main_call8_v2, main_call8_v3, main_call8_v4, main_v109, main_cst_28, main_v110, main_cst_29, main_v111, main_v112, main_cst_30, main_v113, main_v114, main_v115, main_v116, main_cst_31, main_v117, main_v118, main_v119]
set_option maxRecDepth 8192 in
theorem wD2_writes : (wD2 : List (HloOp τ sig (Elt F))).Forall fun op => op.writes ⊆ (wD2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wE2_sub : (wE2 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub ..⟩
theorem wE2_fresh : (wE2 : List (HloOp τ sig (Elt F))).Forall fun op => op.fresh = ∅ := ⟨rfl, rfl, rfl, rfl, rfl, rfl, rfl, rfl, rfl, rfl, rfl, rfl, rfl, rfl, rfl⟩
/-- What window `wE2` writes. -/
abbrev wE2_W : List (Ref sig .tc) := [main_v120, main_v121, main_cst_32, main_v122, main_cst_33, main_v123, main_cst_34, main_v124, main_v125, main_v126, main_cst_35, main_v127, main_cst_36, main_v128, main_v129]
set_option maxRecDepth 8192 in
theorem wE2_writes : (wE2 : List (HloOp τ sig (Elt F))).Forall fun op => op.writes ⊆ (wE2_W.map (Proc.devRef (τ := τ) .tc)).toFinset := by
  simp only [List.Forall]
  refine ⟨?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wF2_sub : (wF2 : List (HloOp τ sig (Elt F))).Forall fun op => op.bufs ⊆ tcRefs τ sig :=
  ⟨binary_bufs_sub .., binary_bufs_sub .., binary_bufs_sub .., binary_bufs_sub .., binary_bufs_sub ..⟩
theorem wF2_fresh : (wF2 : List (HloOp τ sig (Elt F))).Forall fun op => op.fresh = ∅ := ⟨rfl, rfl, rfl, rfl, rfl⟩
/-- What window `wF2` writes. -/
abbrev wF2_W : List (Ref sig .tc) := [main_v130, main_v131, main_v132, main_v133, main_v134]
set_option maxRecDepth 8192 in
theorem wF2_writes : (wF2 : List (HloOp τ sig (Elt F))).Forall fun op => op.writes ⊆ (wF2_W.map (Proc.devRef (τ := τ) .tc)).toFinset := by
  simp only [List.Forall]
  refine ⟨?_, ?_, ?_, ?_, ?_⟩ <;> exact Finset.singleton_subset_iff.mpr (List.mem_toFinset.mpr (List.mem_map_of_mem (by decide)))
set_option maxRecDepth 8192 in
theorem wA3a_sub : (wA3a : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub ..⟩
theorem wA3a_fresh : (wA3a : List (HloOp τ sig (Elt F))).Forall fun op => op.fresh = ∅ := ⟨rfl, rfl, rfl, rfl, rfl, rfl, rfl⟩
/-- What window `wA3a` writes. -/
abbrev wA3a_W : List (Ref sig .tc) := [main_v135, main_v136, main_v137, main_cst_37, main_v138, main_v139, main_v140]
set_option maxRecDepth 8192 in
theorem wA3a_writes : (wA3a : List (HloOp τ sig (Elt F))).Forall fun op => op.writes ⊆ (wA3a_W.map (Proc.devRef (τ := τ) .tc)).toFinset := by
  simp only [List.Forall]
  refine ⟨?_, ?_, ?_, ?_, ?_, ?_, ?_⟩ <;> exact Finset.singleton_subset_iff.mpr (List.mem_toFinset.mpr (List.mem_map_of_mem (by decide)))
set_option maxRecDepth 8192 in
theorem wA3b_sub : (wA3b : List (HloOp τ sig (Elt F))).Forall fun op => op.bufs ⊆ tcRefs τ sig :=
  ⟨binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem wA3b_fresh : (wA3b : List (HloOp τ sig (Elt F))).Forall fun op => op.fresh = ∅ := ⟨rfl, rfl, rfl, rfl, rfl, rfl, rfl, rfl, rfl, rfl, rfl, rfl⟩
/-- What window `wA3b` writes. -/
abbrev wA3b_W : List (Ref sig .tc) := [main_v141, main_cst_38, main_v142, main_v143, main_v144, main_v145, main_v146, main_cst_39, main_v147, main_v148, main_v149, main_v150]
set_option maxRecDepth 8192 in
theorem wA3b_writes : (wA3b : List (HloOp τ sig (Elt F))).Forall fun op => op.writes ⊆ (wA3b_W.map (Proc.devRef (τ := τ) .tc)).toFinset := by
  simp only [List.Forall]
  refine ⟨?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wB3_sub : (wB3 : List (HloOp τ sig (Elt F))).Forall fun op => op.bufs ⊆ tcRefs τ sig :=
  ⟨nullary_bufs_sub .., nullary_bufs_sub .., nullary_bufs_sub .., quaternary_bufs_sub .., quaternary_bufs_sub ..⟩
theorem wB3_fresh : (wB3 : List (HloOp τ sig (Elt F))).Forall fun op => op.fresh = ∅ := ⟨rfl, rfl, rfl, rfl, rfl⟩
/-- What window `wB3` writes. -/
abbrev wB3_W : List (Ref sig .tc) := [main_call9_v0, main_call9_cst, main_call9_c, main_call9_v1_0, main_v151]
set_option maxRecDepth 8192 in
theorem wB3_writes : (wB3 : List (HloOp τ sig (Elt F))).Forall fun op => op.writes ⊆ (wB3_W.map (Proc.devRef (τ := τ) .tc)).toFinset := by
  simp only [List.Forall]
  refine ⟨?_, ?_, ?_, ?_, ?_⟩ <;> exact Finset.singleton_subset_iff.mpr (List.mem_toFinset.mpr (List.mem_map_of_mem (by decide)))
set_option maxRecDepth 8192 in
theorem wC3_sub : (wC3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem wC3_fresh : (wC3 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩
/-- What window `wC3` writes. -/
abbrev wC3_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v152]
set_option maxRecDepth 8192 in
theorem wC3_writes : (wC3 : List (HloOp τ sig (Elt F))).Forall fun op => op.writes ⊆ (wC3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wD3_sub : (wD3 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩
theorem wD3_fresh : (wD3 : List (HloOp τ sig (Elt F))).Forall fun op => op.fresh = ∅ := ⟨rfl, rfl, rfl, rfl, rfl, rfl, rfl, rfl, rfl, rfl, rfl, rfl, rfl, rfl, rfl, rfl, rfl, rfl, rfl, rfl⟩
/-- What window `wD3` writes. -/
abbrev wD3_W : List (Ref sig .tc) := [main_call11_v0, main_call11_v1, main_call11_v2, main_call11_v3, main_call11_v4, main_v153, main_cst_40, main_v154, main_cst_41, main_v155, main_v156, main_cst_42, main_v157, main_v158, main_v159, main_v160, main_cst_43, main_v161, main_v162, main_v163]
set_option maxRecDepth 8192 in
theorem wD3_writes : (wD3 : List (HloOp τ sig (Elt F))).Forall fun op => op.writes ⊆ (wD3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wE3_sub : (wE3 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub ..⟩
theorem wE3_fresh : (wE3 : List (HloOp τ sig (Elt F))).Forall fun op => op.fresh = ∅ := ⟨rfl, rfl, rfl, rfl, rfl, rfl, rfl, rfl, rfl, rfl, rfl, rfl, rfl, rfl, rfl⟩
/-- What window `wE3` writes. -/
abbrev wE3_W : List (Ref sig .tc) := [main_v164, main_v165, main_cst_44, main_v166, main_cst_45, main_v167, main_cst_46, main_v168, main_v169, main_v170, main_cst_47, main_v171, main_cst_48, main_v172, main_v173]
set_option maxRecDepth 8192 in
theorem wE3_writes : (wE3 : List (HloOp τ sig (Elt F))).Forall fun op => op.writes ⊆ (wE3_W.map (Proc.devRef (τ := τ) .tc)).toFinset := by
  simp only [List.Forall]
  refine ⟨?_, ?_, ?_, ?_, ?_, ?_, ?_, ?_, ?_, ?_, ?_, ?_, ?_, ?_, ?_⟩ <;> exact Finset.singleton_subset_iff.mpr (List.mem_toFinset.mpr (List.mem_map_of_mem (by decide)))
set_option maxRecDepth 8192 in
theorem wF3_sub : (wF3 : List (HloOp τ sig (Elt F))).Forall fun op => op.bufs ⊆ tcRefs τ sig :=
  ⟨binary_bufs_sub .., binary_bufs_sub .., binary_bufs_sub .., binary_bufs_sub .., binary_bufs_sub ..⟩
theorem wF3_fresh : (wF3 : List (HloOp τ sig (Elt F))).Forall fun op => op.fresh = ∅ := ⟨rfl, rfl, rfl, rfl, rfl⟩
/-- What window `wF3` writes. -/
abbrev wF3_W : List (Ref sig .tc) := [main_v174, main_v175, main_v176, main_v177, main_v178]
set_option maxRecDepth 8192 in
theorem wF3_writes : (wF3 : List (HloOp τ sig (Elt F))).Forall fun op => op.writes ⊆ (wF3_W.map (Proc.devRef (τ := τ) .tc)).toFinset := by
  simp only [List.Forall]
  refine ⟨?_, ?_, ?_, ?_, ?_⟩ <;> exact Finset.singleton_subset_iff.mpr (List.mem_toFinset.mpr (List.mem_map_of_mem (by decide)))
set_option maxRecDepth 8192 in
theorem wpost_sub : (wpost : List (HloOp τ sig (Elt F))).Forall fun op => op.bufs ⊆ tcRefs τ sig :=
  ⟨reshape_bufs_sub .., unary_bufs_sub .., unary_bufs_sub .., unary_bufs_sub .., unary_bufs_sub .., unary_bufs_sub .., nary_bufs_sub ..⟩
theorem wpost_fresh : (wpost : List (HloOp τ sig (Elt F))).Forall fun op => op.fresh = ∅ := ⟨rfl, rfl, rfl, rfl, rfl, rfl, rfl⟩
/-- What window `wpost` writes. -/
abbrev wpost_W : List (Ref sig .tc) := [main_v179, main_v180, main_v181, main_v182, main_v183, main_v184, main_v185]
set_option maxRecDepth 8192 in
theorem wpost_writes : (wpost : List (HloOp τ sig (Elt F))).Forall fun op => op.writes ⊆ (wpost_W.map (Proc.devRef (τ := τ) .tc)).toFinset := by
  simp only [List.Forall]
  refine ⟨?_, ?_, ?_, ?_, ?_, ?_, ?_⟩ <;> exact Finset.singleton_subset_iff.mpr (List.mem_toFinset.mpr (List.mem_map_of_mem (by decide)))

theorem all_append {A : Type} {P : A → Prop} {l₁ l₂ : List A} (h₁ : ∀ x ∈ l₁, P x) (h₂ : ∀ x ∈ l₂, P x) : ∀ x ∈ l₁ ++ l₂, P x := fun x hx =>
  (List.mem_append.mp hx).elim (h₁ x) (h₂ x)
theorem part0_sub : ∀ op ∈ (part0 : List (HloOp τ sig (Elt F))), op.bufs ⊆ tcRefs τ sig :=
  (all_append (List.forall_iff_forall_mem.mp wpre_sub) (all_append (List.forall_iff_forall_mem.mp wA0_sub) (all_append (List.forall_iff_forall_mem.mp wB0_sub) (all_append (List.forall_iff_forall_mem.mp wC0_sub) (all_append (List.forall_iff_forall_mem.mp wD0_sub) (all_append (List.forall_iff_forall_mem.mp wE0_sub) (List.forall_iff_forall_mem.mp wF0a_sub)))))))
theorem part1_sub : ∀ op ∈ (part1 : List (HloOp τ sig (Elt F))), op.bufs ⊆ tcRefs τ sig :=
  (all_append (List.forall_iff_forall_mem.mp wF0b_sub) (all_append (List.forall_iff_forall_mem.mp wA1_sub) (all_append (List.forall_iff_forall_mem.mp wB1_sub) (all_append (List.forall_iff_forall_mem.mp wC1_sub) (all_append (List.forall_iff_forall_mem.mp wD1_sub) (all_append (List.forall_iff_forall_mem.mp wE1_sub) (all_append (List.forall_iff_forall_mem.mp wF1_sub) (List.forall_iff_forall_mem.mp wA2a_sub))))))))
theorem part2_sub : ∀ op ∈ (part2 : List (HloOp τ sig (Elt F))), op.bufs ⊆ tcRefs τ sig :=
  (all_append (List.forall_iff_forall_mem.mp wA2b_sub) (all_append (List.forall_iff_forall_mem.mp wB2_sub) (all_append (List.forall_iff_forall_mem.mp wC2_sub) (all_append (List.forall_iff_forall_mem.mp wD2_sub) (all_append (List.forall_iff_forall_mem.mp wE2_sub) (all_append (List.forall_iff_forall_mem.mp wF2_sub) (List.forall_iff_forall_mem.mp wA3a_sub)))))))
theorem part3_sub : ∀ op ∈ (part3 : List (HloOp τ sig (Elt F))), op.bufs ⊆ tcRefs τ sig :=
  (all_append (List.forall_iff_forall_mem.mp wA3b_sub) (all_append (List.forall_iff_forall_mem.mp wB3_sub) (all_append (List.forall_iff_forall_mem.mp wC3_sub) (all_append (List.forall_iff_forall_mem.mp wD3_sub) (all_append (List.forall_iff_forall_mem.mp wE3_sub) (all_append (List.forall_iff_forall_mem.mp wF3_sub) (List.forall_iff_forall_mem.mp wpost_sub)))))))
theorem ops_sub : ∀ op ∈ (ops : List (HloOp τ sig (Elt F))), op.bufs ⊆ tcRefs τ sig :=
  all_append part0_sub (all_append part1_sub (all_append part2_sub part3_sub))
theorem part0_fresh : ∀ op ∈ (part0 : List (HloOp τ sig (Elt F))), op.fresh = ∅ :=
  (all_append (List.forall_iff_forall_mem.mp wpre_fresh) (all_append (List.forall_iff_forall_mem.mp wA0_fresh) (all_append (List.forall_iff_forall_mem.mp wB0_fresh) (all_append (List.forall_iff_forall_mem.mp wC0_fresh) (all_append (List.forall_iff_forall_mem.mp wD0_fresh) (all_append (List.forall_iff_forall_mem.mp wE0_fresh) (List.forall_iff_forall_mem.mp wF0a_fresh)))))))
theorem part1_fresh : ∀ op ∈ (part1 : List (HloOp τ sig (Elt F))), op.fresh = ∅ :=
  (all_append (List.forall_iff_forall_mem.mp wF0b_fresh) (all_append (List.forall_iff_forall_mem.mp wA1_fresh) (all_append (List.forall_iff_forall_mem.mp wB1_fresh) (all_append (List.forall_iff_forall_mem.mp wC1_fresh) (all_append (List.forall_iff_forall_mem.mp wD1_fresh) (all_append (List.forall_iff_forall_mem.mp wE1_fresh) (all_append (List.forall_iff_forall_mem.mp wF1_fresh) (List.forall_iff_forall_mem.mp wA2a_fresh))))))))
theorem part2_fresh : ∀ op ∈ (part2 : List (HloOp τ sig (Elt F))), op.fresh = ∅ :=
  (all_append (List.forall_iff_forall_mem.mp wA2b_fresh) (all_append (List.forall_iff_forall_mem.mp wB2_fresh) (all_append (List.forall_iff_forall_mem.mp wC2_fresh) (all_append (List.forall_iff_forall_mem.mp wD2_fresh) (all_append (List.forall_iff_forall_mem.mp wE2_fresh) (all_append (List.forall_iff_forall_mem.mp wF2_fresh) (List.forall_iff_forall_mem.mp wA3a_fresh)))))))
theorem part3_fresh : ∀ op ∈ (part3 : List (HloOp τ sig (Elt F))), op.fresh = ∅ :=
  (all_append (List.forall_iff_forall_mem.mp wA3b_fresh) (all_append (List.forall_iff_forall_mem.mp wB3_fresh) (all_append (List.forall_iff_forall_mem.mp wC3_fresh) (all_append (List.forall_iff_forall_mem.mp wD3_fresh) (all_append (List.forall_iff_forall_mem.mp wE3_fresh) (all_append (List.forall_iff_forall_mem.mp wF3_fresh) (List.forall_iff_forall_mem.mp wpost_fresh)))))))
theorem ops_fresh : ∀ op ∈ (ops : List (HloOp τ sig (Elt F))), op.fresh = ∅ :=
  all_append part0_fresh (all_append part1_fresh (all_append part2_fresh part3_fresh))

end Cert.ReferenceIdeal.Vq

end
-- ==== Proof.RRun.lean ====
/- The reference's run: what each window leaves, and the three results. -/
module

public import proofs.«01_k».proof.Proof.ROps

@[expose] public section

set_option Elab.async false

noncomputable section

namespace Cert.ReferenceIdeal.Vq

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384
set_option maxHeartbeats 1000000

theorem pre_main_v1 (V : Valuation τ sig (Elt F)) : (after wpre V (Proc.devRef .tc main_v1) : Vec F S16384x128 .f32) = flatz ((V (Proc.devRef .tc main_arg0)) : Vec F S8x128x2048 .f32) := by
  simp only [wpre]
  after_results_simp <;> rfl
theorem pre_main_v2 (V : Valuation τ sig (Elt F)) : (after wpre V (Proc.devRef .tc main_v2) : Vec F S16384x128 .f32) = zeros := by
  simp only [wpre]
  after_results_simp <;> rfl
theorem pre_keep (V : Valuation τ sig (Elt F)) (r : Ref sig .tc) (h : r ∉ wpre_W) : after wpre V (Proc.devRef .tc r) = V (Proc.devRef .tc r) :=
  after_of_writes_sub wpre _ wpre_writes h
theorem A0_main_v4 (V : Valuation τ sig (Elt F)) : (after wA0 V (Proc.devRef .tc main_v4) : Vec F S1024x128 .f32) = code0 ((V (Proc.devRef .tc main_arg1)) : Vec F S4x1024x128 .f32) := by
  simp only [wA0]
  after_results_simp <;> rfl
theorem A0_main_v18 (V : Valuation τ sig (Elt F)) : (after wA0 V (Proc.devRef .tc main_v18) : Vec F S16384x1024 .f32) = scoreR ((V (Proc.devRef .tc main_v1)) : Vec F S16384x128 .f32) (code0 ((V (Proc.devRef .tc main_arg1)) : Vec F S4x1024x128 .f32)) := by
  simp only [wA0]
  after_results_simp <;> rfl
theorem A0_keep (V : Valuation τ sig (Elt F)) (r : Ref sig .tc) (h : r ∉ wA0_W) : after wA0 V (Proc.devRef .tc r) = V (Proc.devRef .tc r) :=
  after_of_writes_sub wA0 _ wA0_writes h
theorem B0_main_v19 (V : Valuation τ sig (Elt F)) : (after wB0 V (Proc.devRef .tc main_v19) : Vec F S16384 .i32) = nearR (F := F) ((V (Proc.devRef .tc main_v18)) : Vec F S16384x1024 .f32) := by
  simp only [wB0]
  after_results_simp
  unfold nearR
  rw [TRef.ofBuf_toBuf, TRef.ofBuf_toBuf, TRef.ofBuf_toBuf]
  have e1 : ∀ v : Vec F S16384x1024 .f32, (TRef.of (T := ⟨S16384x1024, .f32⟩) main_v18).ofBuf v = v := fun _ => rfl
  have e2 : ∀ v : Vec F S16384 .i32, (TRef.of (T := ⟨S16384, .i32⟩) main_v19).toBuf v = v := fun _ => rfl
  rw [e1]
  exact e2 _
theorem B0_keep (V : Valuation τ sig (Elt F)) (r : Ref sig .tc) (h : r ∉ wB0_W) : after wB0 V (Proc.devRef .tc r) = V (Proc.devRef .tc r) :=
  after_of_writes_sub wB0 _ wB0_writes h
theorem C0_main_v20 (V : Valuation τ sig (Elt F)) : (after wC0 V (Proc.devRef .tc main_v20) : Vec F S16384x128 .f32) = takeR ((V (Proc.devRef .tc main_v4)) : Vec F S1024x128 .f32) ((V (Proc.devRef .tc main_v19)) : Vec F S16384 .i32) := by
  simp only [wC0]
  after_results_simp
  unfold takeR wrapR
  simp only [TRef.ofBuf_toBuf]
  have e1 : ∀ v : Vec F S1024x128 .f32, (TRef.of (T := ⟨S1024x128, .f32⟩) main_v4).ofBuf v = v := fun _ => rfl
  have e2 : ∀ v : Vec F S16384 .i32, (TRef.of (T := ⟨S16384, .i32⟩) main_v19).ofBuf v = v := fun _ => rfl
  have e3 : ∀ v : Vec F S16384x128 .f32, (TRef.of (T := ⟨S16384x128, .f32⟩) main_v20).toBuf v = v := fun _ => rfl
  rw [e1, e2]
  exact e3 _
theorem C0_keep (V : Valuation τ sig (Elt F)) (r : Ref sig .tc) (h : r ∉ wC0_W) : after wC0 V (Proc.devRef .tc r) = V (Proc.devRef .tc r) :=
  after_of_writes_sub wC0 _ wC0_writes h
theorem D0_main_v31 (V : Valuation τ sig (Elt F)) : (after wD0 V (Proc.devRef .tc main_v31) : Vec F S_ .f32) = perpR (F := F) ((V (Proc.devRef .tc main_v19)) : Vec F S16384 .i32) := by
  simp only [wD0]
  after_results_simp <;> rfl
theorem D0_keep (V : Valuation τ sig (Elt F)) (r : Ref sig .tc) (h : r ∉ wD0_W) : after wD0 V (Proc.devRef .tc r) = V (Proc.devRef .tc r) :=
  after_of_writes_sub wD0 _ wD0_writes h
theorem E0_main_v41 (V : Valuation τ sig (Elt F)) : (after wE0 V (Proc.devRef .tc main_v41) : Vec F S_ .f32) = lossR ((V (Proc.devRef .tc main_v20)) : Vec F S16384x128 .f32) ((V (Proc.devRef .tc main_v1)) : Vec F S16384x128 .f32) := by
  simp only [wE0]
  after_results_simp <;> rfl
theorem E0_keep (V : Valuation τ sig (Elt F)) (r : Ref sig .tc) (h : r ∉ wE0_W) : after wE0 V (Proc.devRef .tc r) = V (Proc.devRef .tc r) :=
  after_of_writes_sub wE0 _ wE0_writes h
theorem F0_main_v44 (V : Valuation τ sig (Elt F)) : (after wF0b (after wF0a V) (Proc.devRef .tc main_v44) : Vec F S16384x128 .f32) = subf ((V (Proc.devRef .tc main_v1)) : Vec F S16384x128 .f32) (quantR ((V (Proc.devRef .tc main_v20)) : Vec F S16384x128 .f32) ((V (Proc.devRef .tc main_v1)) : Vec F S16384x128 .f32)) := by
  simp only [wF0a, wF0b]
  after_results_simp <;> rfl
theorem F0_main_v45 (V : Valuation τ sig (Elt F)) : (after wF0b (after wF0a V) (Proc.devRef .tc main_v45) : Vec F S16384x128 .f32) = addf ((V (Proc.devRef .tc main_v2)) : Vec F S16384x128 .f32) (quantR ((V (Proc.devRef .tc main_v20)) : Vec F S16384x128 .f32) ((V (Proc.devRef .tc main_v1)) : Vec F S16384x128 .f32)) := by
  simp only [wF0a, wF0b]
  after_results_simp <;> rfl
theorem F0_main_v46 (V : Valuation τ sig (Elt F)) : (after wF0b (after wF0a V) (Proc.devRef .tc main_v46) : Vec F S_ .f32) = addf (constant S_ .f32 0x00000000#32) ((V (Proc.devRef .tc main_v41)) : Vec F S_ .f32) := by
  simp only [wF0a, wF0b]
  after_results_simp <;> rfl
theorem F0_keep (V : Valuation τ sig (Elt F)) (r : Ref sig .tc) (h : r ∉ wF0b_W) (h' : r ∉ wF0a_W) : after wF0b (after wF0a V) (Proc.devRef .tc r) = V (Proc.devRef .tc r) :=
  (after_of_writes_sub wF0b _ wF0b_writes h).trans (after_of_writes_sub wF0a _ wF0a_writes h')
theorem A1_main_v48 (V : Valuation τ sig (Elt F)) : (after wA1 V (Proc.devRef .tc main_v48) : Vec F S1024x128 .f32) = code1 ((V (Proc.devRef .tc main_arg1)) : Vec F S4x1024x128 .f32) := by
  simp only [wA1]
  after_results_simp <;> rfl
theorem A1_main_v62 (V : Valuation τ sig (Elt F)) : (after wA1 V (Proc.devRef .tc main_v62) : Vec F S16384x1024 .f32) = scoreR ((V (Proc.devRef .tc main_v44)) : Vec F S16384x128 .f32) (code1 ((V (Proc.devRef .tc main_arg1)) : Vec F S4x1024x128 .f32)) := by
  simp only [wA1]
  after_results_simp <;> rfl
theorem A1_keep (V : Valuation τ sig (Elt F)) (r : Ref sig .tc) (h : r ∉ wA1_W) : after wA1 V (Proc.devRef .tc r) = V (Proc.devRef .tc r) :=
  after_of_writes_sub wA1 _ wA1_writes h
theorem B1_main_v63 (V : Valuation τ sig (Elt F)) : (after wB1 V (Proc.devRef .tc main_v63) : Vec F S16384 .i32) = nearR (F := F) ((V (Proc.devRef .tc main_v62)) : Vec F S16384x1024 .f32) := by
  simp only [wB1]
  after_results_simp
  unfold nearR
  rw [TRef.ofBuf_toBuf, TRef.ofBuf_toBuf, TRef.ofBuf_toBuf]
  have e1 : ∀ v : Vec F S16384x1024 .f32, (TRef.of (T := ⟨S16384x1024, .f32⟩) main_v62).ofBuf v = v := fun _ => rfl
  have e2 : ∀ v : Vec F S16384 .i32, (TRef.of (T := ⟨S16384, .i32⟩) main_v63).toBuf v = v := fun _ => rfl
  rw [e1]
  exact e2 _
theorem B1_keep (V : Valuation τ sig (Elt F)) (r : Ref sig .tc) (h : r ∉ wB1_W) : after wB1 V (Proc.devRef .tc r) = V (Proc.devRef .tc r) :=
  after_of_writes_sub wB1 _ wB1_writes h
theorem C1_main_v64 (V : Valuation τ sig (Elt F)) : (after wC1 V (Proc.devRef .tc main_v64) : Vec F S16384x128 .f32) = takeR ((V (Proc.devRef .tc main_v48)) : Vec F S1024x128 .f32) ((V (Proc.devRef .tc main_v63)) : Vec F S16384 .i32) := by
  simp only [wC1]
  after_results_simp
  unfold takeR wrapR
  simp only [TRef.ofBuf_toBuf]
  have e1 : ∀ v : Vec F S1024x128 .f32, (TRef.of (T := ⟨S1024x128, .f32⟩) main_v48).ofBuf v = v := fun _ => rfl
  have e2 : ∀ v : Vec F S16384 .i32, (TRef.of (T := ⟨S16384, .i32⟩) main_v63).ofBuf v = v := fun _ => rfl
  have e3 : ∀ v : Vec F S16384x128 .f32, (TRef.of (T := ⟨S16384x128, .f32⟩) main_v64).toBuf v = v := fun _ => rfl
  rw [e1, e2]
  exact e3 _
theorem C1_keep (V : Valuation τ sig (Elt F)) (r : Ref sig .tc) (h : r ∉ wC1_W) : after wC1 V (Proc.devRef .tc r) = V (Proc.devRef .tc r) :=
  after_of_writes_sub wC1 _ wC1_writes h
theorem D1_main_v75 (V : Valuation τ sig (Elt F)) : (after wD1 V (Proc.devRef .tc main_v75) : Vec F S_ .f32) = perpR (F := F) ((V (Proc.devRef .tc main_v63)) : Vec F S16384 .i32) := by
  simp only [wD1]
  after_results_simp <;> rfl
theorem D1_keep (V : Valuation τ sig (Elt F)) (r : Ref sig .tc) (h : r ∉ wD1_W) : after wD1 V (Proc.devRef .tc r) = V (Proc.devRef .tc r) :=
  after_of_writes_sub wD1 _ wD1_writes h
theorem E1_main_v85 (V : Valuation τ sig (Elt F)) : (after wE1 V (Proc.devRef .tc main_v85) : Vec F S_ .f32) = lossR ((V (Proc.devRef .tc main_v64)) : Vec F S16384x128 .f32) ((V (Proc.devRef .tc main_v44)) : Vec F S16384x128 .f32) := by
  simp only [wE1]
  after_results_simp <;> rfl
theorem E1_keep (V : Valuation τ sig (Elt F)) (r : Ref sig .tc) (h : r ∉ wE1_W) : after wE1 V (Proc.devRef .tc r) = V (Proc.devRef .tc r) :=
  after_of_writes_sub wE1 _ wE1_writes h
theorem F1_main_v88 (V : Valuation τ sig (Elt F)) : (after wF1 V (Proc.devRef .tc main_v88) : Vec F S16384x128 .f32) = subf ((V (Proc.devRef .tc main_v44)) : Vec F S16384x128 .f32) (quantR ((V (Proc.devRef .tc main_v64)) : Vec F S16384x128 .f32) ((V (Proc.devRef .tc main_v44)) : Vec F S16384x128 .f32)) := by
  simp only [wF1]
  after_results_simp <;> rfl
theorem F1_main_v89 (V : Valuation τ sig (Elt F)) : (after wF1 V (Proc.devRef .tc main_v89) : Vec F S16384x128 .f32) = addf ((V (Proc.devRef .tc main_v45)) : Vec F S16384x128 .f32) (quantR ((V (Proc.devRef .tc main_v64)) : Vec F S16384x128 .f32) ((V (Proc.devRef .tc main_v44)) : Vec F S16384x128 .f32)) := by
  simp only [wF1]
  after_results_simp <;> rfl
theorem F1_main_v90 (V : Valuation τ sig (Elt F)) : (after wF1 V (Proc.devRef .tc main_v90) : Vec F S_ .f32) = addf ((V (Proc.devRef .tc main_v46)) : Vec F S_ .f32) ((V (Proc.devRef .tc main_v85)) : Vec F S_ .f32) := by
  simp only [wF1]
  after_results_simp <;> rfl
theorem F1_keep (V : Valuation τ sig (Elt F)) (r : Ref sig .tc) (h : r ∉ wF1_W) : after wF1 V (Proc.devRef .tc r) = V (Proc.devRef .tc r) :=
  after_of_writes_sub wF1 _ wF1_writes h
theorem A2_main_v92 (V : Valuation τ sig (Elt F)) : (after wA2b (after wA2a V) (Proc.devRef .tc main_v92) : Vec F S1024x128 .f32) = code2 ((V (Proc.devRef .tc main_arg1)) : Vec F S4x1024x128 .f32) := by
  simp only [wA2a, wA2b]
  after_results_simp <;> rfl
theorem A2_main_v106 (V : Valuation τ sig (Elt F)) : (after wA2b (after wA2a V) (Proc.devRef .tc main_v106) : Vec F S16384x1024 .f32) = scoreR ((V (Proc.devRef .tc main_v88)) : Vec F S16384x128 .f32) (code2 ((V (Proc.devRef .tc main_arg1)) : Vec F S4x1024x128 .f32)) := by
  simp only [wA2a, wA2b]
  after_results_simp <;> rfl
theorem A2_keep (V : Valuation τ sig (Elt F)) (r : Ref sig .tc) (h : r ∉ wA2b_W) (h' : r ∉ wA2a_W) : after wA2b (after wA2a V) (Proc.devRef .tc r) = V (Proc.devRef .tc r) :=
  (after_of_writes_sub wA2b _ wA2b_writes h).trans (after_of_writes_sub wA2a _ wA2a_writes h')
theorem B2_main_v107 (V : Valuation τ sig (Elt F)) : (after wB2 V (Proc.devRef .tc main_v107) : Vec F S16384 .i32) = nearR (F := F) ((V (Proc.devRef .tc main_v106)) : Vec F S16384x1024 .f32) := by
  simp only [wB2]
  after_results_simp
  unfold nearR
  rw [TRef.ofBuf_toBuf, TRef.ofBuf_toBuf, TRef.ofBuf_toBuf]
  have e1 : ∀ v : Vec F S16384x1024 .f32, (TRef.of (T := ⟨S16384x1024, .f32⟩) main_v106).ofBuf v = v := fun _ => rfl
  have e2 : ∀ v : Vec F S16384 .i32, (TRef.of (T := ⟨S16384, .i32⟩) main_v107).toBuf v = v := fun _ => rfl
  rw [e1]
  exact e2 _
theorem B2_keep (V : Valuation τ sig (Elt F)) (r : Ref sig .tc) (h : r ∉ wB2_W) : after wB2 V (Proc.devRef .tc r) = V (Proc.devRef .tc r) :=
  after_of_writes_sub wB2 _ wB2_writes h
theorem C2_main_v108 (V : Valuation τ sig (Elt F)) : (after wC2 V (Proc.devRef .tc main_v108) : Vec F S16384x128 .f32) = takeR ((V (Proc.devRef .tc main_v92)) : Vec F S1024x128 .f32) ((V (Proc.devRef .tc main_v107)) : Vec F S16384 .i32) := by
  simp only [wC2]
  after_results_simp
  unfold takeR wrapR
  simp only [TRef.ofBuf_toBuf]
  have e1 : ∀ v : Vec F S1024x128 .f32, (TRef.of (T := ⟨S1024x128, .f32⟩) main_v92).ofBuf v = v := fun _ => rfl
  have e2 : ∀ v : Vec F S16384 .i32, (TRef.of (T := ⟨S16384, .i32⟩) main_v107).ofBuf v = v := fun _ => rfl
  have e3 : ∀ v : Vec F S16384x128 .f32, (TRef.of (T := ⟨S16384x128, .f32⟩) main_v108).toBuf v = v := fun _ => rfl
  rw [e1, e2]
  exact e3 _
theorem C2_keep (V : Valuation τ sig (Elt F)) (r : Ref sig .tc) (h : r ∉ wC2_W) : after wC2 V (Proc.devRef .tc r) = V (Proc.devRef .tc r) :=
  after_of_writes_sub wC2 _ wC2_writes h
theorem D2_main_v119 (V : Valuation τ sig (Elt F)) : (after wD2 V (Proc.devRef .tc main_v119) : Vec F S_ .f32) = perpR (F := F) ((V (Proc.devRef .tc main_v107)) : Vec F S16384 .i32) := by
  simp only [wD2]
  after_results_simp <;> rfl
theorem D2_keep (V : Valuation τ sig (Elt F)) (r : Ref sig .tc) (h : r ∉ wD2_W) : after wD2 V (Proc.devRef .tc r) = V (Proc.devRef .tc r) :=
  after_of_writes_sub wD2 _ wD2_writes h
theorem E2_main_v129 (V : Valuation τ sig (Elt F)) : (after wE2 V (Proc.devRef .tc main_v129) : Vec F S_ .f32) = lossR ((V (Proc.devRef .tc main_v108)) : Vec F S16384x128 .f32) ((V (Proc.devRef .tc main_v88)) : Vec F S16384x128 .f32) := by
  simp only [wE2]
  after_results_simp <;> rfl
theorem E2_keep (V : Valuation τ sig (Elt F)) (r : Ref sig .tc) (h : r ∉ wE2_W) : after wE2 V (Proc.devRef .tc r) = V (Proc.devRef .tc r) :=
  after_of_writes_sub wE2 _ wE2_writes h
theorem F2_main_v132 (V : Valuation τ sig (Elt F)) : (after wF2 V (Proc.devRef .tc main_v132) : Vec F S16384x128 .f32) = subf ((V (Proc.devRef .tc main_v88)) : Vec F S16384x128 .f32) (quantR ((V (Proc.devRef .tc main_v108)) : Vec F S16384x128 .f32) ((V (Proc.devRef .tc main_v88)) : Vec F S16384x128 .f32)) := by
  simp only [wF2]
  after_results_simp <;> rfl
theorem F2_main_v133 (V : Valuation τ sig (Elt F)) : (after wF2 V (Proc.devRef .tc main_v133) : Vec F S16384x128 .f32) = addf ((V (Proc.devRef .tc main_v89)) : Vec F S16384x128 .f32) (quantR ((V (Proc.devRef .tc main_v108)) : Vec F S16384x128 .f32) ((V (Proc.devRef .tc main_v88)) : Vec F S16384x128 .f32)) := by
  simp only [wF2]
  after_results_simp <;> rfl
theorem F2_main_v134 (V : Valuation τ sig (Elt F)) : (after wF2 V (Proc.devRef .tc main_v134) : Vec F S_ .f32) = addf ((V (Proc.devRef .tc main_v90)) : Vec F S_ .f32) ((V (Proc.devRef .tc main_v129)) : Vec F S_ .f32) := by
  simp only [wF2]
  after_results_simp <;> rfl
theorem F2_keep (V : Valuation τ sig (Elt F)) (r : Ref sig .tc) (h : r ∉ wF2_W) : after wF2 V (Proc.devRef .tc r) = V (Proc.devRef .tc r) :=
  after_of_writes_sub wF2 _ wF2_writes h
theorem A3_main_v136 (V : Valuation τ sig (Elt F)) : (after wA3b (after wA3a V) (Proc.devRef .tc main_v136) : Vec F S1024x128 .f32) = code3 ((V (Proc.devRef .tc main_arg1)) : Vec F S4x1024x128 .f32) := by
  simp only [wA3a, wA3b]
  after_results_simp <;> rfl
theorem A3_main_v150 (V : Valuation τ sig (Elt F)) : (after wA3b (after wA3a V) (Proc.devRef .tc main_v150) : Vec F S16384x1024 .f32) = scoreR ((V (Proc.devRef .tc main_v132)) : Vec F S16384x128 .f32) (code3 ((V (Proc.devRef .tc main_arg1)) : Vec F S4x1024x128 .f32)) := by
  simp only [wA3a, wA3b]
  after_results_simp <;> rfl
theorem A3_keep (V : Valuation τ sig (Elt F)) (r : Ref sig .tc) (h : r ∉ wA3b_W) (h' : r ∉ wA3a_W) : after wA3b (after wA3a V) (Proc.devRef .tc r) = V (Proc.devRef .tc r) :=
  (after_of_writes_sub wA3b _ wA3b_writes h).trans (after_of_writes_sub wA3a _ wA3a_writes h')
theorem B3_main_v151 (V : Valuation τ sig (Elt F)) : (after wB3 V (Proc.devRef .tc main_v151) : Vec F S16384 .i32) = nearR (F := F) ((V (Proc.devRef .tc main_v150)) : Vec F S16384x1024 .f32) := by
  simp only [wB3]
  after_results_simp
  unfold nearR
  rw [TRef.ofBuf_toBuf, TRef.ofBuf_toBuf, TRef.ofBuf_toBuf]
  have e1 : ∀ v : Vec F S16384x1024 .f32, (TRef.of (T := ⟨S16384x1024, .f32⟩) main_v150).ofBuf v = v := fun _ => rfl
  have e2 : ∀ v : Vec F S16384 .i32, (TRef.of (T := ⟨S16384, .i32⟩) main_v151).toBuf v = v := fun _ => rfl
  rw [e1]
  exact e2 _
theorem B3_keep (V : Valuation τ sig (Elt F)) (r : Ref sig .tc) (h : r ∉ wB3_W) : after wB3 V (Proc.devRef .tc r) = V (Proc.devRef .tc r) :=
  after_of_writes_sub wB3 _ wB3_writes h
theorem C3_main_v152 (V : Valuation τ sig (Elt F)) : (after wC3 V (Proc.devRef .tc main_v152) : Vec F S16384x128 .f32) = takeR ((V (Proc.devRef .tc main_v136)) : Vec F S1024x128 .f32) ((V (Proc.devRef .tc main_v151)) : Vec F S16384 .i32) := by
  simp only [wC3]
  after_results_simp
  unfold takeR wrapR
  simp only [TRef.ofBuf_toBuf]
  have e1 : ∀ v : Vec F S1024x128 .f32, (TRef.of (T := ⟨S1024x128, .f32⟩) main_v136).ofBuf v = v := fun _ => rfl
  have e2 : ∀ v : Vec F S16384 .i32, (TRef.of (T := ⟨S16384, .i32⟩) main_v151).ofBuf v = v := fun _ => rfl
  have e3 : ∀ v : Vec F S16384x128 .f32, (TRef.of (T := ⟨S16384x128, .f32⟩) main_v152).toBuf v = v := fun _ => rfl
  rw [e1, e2]
  exact e3 _
theorem C3_keep (V : Valuation τ sig (Elt F)) (r : Ref sig .tc) (h : r ∉ wC3_W) : after wC3 V (Proc.devRef .tc r) = V (Proc.devRef .tc r) :=
  after_of_writes_sub wC3 _ wC3_writes h
theorem D3_main_v163 (V : Valuation τ sig (Elt F)) : (after wD3 V (Proc.devRef .tc main_v163) : Vec F S_ .f32) = perpR (F := F) ((V (Proc.devRef .tc main_v151)) : Vec F S16384 .i32) := by
  simp only [wD3]
  after_results_simp <;> rfl
theorem D3_keep (V : Valuation τ sig (Elt F)) (r : Ref sig .tc) (h : r ∉ wD3_W) : after wD3 V (Proc.devRef .tc r) = V (Proc.devRef .tc r) :=
  after_of_writes_sub wD3 _ wD3_writes h
theorem E3_main_v173 (V : Valuation τ sig (Elt F)) : (after wE3 V (Proc.devRef .tc main_v173) : Vec F S_ .f32) = lossR ((V (Proc.devRef .tc main_v152)) : Vec F S16384x128 .f32) ((V (Proc.devRef .tc main_v132)) : Vec F S16384x128 .f32) := by
  simp only [wE3]
  after_results_simp <;> rfl
theorem E3_keep (V : Valuation τ sig (Elt F)) (r : Ref sig .tc) (h : r ∉ wE3_W) : after wE3 V (Proc.devRef .tc r) = V (Proc.devRef .tc r) :=
  after_of_writes_sub wE3 _ wE3_writes h
theorem F3_main_v176 (V : Valuation τ sig (Elt F)) : (after wF3 V (Proc.devRef .tc main_v176) : Vec F S16384x128 .f32) = subf ((V (Proc.devRef .tc main_v132)) : Vec F S16384x128 .f32) (quantR ((V (Proc.devRef .tc main_v152)) : Vec F S16384x128 .f32) ((V (Proc.devRef .tc main_v132)) : Vec F S16384x128 .f32)) := by
  simp only [wF3]
  after_results_simp <;> rfl
theorem F3_main_v177 (V : Valuation τ sig (Elt F)) : (after wF3 V (Proc.devRef .tc main_v177) : Vec F S16384x128 .f32) = addf ((V (Proc.devRef .tc main_v133)) : Vec F S16384x128 .f32) (quantR ((V (Proc.devRef .tc main_v152)) : Vec F S16384x128 .f32) ((V (Proc.devRef .tc main_v132)) : Vec F S16384x128 .f32)) := by
  simp only [wF3]
  after_results_simp <;> rfl
theorem F3_main_v178 (V : Valuation τ sig (Elt F)) : (after wF3 V (Proc.devRef .tc main_v178) : Vec F S_ .f32) = addf ((V (Proc.devRef .tc main_v134)) : Vec F S_ .f32) ((V (Proc.devRef .tc main_v173)) : Vec F S_ .f32) := by
  simp only [wF3]
  after_results_simp <;> rfl
theorem F3_keep (V : Valuation τ sig (Elt F)) (r : Ref sig .tc) (h : r ∉ wF3_W) : after wF3 V (Proc.devRef .tc r) = V (Proc.devRef .tc r) :=
  after_of_writes_sub wF3 _ wF3_writes h
theorem post_main_v180 (V : Valuation τ sig (Elt F)) : (after wpost V (Proc.devRef .tc main_v180) : Vec F S8x128x2048 .f32) = unflat ((V (Proc.devRef .tc main_v177)) : Vec F S16384x128 .f32) := by
  simp only [wpost]
  after_results_simp <;> rfl
theorem post_main_v185 (V : Valuation τ sig (Elt F)) : (after wpost V (Proc.devRef .tc main_v185) : Vec F S4 .f32) = stackR ((V (Proc.devRef .tc main_v31)) : Vec F S_ .f32) ((V (Proc.devRef .tc main_v75)) : Vec F S_ .f32) ((V (Proc.devRef .tc main_v119)) : Vec F S_ .f32) ((V (Proc.devRef .tc main_v163)) : Vec F S_ .f32) := by
  simp only [wpost]
  after_results_simp <;> dsimp only [Matrix.cons_val] <;> after_results_simp <;> rfl
theorem post_keep (V : Valuation τ sig (Elt F)) (r : Ref sig .tc) (h : r ∉ wpost_W) : after wpost V (Proc.devRef .tc r) = V (Proc.devRef .tc r) :=
  after_of_writes_sub wpost _ wpost_writes h

variable (V : Valuation τ sig (Elt F))

def cpre : Valuation τ sig (Elt F) := after wpre V
theorem cpre_main_arg0 : (cpre V (Proc.devRef .tc main_arg0) : Vec F S8x128x2048 .f32) = (V (Proc.devRef .tc main_arg0)) := (pre_keep V main_arg0 (by decide)).trans (rfl)
theorem cpre_main_arg1 : (cpre V (Proc.devRef .tc main_arg1) : Vec F S4x1024x128 .f32) = (V (Proc.devRef .tc main_arg1)) := (pre_keep V main_arg1 (by decide)).trans (rfl)
theorem cpre_main_v1 : (cpre V (Proc.devRef .tc main_v1) : Vec F S16384x128 .f32) = r0 (V (Proc.devRef .tc main_arg0)) := by
  refine (pre_main_v1 V).trans ?_
  rfl
theorem cpre_main_v2 : (cpre V (Proc.devRef .tc main_v2) : Vec F S16384x128 .f32) = zeros := by
  refine (pre_main_v2 V).trans ?_
  rfl
def cA0 : Valuation τ sig (Elt F) := after wA0 (cpre V)
theorem cA0_main_arg0 : (cA0 V (Proc.devRef .tc main_arg0) : Vec F S8x128x2048 .f32) = (V (Proc.devRef .tc main_arg0)) := (A0_keep (cpre V) main_arg0 (by decide)).trans (cpre_main_arg0 V)
theorem cA0_main_arg1 : (cA0 V (Proc.devRef .tc main_arg1) : Vec F S4x1024x128 .f32) = (V (Proc.devRef .tc main_arg1)) := (A0_keep (cpre V) main_arg1 (by decide)).trans (cpre_main_arg1 V)
theorem cA0_main_v1 : (cA0 V (Proc.devRef .tc main_v1) : Vec F S16384x128 .f32) = r0 (V (Proc.devRef .tc main_arg0)) := (A0_keep (cpre V) main_v1 (by decide)).trans (cpre_main_v1 V)
theorem cA0_main_v18 : (cA0 V (Proc.devRef .tc main_v18) : Vec F S16384x1024 .f32) = scoreR (r0 (V (Proc.devRef .tc main_arg0))) (code0 (V (Proc.devRef .tc main_arg1))) := by
  refine (A0_main_v18 (cpre V)).trans ?_
  rw [show ((cpre V) (Proc.devRef .tc main_v1) : Vec F S16384x128 .f32) = _ from cpre_main_v1 V, show ((cpre V) (Proc.devRef .tc main_arg1) : Vec F S4x1024x128 .f32) = _ from cpre_main_arg1 V] <;> rfl
theorem cA0_main_v2 : (cA0 V (Proc.devRef .tc main_v2) : Vec F S16384x128 .f32) = zeros := (A0_keep (cpre V) main_v2 (by decide)).trans (cpre_main_v2 V)
theorem cA0_main_v4 : (cA0 V (Proc.devRef .tc main_v4) : Vec F S1024x128 .f32) = code0 (V (Proc.devRef .tc main_arg1)) := by
  refine (A0_main_v4 (cpre V)).trans ?_
  rw [show ((cpre V) (Proc.devRef .tc main_arg1) : Vec F S4x1024x128 .f32) = _ from cpre_main_arg1 V] <;> rfl
def cB0 : Valuation τ sig (Elt F) := after wB0 (cA0 V)
theorem cB0_main_arg0 : (cB0 V (Proc.devRef .tc main_arg0) : Vec F S8x128x2048 .f32) = (V (Proc.devRef .tc main_arg0)) := (B0_keep (cA0 V) main_arg0 (by decide)).trans (cA0_main_arg0 V)
theorem cB0_main_arg1 : (cB0 V (Proc.devRef .tc main_arg1) : Vec F S4x1024x128 .f32) = (V (Proc.devRef .tc main_arg1)) := (B0_keep (cA0 V) main_arg1 (by decide)).trans (cA0_main_arg1 V)
theorem cB0_main_v1 : (cB0 V (Proc.devRef .tc main_v1) : Vec F S16384x128 .f32) = r0 (V (Proc.devRef .tc main_arg0)) := (B0_keep (cA0 V) main_v1 (by decide)).trans (cA0_main_v1 V)
theorem cB0_main_v19 : (cB0 V (Proc.devRef .tc main_v19) : Vec F S16384 .i32) = ixR (r0 (V (Proc.devRef .tc main_arg0))) (code0 (V (Proc.devRef .tc main_arg1))) := by
  refine (B0_main_v19 (cA0 V)).trans ?_
  rw [show ((cA0 V) (Proc.devRef .tc main_v18) : Vec F S16384x1024 .f32) = _ from cA0_main_v18 V] <;> rfl
theorem cB0_main_v2 : (cB0 V (Proc.devRef .tc main_v2) : Vec F S16384x128 .f32) = zeros := (B0_keep (cA0 V) main_v2 (by decide)).trans (cA0_main_v2 V)
theorem cB0_main_v4 : (cB0 V (Proc.devRef .tc main_v4) : Vec F S1024x128 .f32) = code0 (V (Proc.devRef .tc main_arg1)) := (B0_keep (cA0 V) main_v4 (by decide)).trans (cA0_main_v4 V)
def cC0 : Valuation τ sig (Elt F) := after wC0 (cB0 V)
theorem cC0_main_arg0 : (cC0 V (Proc.devRef .tc main_arg0) : Vec F S8x128x2048 .f32) = (V (Proc.devRef .tc main_arg0)) := (C0_keep (cB0 V) main_arg0 (by decide)).trans (cB0_main_arg0 V)
theorem cC0_main_arg1 : (cC0 V (Proc.devRef .tc main_arg1) : Vec F S4x1024x128 .f32) = (V (Proc.devRef .tc main_arg1)) := (C0_keep (cB0 V) main_arg1 (by decide)).trans (cB0_main_arg1 V)
theorem cC0_main_v1 : (cC0 V (Proc.devRef .tc main_v1) : Vec F S16384x128 .f32) = r0 (V (Proc.devRef .tc main_arg0)) := (C0_keep (cB0 V) main_v1 (by decide)).trans (cB0_main_v1 V)
theorem cC0_main_v19 : (cC0 V (Proc.devRef .tc main_v19) : Vec F S16384 .i32) = ixR (r0 (V (Proc.devRef .tc main_arg0))) (code0 (V (Proc.devRef .tc main_arg1))) := (C0_keep (cB0 V) main_v19 (by decide)).trans (cB0_main_v19 V)
theorem cC0_main_v2 : (cC0 V (Proc.devRef .tc main_v2) : Vec F S16384x128 .f32) = zeros := (C0_keep (cB0 V) main_v2 (by decide)).trans (cB0_main_v2 V)
theorem cC0_main_v20 : (cC0 V (Proc.devRef .tc main_v20) : Vec F S16384x128 .f32) = tkR (r0 (V (Proc.devRef .tc main_arg0))) (code0 (V (Proc.devRef .tc main_arg1))) := by
  refine (C0_main_v20 (cB0 V)).trans ?_
  rw [show ((cB0 V) (Proc.devRef .tc main_v4) : Vec F S1024x128 .f32) = _ from cB0_main_v4 V, show ((cB0 V) (Proc.devRef .tc main_v19) : Vec F S16384 .i32) = _ from cB0_main_v19 V] <;> rfl
def cD0 : Valuation τ sig (Elt F) := after wD0 (cC0 V)
theorem cD0_main_arg0 : (cD0 V (Proc.devRef .tc main_arg0) : Vec F S8x128x2048 .f32) = (V (Proc.devRef .tc main_arg0)) := (D0_keep (cC0 V) main_arg0 (by decide)).trans (cC0_main_arg0 V)
theorem cD0_main_arg1 : (cD0 V (Proc.devRef .tc main_arg1) : Vec F S4x1024x128 .f32) = (V (Proc.devRef .tc main_arg1)) := (D0_keep (cC0 V) main_arg1 (by decide)).trans (cC0_main_arg1 V)
theorem cD0_main_v1 : (cD0 V (Proc.devRef .tc main_v1) : Vec F S16384x128 .f32) = r0 (V (Proc.devRef .tc main_arg0)) := (D0_keep (cC0 V) main_v1 (by decide)).trans (cC0_main_v1 V)
theorem cD0_main_v2 : (cD0 V (Proc.devRef .tc main_v2) : Vec F S16384x128 .f32) = zeros := (D0_keep (cC0 V) main_v2 (by decide)).trans (cC0_main_v2 V)
theorem cD0_main_v20 : (cD0 V (Proc.devRef .tc main_v20) : Vec F S16384x128 .f32) = tkR (r0 (V (Proc.devRef .tc main_arg0))) (code0 (V (Proc.devRef .tc main_arg1))) := (D0_keep (cC0 V) main_v20 (by decide)).trans (cC0_main_v20 V)
theorem cD0_main_v31 : (cD0 V (Proc.devRef .tc main_v31) : Vec F S_ .f32) = p0 (V (Proc.devRef .tc main_arg0)) (V (Proc.devRef .tc main_arg1)) := by
  refine (D0_main_v31 (cC0 V)).trans ?_
  rw [show ((cC0 V) (Proc.devRef .tc main_v19) : Vec F S16384 .i32) = _ from cC0_main_v19 V] <;> rfl
def cE0 : Valuation τ sig (Elt F) := after wE0 (cD0 V)
theorem cE0_main_arg0 : (cE0 V (Proc.devRef .tc main_arg0) : Vec F S8x128x2048 .f32) = (V (Proc.devRef .tc main_arg0)) := (E0_keep (cD0 V) main_arg0 (by decide)).trans (cD0_main_arg0 V)
theorem cE0_main_arg1 : (cE0 V (Proc.devRef .tc main_arg1) : Vec F S4x1024x128 .f32) = (V (Proc.devRef .tc main_arg1)) := (E0_keep (cD0 V) main_arg1 (by decide)).trans (cD0_main_arg1 V)
theorem cE0_main_v1 : (cE0 V (Proc.devRef .tc main_v1) : Vec F S16384x128 .f32) = r0 (V (Proc.devRef .tc main_arg0)) := (E0_keep (cD0 V) main_v1 (by decide)).trans (cD0_main_v1 V)
theorem cE0_main_v2 : (cE0 V (Proc.devRef .tc main_v2) : Vec F S16384x128 .f32) = zeros := (E0_keep (cD0 V) main_v2 (by decide)).trans (cD0_main_v2 V)
theorem cE0_main_v20 : (cE0 V (Proc.devRef .tc main_v20) : Vec F S16384x128 .f32) = tkR (r0 (V (Proc.devRef .tc main_arg0))) (code0 (V (Proc.devRef .tc main_arg1))) := (E0_keep (cD0 V) main_v20 (by decide)).trans (cD0_main_v20 V)
theorem cE0_main_v31 : (cE0 V (Proc.devRef .tc main_v31) : Vec F S_ .f32) = p0 (V (Proc.devRef .tc main_arg0)) (V (Proc.devRef .tc main_arg1)) := (E0_keep (cD0 V) main_v31 (by decide)).trans (cD0_main_v31 V)
theorem cE0_main_v41 : (cE0 V (Proc.devRef .tc main_v41) : Vec F S_ .f32) = lossR (tkR (r0 (V (Proc.devRef .tc main_arg0))) (code0 (V (Proc.devRef .tc main_arg1)))) (r0 (V (Proc.devRef .tc main_arg0))) := by
  refine (E0_main_v41 (cD0 V)).trans ?_
  rw [show ((cD0 V) (Proc.devRef .tc main_v20) : Vec F S16384x128 .f32) = _ from cD0_main_v20 V, show ((cD0 V) (Proc.devRef .tc main_v1) : Vec F S16384x128 .f32) = _ from cD0_main_v1 V] <;> rfl
def cF0 : Valuation τ sig (Elt F) := after wF0b (after wF0a (cE0 V))
theorem cF0_main_arg0 : (cF0 V (Proc.devRef .tc main_arg0) : Vec F S8x128x2048 .f32) = (V (Proc.devRef .tc main_arg0)) := (F0_keep (cE0 V) main_arg0 (by decide) (by decide)).trans (cE0_main_arg0 V)
theorem cF0_main_arg1 : (cF0 V (Proc.devRef .tc main_arg1) : Vec F S4x1024x128 .f32) = (V (Proc.devRef .tc main_arg1)) := (F0_keep (cE0 V) main_arg1 (by decide) (by decide)).trans (cE0_main_arg1 V)
theorem cF0_main_v31 : (cF0 V (Proc.devRef .tc main_v31) : Vec F S_ .f32) = p0 (V (Proc.devRef .tc main_arg0)) (V (Proc.devRef .tc main_arg1)) := (F0_keep (cE0 V) main_v31 (by decide) (by decide)).trans (cE0_main_v31 V)
theorem cF0_main_v44 : (cF0 V (Proc.devRef .tc main_v44) : Vec F S16384x128 .f32) = r1 (V (Proc.devRef .tc main_arg0)) (V (Proc.devRef .tc main_arg1)) := by
  refine (F0_main_v44 (cE0 V)).trans ?_
  rw [show ((cE0 V) (Proc.devRef .tc main_v20) : Vec F S16384x128 .f32) = _ from cE0_main_v20 V, show ((cE0 V) (Proc.devRef .tc main_v1) : Vec F S16384x128 .f32) = _ from cE0_main_v1 V] <;> rfl
theorem cF0_main_v45 : (cF0 V (Proc.devRef .tc main_v45) : Vec F S16384x128 .f32) = a1 (V (Proc.devRef .tc main_arg0)) (V (Proc.devRef .tc main_arg1)) := by
  refine (F0_main_v45 (cE0 V)).trans ?_
  rw [show ((cE0 V) (Proc.devRef .tc main_v20) : Vec F S16384x128 .f32) = _ from cE0_main_v20 V, show ((cE0 V) (Proc.devRef .tc main_v1) : Vec F S16384x128 .f32) = _ from cE0_main_v1 V, show ((cE0 V) (Proc.devRef .tc main_v2) : Vec F S16384x128 .f32) = _ from cE0_main_v2 V] <;> rfl
theorem cF0_main_v46 : (cF0 V (Proc.devRef .tc main_v46) : Vec F S_ .f32) = t1 (V (Proc.devRef .tc main_arg0)) (V (Proc.devRef .tc main_arg1)) := by
  refine (F0_main_v46 (cE0 V)).trans ?_
  rw [show ((cE0 V) (Proc.devRef .tc main_v41) : Vec F S_ .f32) = _ from cE0_main_v41 V] <;> rfl
def cA1 : Valuation τ sig (Elt F) := after wA1 (cF0 V)
theorem cA1_main_arg0 : (cA1 V (Proc.devRef .tc main_arg0) : Vec F S8x128x2048 .f32) = (V (Proc.devRef .tc main_arg0)) := (A1_keep (cF0 V) main_arg0 (by decide)).trans (cF0_main_arg0 V)
theorem cA1_main_arg1 : (cA1 V (Proc.devRef .tc main_arg1) : Vec F S4x1024x128 .f32) = (V (Proc.devRef .tc main_arg1)) := (A1_keep (cF0 V) main_arg1 (by decide)).trans (cF0_main_arg1 V)
theorem cA1_main_v31 : (cA1 V (Proc.devRef .tc main_v31) : Vec F S_ .f32) = p0 (V (Proc.devRef .tc main_arg0)) (V (Proc.devRef .tc main_arg1)) := (A1_keep (cF0 V) main_v31 (by decide)).trans (cF0_main_v31 V)
theorem cA1_main_v44 : (cA1 V (Proc.devRef .tc main_v44) : Vec F S16384x128 .f32) = r1 (V (Proc.devRef .tc main_arg0)) (V (Proc.devRef .tc main_arg1)) := (A1_keep (cF0 V) main_v44 (by decide)).trans (cF0_main_v44 V)
theorem cA1_main_v45 : (cA1 V (Proc.devRef .tc main_v45) : Vec F S16384x128 .f32) = a1 (V (Proc.devRef .tc main_arg0)) (V (Proc.devRef .tc main_arg1)) := (A1_keep (cF0 V) main_v45 (by decide)).trans (cF0_main_v45 V)
theorem cA1_main_v46 : (cA1 V (Proc.devRef .tc main_v46) : Vec F S_ .f32) = t1 (V (Proc.devRef .tc main_arg0)) (V (Proc.devRef .tc main_arg1)) := (A1_keep (cF0 V) main_v46 (by decide)).trans (cF0_main_v46 V)
theorem cA1_main_v48 : (cA1 V (Proc.devRef .tc main_v48) : Vec F S1024x128 .f32) = code1 (V (Proc.devRef .tc main_arg1)) := by
  refine (A1_main_v48 (cF0 V)).trans ?_
  rw [show ((cF0 V) (Proc.devRef .tc main_arg1) : Vec F S4x1024x128 .f32) = _ from cF0_main_arg1 V] <;> rfl
theorem cA1_main_v62 : (cA1 V (Proc.devRef .tc main_v62) : Vec F S16384x1024 .f32) = scoreR (r1 (V (Proc.devRef .tc main_arg0)) (V (Proc.devRef .tc main_arg1))) (code1 (V (Proc.devRef .tc main_arg1))) := by
  refine (A1_main_v62 (cF0 V)).trans ?_
  rw [show ((cF0 V) (Proc.devRef .tc main_v44) : Vec F S16384x128 .f32) = _ from cF0_main_v44 V, show ((cF0 V) (Proc.devRef .tc main_arg1) : Vec F S4x1024x128 .f32) = _ from cF0_main_arg1 V] <;> rfl
def cB1 : Valuation τ sig (Elt F) := after wB1 (cA1 V)
theorem cB1_main_arg0 : (cB1 V (Proc.devRef .tc main_arg0) : Vec F S8x128x2048 .f32) = (V (Proc.devRef .tc main_arg0)) := (B1_keep (cA1 V) main_arg0 (by decide)).trans (cA1_main_arg0 V)
theorem cB1_main_arg1 : (cB1 V (Proc.devRef .tc main_arg1) : Vec F S4x1024x128 .f32) = (V (Proc.devRef .tc main_arg1)) := (B1_keep (cA1 V) main_arg1 (by decide)).trans (cA1_main_arg1 V)
theorem cB1_main_v31 : (cB1 V (Proc.devRef .tc main_v31) : Vec F S_ .f32) = p0 (V (Proc.devRef .tc main_arg0)) (V (Proc.devRef .tc main_arg1)) := (B1_keep (cA1 V) main_v31 (by decide)).trans (cA1_main_v31 V)
theorem cB1_main_v44 : (cB1 V (Proc.devRef .tc main_v44) : Vec F S16384x128 .f32) = r1 (V (Proc.devRef .tc main_arg0)) (V (Proc.devRef .tc main_arg1)) := (B1_keep (cA1 V) main_v44 (by decide)).trans (cA1_main_v44 V)
theorem cB1_main_v45 : (cB1 V (Proc.devRef .tc main_v45) : Vec F S16384x128 .f32) = a1 (V (Proc.devRef .tc main_arg0)) (V (Proc.devRef .tc main_arg1)) := (B1_keep (cA1 V) main_v45 (by decide)).trans (cA1_main_v45 V)
theorem cB1_main_v46 : (cB1 V (Proc.devRef .tc main_v46) : Vec F S_ .f32) = t1 (V (Proc.devRef .tc main_arg0)) (V (Proc.devRef .tc main_arg1)) := (B1_keep (cA1 V) main_v46 (by decide)).trans (cA1_main_v46 V)
theorem cB1_main_v48 : (cB1 V (Proc.devRef .tc main_v48) : Vec F S1024x128 .f32) = code1 (V (Proc.devRef .tc main_arg1)) := (B1_keep (cA1 V) main_v48 (by decide)).trans (cA1_main_v48 V)
theorem cB1_main_v63 : (cB1 V (Proc.devRef .tc main_v63) : Vec F S16384 .i32) = ixR (r1 (V (Proc.devRef .tc main_arg0)) (V (Proc.devRef .tc main_arg1))) (code1 (V (Proc.devRef .tc main_arg1))) := by
  refine (B1_main_v63 (cA1 V)).trans ?_
  rw [show ((cA1 V) (Proc.devRef .tc main_v62) : Vec F S16384x1024 .f32) = _ from cA1_main_v62 V] <;> rfl
def cC1 : Valuation τ sig (Elt F) := after wC1 (cB1 V)
theorem cC1_main_arg0 : (cC1 V (Proc.devRef .tc main_arg0) : Vec F S8x128x2048 .f32) = (V (Proc.devRef .tc main_arg0)) := (C1_keep (cB1 V) main_arg0 (by decide)).trans (cB1_main_arg0 V)
theorem cC1_main_arg1 : (cC1 V (Proc.devRef .tc main_arg1) : Vec F S4x1024x128 .f32) = (V (Proc.devRef .tc main_arg1)) := (C1_keep (cB1 V) main_arg1 (by decide)).trans (cB1_main_arg1 V)
theorem cC1_main_v31 : (cC1 V (Proc.devRef .tc main_v31) : Vec F S_ .f32) = p0 (V (Proc.devRef .tc main_arg0)) (V (Proc.devRef .tc main_arg1)) := (C1_keep (cB1 V) main_v31 (by decide)).trans (cB1_main_v31 V)
theorem cC1_main_v44 : (cC1 V (Proc.devRef .tc main_v44) : Vec F S16384x128 .f32) = r1 (V (Proc.devRef .tc main_arg0)) (V (Proc.devRef .tc main_arg1)) := (C1_keep (cB1 V) main_v44 (by decide)).trans (cB1_main_v44 V)
theorem cC1_main_v45 : (cC1 V (Proc.devRef .tc main_v45) : Vec F S16384x128 .f32) = a1 (V (Proc.devRef .tc main_arg0)) (V (Proc.devRef .tc main_arg1)) := (C1_keep (cB1 V) main_v45 (by decide)).trans (cB1_main_v45 V)
theorem cC1_main_v46 : (cC1 V (Proc.devRef .tc main_v46) : Vec F S_ .f32) = t1 (V (Proc.devRef .tc main_arg0)) (V (Proc.devRef .tc main_arg1)) := (C1_keep (cB1 V) main_v46 (by decide)).trans (cB1_main_v46 V)
theorem cC1_main_v63 : (cC1 V (Proc.devRef .tc main_v63) : Vec F S16384 .i32) = ixR (r1 (V (Proc.devRef .tc main_arg0)) (V (Proc.devRef .tc main_arg1))) (code1 (V (Proc.devRef .tc main_arg1))) := (C1_keep (cB1 V) main_v63 (by decide)).trans (cB1_main_v63 V)
theorem cC1_main_v64 : (cC1 V (Proc.devRef .tc main_v64) : Vec F S16384x128 .f32) = tkR (r1 (V (Proc.devRef .tc main_arg0)) (V (Proc.devRef .tc main_arg1))) (code1 (V (Proc.devRef .tc main_arg1))) := by
  refine (C1_main_v64 (cB1 V)).trans ?_
  rw [show ((cB1 V) (Proc.devRef .tc main_v48) : Vec F S1024x128 .f32) = _ from cB1_main_v48 V, show ((cB1 V) (Proc.devRef .tc main_v63) : Vec F S16384 .i32) = _ from cB1_main_v63 V] <;> rfl
def cD1 : Valuation τ sig (Elt F) := after wD1 (cC1 V)
theorem cD1_main_arg0 : (cD1 V (Proc.devRef .tc main_arg0) : Vec F S8x128x2048 .f32) = (V (Proc.devRef .tc main_arg0)) := (D1_keep (cC1 V) main_arg0 (by decide)).trans (cC1_main_arg0 V)
theorem cD1_main_arg1 : (cD1 V (Proc.devRef .tc main_arg1) : Vec F S4x1024x128 .f32) = (V (Proc.devRef .tc main_arg1)) := (D1_keep (cC1 V) main_arg1 (by decide)).trans (cC1_main_arg1 V)
theorem cD1_main_v31 : (cD1 V (Proc.devRef .tc main_v31) : Vec F S_ .f32) = p0 (V (Proc.devRef .tc main_arg0)) (V (Proc.devRef .tc main_arg1)) := (D1_keep (cC1 V) main_v31 (by decide)).trans (cC1_main_v31 V)
theorem cD1_main_v44 : (cD1 V (Proc.devRef .tc main_v44) : Vec F S16384x128 .f32) = r1 (V (Proc.devRef .tc main_arg0)) (V (Proc.devRef .tc main_arg1)) := (D1_keep (cC1 V) main_v44 (by decide)).trans (cC1_main_v44 V)
theorem cD1_main_v45 : (cD1 V (Proc.devRef .tc main_v45) : Vec F S16384x128 .f32) = a1 (V (Proc.devRef .tc main_arg0)) (V (Proc.devRef .tc main_arg1)) := (D1_keep (cC1 V) main_v45 (by decide)).trans (cC1_main_v45 V)
theorem cD1_main_v46 : (cD1 V (Proc.devRef .tc main_v46) : Vec F S_ .f32) = t1 (V (Proc.devRef .tc main_arg0)) (V (Proc.devRef .tc main_arg1)) := (D1_keep (cC1 V) main_v46 (by decide)).trans (cC1_main_v46 V)
theorem cD1_main_v64 : (cD1 V (Proc.devRef .tc main_v64) : Vec F S16384x128 .f32) = tkR (r1 (V (Proc.devRef .tc main_arg0)) (V (Proc.devRef .tc main_arg1))) (code1 (V (Proc.devRef .tc main_arg1))) := (D1_keep (cC1 V) main_v64 (by decide)).trans (cC1_main_v64 V)
theorem cD1_main_v75 : (cD1 V (Proc.devRef .tc main_v75) : Vec F S_ .f32) = p1 (V (Proc.devRef .tc main_arg0)) (V (Proc.devRef .tc main_arg1)) := by
  refine (D1_main_v75 (cC1 V)).trans ?_
  rw [show ((cC1 V) (Proc.devRef .tc main_v63) : Vec F S16384 .i32) = _ from cC1_main_v63 V] <;> rfl
def cE1 : Valuation τ sig (Elt F) := after wE1 (cD1 V)
theorem cE1_main_arg0 : (cE1 V (Proc.devRef .tc main_arg0) : Vec F S8x128x2048 .f32) = (V (Proc.devRef .tc main_arg0)) := (E1_keep (cD1 V) main_arg0 (by decide)).trans (cD1_main_arg0 V)
theorem cE1_main_arg1 : (cE1 V (Proc.devRef .tc main_arg1) : Vec F S4x1024x128 .f32) = (V (Proc.devRef .tc main_arg1)) := (E1_keep (cD1 V) main_arg1 (by decide)).trans (cD1_main_arg1 V)
theorem cE1_main_v31 : (cE1 V (Proc.devRef .tc main_v31) : Vec F S_ .f32) = p0 (V (Proc.devRef .tc main_arg0)) (V (Proc.devRef .tc main_arg1)) := (E1_keep (cD1 V) main_v31 (by decide)).trans (cD1_main_v31 V)
theorem cE1_main_v44 : (cE1 V (Proc.devRef .tc main_v44) : Vec F S16384x128 .f32) = r1 (V (Proc.devRef .tc main_arg0)) (V (Proc.devRef .tc main_arg1)) := (E1_keep (cD1 V) main_v44 (by decide)).trans (cD1_main_v44 V)
theorem cE1_main_v45 : (cE1 V (Proc.devRef .tc main_v45) : Vec F S16384x128 .f32) = a1 (V (Proc.devRef .tc main_arg0)) (V (Proc.devRef .tc main_arg1)) := (E1_keep (cD1 V) main_v45 (by decide)).trans (cD1_main_v45 V)
theorem cE1_main_v46 : (cE1 V (Proc.devRef .tc main_v46) : Vec F S_ .f32) = t1 (V (Proc.devRef .tc main_arg0)) (V (Proc.devRef .tc main_arg1)) := (E1_keep (cD1 V) main_v46 (by decide)).trans (cD1_main_v46 V)
theorem cE1_main_v64 : (cE1 V (Proc.devRef .tc main_v64) : Vec F S16384x128 .f32) = tkR (r1 (V (Proc.devRef .tc main_arg0)) (V (Proc.devRef .tc main_arg1))) (code1 (V (Proc.devRef .tc main_arg1))) := (E1_keep (cD1 V) main_v64 (by decide)).trans (cD1_main_v64 V)
theorem cE1_main_v75 : (cE1 V (Proc.devRef .tc main_v75) : Vec F S_ .f32) = p1 (V (Proc.devRef .tc main_arg0)) (V (Proc.devRef .tc main_arg1)) := (E1_keep (cD1 V) main_v75 (by decide)).trans (cD1_main_v75 V)
theorem cE1_main_v85 : (cE1 V (Proc.devRef .tc main_v85) : Vec F S_ .f32) = lossR (tkR (r1 (V (Proc.devRef .tc main_arg0)) (V (Proc.devRef .tc main_arg1))) (code1 (V (Proc.devRef .tc main_arg1)))) (r1 (V (Proc.devRef .tc main_arg0)) (V (Proc.devRef .tc main_arg1))) := by
  refine (E1_main_v85 (cD1 V)).trans ?_
  rw [show ((cD1 V) (Proc.devRef .tc main_v64) : Vec F S16384x128 .f32) = _ from cD1_main_v64 V, show ((cD1 V) (Proc.devRef .tc main_v44) : Vec F S16384x128 .f32) = _ from cD1_main_v44 V] <;> rfl
def cF1 : Valuation τ sig (Elt F) := after wF1 (cE1 V)
theorem cF1_main_arg0 : (cF1 V (Proc.devRef .tc main_arg0) : Vec F S8x128x2048 .f32) = (V (Proc.devRef .tc main_arg0)) := (F1_keep (cE1 V) main_arg0 (by decide)).trans (cE1_main_arg0 V)
theorem cF1_main_arg1 : (cF1 V (Proc.devRef .tc main_arg1) : Vec F S4x1024x128 .f32) = (V (Proc.devRef .tc main_arg1)) := (F1_keep (cE1 V) main_arg1 (by decide)).trans (cE1_main_arg1 V)
theorem cF1_main_v31 : (cF1 V (Proc.devRef .tc main_v31) : Vec F S_ .f32) = p0 (V (Proc.devRef .tc main_arg0)) (V (Proc.devRef .tc main_arg1)) := (F1_keep (cE1 V) main_v31 (by decide)).trans (cE1_main_v31 V)
theorem cF1_main_v75 : (cF1 V (Proc.devRef .tc main_v75) : Vec F S_ .f32) = p1 (V (Proc.devRef .tc main_arg0)) (V (Proc.devRef .tc main_arg1)) := (F1_keep (cE1 V) main_v75 (by decide)).trans (cE1_main_v75 V)
theorem cF1_main_v88 : (cF1 V (Proc.devRef .tc main_v88) : Vec F S16384x128 .f32) = r2 (V (Proc.devRef .tc main_arg0)) (V (Proc.devRef .tc main_arg1)) := by
  refine (F1_main_v88 (cE1 V)).trans ?_
  rw [show ((cE1 V) (Proc.devRef .tc main_v64) : Vec F S16384x128 .f32) = _ from cE1_main_v64 V, show ((cE1 V) (Proc.devRef .tc main_v44) : Vec F S16384x128 .f32) = _ from cE1_main_v44 V] <;> rfl
theorem cF1_main_v89 : (cF1 V (Proc.devRef .tc main_v89) : Vec F S16384x128 .f32) = a2 (V (Proc.devRef .tc main_arg0)) (V (Proc.devRef .tc main_arg1)) := by
  refine (F1_main_v89 (cE1 V)).trans ?_
  rw [show ((cE1 V) (Proc.devRef .tc main_v64) : Vec F S16384x128 .f32) = _ from cE1_main_v64 V, show ((cE1 V) (Proc.devRef .tc main_v44) : Vec F S16384x128 .f32) = _ from cE1_main_v44 V, show ((cE1 V) (Proc.devRef .tc main_v45) : Vec F S16384x128 .f32) = _ from cE1_main_v45 V] <;> rfl
theorem cF1_main_v90 : (cF1 V (Proc.devRef .tc main_v90) : Vec F S_ .f32) = t2 (V (Proc.devRef .tc main_arg0)) (V (Proc.devRef .tc main_arg1)) := by
  refine (F1_main_v90 (cE1 V)).trans ?_
  rw [show ((cE1 V) (Proc.devRef .tc main_v85) : Vec F S_ .f32) = _ from cE1_main_v85 V, show ((cE1 V) (Proc.devRef .tc main_v46) : Vec F S_ .f32) = _ from cE1_main_v46 V] <;> rfl
def cA2 : Valuation τ sig (Elt F) := after wA2b (after wA2a (cF1 V))
theorem cA2_main_arg0 : (cA2 V (Proc.devRef .tc main_arg0) : Vec F S8x128x2048 .f32) = (V (Proc.devRef .tc main_arg0)) := (A2_keep (cF1 V) main_arg0 (by decide) (by decide)).trans (cF1_main_arg0 V)
theorem cA2_main_arg1 : (cA2 V (Proc.devRef .tc main_arg1) : Vec F S4x1024x128 .f32) = (V (Proc.devRef .tc main_arg1)) := (A2_keep (cF1 V) main_arg1 (by decide) (by decide)).trans (cF1_main_arg1 V)
theorem cA2_main_v106 : (cA2 V (Proc.devRef .tc main_v106) : Vec F S16384x1024 .f32) = scoreR (r2 (V (Proc.devRef .tc main_arg0)) (V (Proc.devRef .tc main_arg1))) (code2 (V (Proc.devRef .tc main_arg1))) := by
  refine (A2_main_v106 (cF1 V)).trans ?_
  rw [show ((cF1 V) (Proc.devRef .tc main_v88) : Vec F S16384x128 .f32) = _ from cF1_main_v88 V, show ((cF1 V) (Proc.devRef .tc main_arg1) : Vec F S4x1024x128 .f32) = _ from cF1_main_arg1 V] <;> rfl
theorem cA2_main_v31 : (cA2 V (Proc.devRef .tc main_v31) : Vec F S_ .f32) = p0 (V (Proc.devRef .tc main_arg0)) (V (Proc.devRef .tc main_arg1)) := (A2_keep (cF1 V) main_v31 (by decide) (by decide)).trans (cF1_main_v31 V)
theorem cA2_main_v75 : (cA2 V (Proc.devRef .tc main_v75) : Vec F S_ .f32) = p1 (V (Proc.devRef .tc main_arg0)) (V (Proc.devRef .tc main_arg1)) := (A2_keep (cF1 V) main_v75 (by decide) (by decide)).trans (cF1_main_v75 V)
theorem cA2_main_v88 : (cA2 V (Proc.devRef .tc main_v88) : Vec F S16384x128 .f32) = r2 (V (Proc.devRef .tc main_arg0)) (V (Proc.devRef .tc main_arg1)) := (A2_keep (cF1 V) main_v88 (by decide) (by decide)).trans (cF1_main_v88 V)
theorem cA2_main_v89 : (cA2 V (Proc.devRef .tc main_v89) : Vec F S16384x128 .f32) = a2 (V (Proc.devRef .tc main_arg0)) (V (Proc.devRef .tc main_arg1)) := (A2_keep (cF1 V) main_v89 (by decide) (by decide)).trans (cF1_main_v89 V)
theorem cA2_main_v90 : (cA2 V (Proc.devRef .tc main_v90) : Vec F S_ .f32) = t2 (V (Proc.devRef .tc main_arg0)) (V (Proc.devRef .tc main_arg1)) := (A2_keep (cF1 V) main_v90 (by decide) (by decide)).trans (cF1_main_v90 V)
theorem cA2_main_v92 : (cA2 V (Proc.devRef .tc main_v92) : Vec F S1024x128 .f32) = code2 (V (Proc.devRef .tc main_arg1)) := by
  refine (A2_main_v92 (cF1 V)).trans ?_
  rw [show ((cF1 V) (Proc.devRef .tc main_arg1) : Vec F S4x1024x128 .f32) = _ from cF1_main_arg1 V] <;> rfl
def cB2 : Valuation τ sig (Elt F) := after wB2 (cA2 V)
theorem cB2_main_arg0 : (cB2 V (Proc.devRef .tc main_arg0) : Vec F S8x128x2048 .f32) = (V (Proc.devRef .tc main_arg0)) := (B2_keep (cA2 V) main_arg0 (by decide)).trans (cA2_main_arg0 V)
theorem cB2_main_arg1 : (cB2 V (Proc.devRef .tc main_arg1) : Vec F S4x1024x128 .f32) = (V (Proc.devRef .tc main_arg1)) := (B2_keep (cA2 V) main_arg1 (by decide)).trans (cA2_main_arg1 V)
theorem cB2_main_v107 : (cB2 V (Proc.devRef .tc main_v107) : Vec F S16384 .i32) = ixR (r2 (V (Proc.devRef .tc main_arg0)) (V (Proc.devRef .tc main_arg1))) (code2 (V (Proc.devRef .tc main_arg1))) := by
  refine (B2_main_v107 (cA2 V)).trans ?_
  rw [show ((cA2 V) (Proc.devRef .tc main_v106) : Vec F S16384x1024 .f32) = _ from cA2_main_v106 V] <;> rfl
theorem cB2_main_v31 : (cB2 V (Proc.devRef .tc main_v31) : Vec F S_ .f32) = p0 (V (Proc.devRef .tc main_arg0)) (V (Proc.devRef .tc main_arg1)) := (B2_keep (cA2 V) main_v31 (by decide)).trans (cA2_main_v31 V)
theorem cB2_main_v75 : (cB2 V (Proc.devRef .tc main_v75) : Vec F S_ .f32) = p1 (V (Proc.devRef .tc main_arg0)) (V (Proc.devRef .tc main_arg1)) := (B2_keep (cA2 V) main_v75 (by decide)).trans (cA2_main_v75 V)
theorem cB2_main_v88 : (cB2 V (Proc.devRef .tc main_v88) : Vec F S16384x128 .f32) = r2 (V (Proc.devRef .tc main_arg0)) (V (Proc.devRef .tc main_arg1)) := (B2_keep (cA2 V) main_v88 (by decide)).trans (cA2_main_v88 V)
theorem cB2_main_v89 : (cB2 V (Proc.devRef .tc main_v89) : Vec F S16384x128 .f32) = a2 (V (Proc.devRef .tc main_arg0)) (V (Proc.devRef .tc main_arg1)) := (B2_keep (cA2 V) main_v89 (by decide)).trans (cA2_main_v89 V)
theorem cB2_main_v90 : (cB2 V (Proc.devRef .tc main_v90) : Vec F S_ .f32) = t2 (V (Proc.devRef .tc main_arg0)) (V (Proc.devRef .tc main_arg1)) := (B2_keep (cA2 V) main_v90 (by decide)).trans (cA2_main_v90 V)
theorem cB2_main_v92 : (cB2 V (Proc.devRef .tc main_v92) : Vec F S1024x128 .f32) = code2 (V (Proc.devRef .tc main_arg1)) := (B2_keep (cA2 V) main_v92 (by decide)).trans (cA2_main_v92 V)
def cC2 : Valuation τ sig (Elt F) := after wC2 (cB2 V)
theorem cC2_main_arg0 : (cC2 V (Proc.devRef .tc main_arg0) : Vec F S8x128x2048 .f32) = (V (Proc.devRef .tc main_arg0)) := (C2_keep (cB2 V) main_arg0 (by decide)).trans (cB2_main_arg0 V)
theorem cC2_main_arg1 : (cC2 V (Proc.devRef .tc main_arg1) : Vec F S4x1024x128 .f32) = (V (Proc.devRef .tc main_arg1)) := (C2_keep (cB2 V) main_arg1 (by decide)).trans (cB2_main_arg1 V)
theorem cC2_main_v107 : (cC2 V (Proc.devRef .tc main_v107) : Vec F S16384 .i32) = ixR (r2 (V (Proc.devRef .tc main_arg0)) (V (Proc.devRef .tc main_arg1))) (code2 (V (Proc.devRef .tc main_arg1))) := (C2_keep (cB2 V) main_v107 (by decide)).trans (cB2_main_v107 V)
theorem cC2_main_v108 : (cC2 V (Proc.devRef .tc main_v108) : Vec F S16384x128 .f32) = tkR (r2 (V (Proc.devRef .tc main_arg0)) (V (Proc.devRef .tc main_arg1))) (code2 (V (Proc.devRef .tc main_arg1))) := by
  refine (C2_main_v108 (cB2 V)).trans ?_
  rw [show ((cB2 V) (Proc.devRef .tc main_v92) : Vec F S1024x128 .f32) = _ from cB2_main_v92 V, show ((cB2 V) (Proc.devRef .tc main_v107) : Vec F S16384 .i32) = _ from cB2_main_v107 V] <;> rfl
theorem cC2_main_v31 : (cC2 V (Proc.devRef .tc main_v31) : Vec F S_ .f32) = p0 (V (Proc.devRef .tc main_arg0)) (V (Proc.devRef .tc main_arg1)) := (C2_keep (cB2 V) main_v31 (by decide)).trans (cB2_main_v31 V)
theorem cC2_main_v75 : (cC2 V (Proc.devRef .tc main_v75) : Vec F S_ .f32) = p1 (V (Proc.devRef .tc main_arg0)) (V (Proc.devRef .tc main_arg1)) := (C2_keep (cB2 V) main_v75 (by decide)).trans (cB2_main_v75 V)
theorem cC2_main_v88 : (cC2 V (Proc.devRef .tc main_v88) : Vec F S16384x128 .f32) = r2 (V (Proc.devRef .tc main_arg0)) (V (Proc.devRef .tc main_arg1)) := (C2_keep (cB2 V) main_v88 (by decide)).trans (cB2_main_v88 V)
theorem cC2_main_v89 : (cC2 V (Proc.devRef .tc main_v89) : Vec F S16384x128 .f32) = a2 (V (Proc.devRef .tc main_arg0)) (V (Proc.devRef .tc main_arg1)) := (C2_keep (cB2 V) main_v89 (by decide)).trans (cB2_main_v89 V)
theorem cC2_main_v90 : (cC2 V (Proc.devRef .tc main_v90) : Vec F S_ .f32) = t2 (V (Proc.devRef .tc main_arg0)) (V (Proc.devRef .tc main_arg1)) := (C2_keep (cB2 V) main_v90 (by decide)).trans (cB2_main_v90 V)
def cD2 : Valuation τ sig (Elt F) := after wD2 (cC2 V)
theorem cD2_main_arg0 : (cD2 V (Proc.devRef .tc main_arg0) : Vec F S8x128x2048 .f32) = (V (Proc.devRef .tc main_arg0)) := (D2_keep (cC2 V) main_arg0 (by decide)).trans (cC2_main_arg0 V)
theorem cD2_main_arg1 : (cD2 V (Proc.devRef .tc main_arg1) : Vec F S4x1024x128 .f32) = (V (Proc.devRef .tc main_arg1)) := (D2_keep (cC2 V) main_arg1 (by decide)).trans (cC2_main_arg1 V)
theorem cD2_main_v108 : (cD2 V (Proc.devRef .tc main_v108) : Vec F S16384x128 .f32) = tkR (r2 (V (Proc.devRef .tc main_arg0)) (V (Proc.devRef .tc main_arg1))) (code2 (V (Proc.devRef .tc main_arg1))) := (D2_keep (cC2 V) main_v108 (by decide)).trans (cC2_main_v108 V)
theorem cD2_main_v119 : (cD2 V (Proc.devRef .tc main_v119) : Vec F S_ .f32) = p2 (V (Proc.devRef .tc main_arg0)) (V (Proc.devRef .tc main_arg1)) := by
  refine (D2_main_v119 (cC2 V)).trans ?_
  rw [show ((cC2 V) (Proc.devRef .tc main_v107) : Vec F S16384 .i32) = _ from cC2_main_v107 V] <;> rfl
theorem cD2_main_v31 : (cD2 V (Proc.devRef .tc main_v31) : Vec F S_ .f32) = p0 (V (Proc.devRef .tc main_arg0)) (V (Proc.devRef .tc main_arg1)) := (D2_keep (cC2 V) main_v31 (by decide)).trans (cC2_main_v31 V)
theorem cD2_main_v75 : (cD2 V (Proc.devRef .tc main_v75) : Vec F S_ .f32) = p1 (V (Proc.devRef .tc main_arg0)) (V (Proc.devRef .tc main_arg1)) := (D2_keep (cC2 V) main_v75 (by decide)).trans (cC2_main_v75 V)
theorem cD2_main_v88 : (cD2 V (Proc.devRef .tc main_v88) : Vec F S16384x128 .f32) = r2 (V (Proc.devRef .tc main_arg0)) (V (Proc.devRef .tc main_arg1)) := (D2_keep (cC2 V) main_v88 (by decide)).trans (cC2_main_v88 V)
theorem cD2_main_v89 : (cD2 V (Proc.devRef .tc main_v89) : Vec F S16384x128 .f32) = a2 (V (Proc.devRef .tc main_arg0)) (V (Proc.devRef .tc main_arg1)) := (D2_keep (cC2 V) main_v89 (by decide)).trans (cC2_main_v89 V)
theorem cD2_main_v90 : (cD2 V (Proc.devRef .tc main_v90) : Vec F S_ .f32) = t2 (V (Proc.devRef .tc main_arg0)) (V (Proc.devRef .tc main_arg1)) := (D2_keep (cC2 V) main_v90 (by decide)).trans (cC2_main_v90 V)
def cE2 : Valuation τ sig (Elt F) := after wE2 (cD2 V)
theorem cE2_main_arg0 : (cE2 V (Proc.devRef .tc main_arg0) : Vec F S8x128x2048 .f32) = (V (Proc.devRef .tc main_arg0)) := (E2_keep (cD2 V) main_arg0 (by decide)).trans (cD2_main_arg0 V)
theorem cE2_main_arg1 : (cE2 V (Proc.devRef .tc main_arg1) : Vec F S4x1024x128 .f32) = (V (Proc.devRef .tc main_arg1)) := (E2_keep (cD2 V) main_arg1 (by decide)).trans (cD2_main_arg1 V)
theorem cE2_main_v108 : (cE2 V (Proc.devRef .tc main_v108) : Vec F S16384x128 .f32) = tkR (r2 (V (Proc.devRef .tc main_arg0)) (V (Proc.devRef .tc main_arg1))) (code2 (V (Proc.devRef .tc main_arg1))) := (E2_keep (cD2 V) main_v108 (by decide)).trans (cD2_main_v108 V)
theorem cE2_main_v119 : (cE2 V (Proc.devRef .tc main_v119) : Vec F S_ .f32) = p2 (V (Proc.devRef .tc main_arg0)) (V (Proc.devRef .tc main_arg1)) := (E2_keep (cD2 V) main_v119 (by decide)).trans (cD2_main_v119 V)
theorem cE2_main_v129 : (cE2 V (Proc.devRef .tc main_v129) : Vec F S_ .f32) = lossR (tkR (r2 (V (Proc.devRef .tc main_arg0)) (V (Proc.devRef .tc main_arg1))) (code2 (V (Proc.devRef .tc main_arg1)))) (r2 (V (Proc.devRef .tc main_arg0)) (V (Proc.devRef .tc main_arg1))) := by
  refine (E2_main_v129 (cD2 V)).trans ?_
  rw [show ((cD2 V) (Proc.devRef .tc main_v108) : Vec F S16384x128 .f32) = _ from cD2_main_v108 V, show ((cD2 V) (Proc.devRef .tc main_v88) : Vec F S16384x128 .f32) = _ from cD2_main_v88 V] <;> rfl
theorem cE2_main_v31 : (cE2 V (Proc.devRef .tc main_v31) : Vec F S_ .f32) = p0 (V (Proc.devRef .tc main_arg0)) (V (Proc.devRef .tc main_arg1)) := (E2_keep (cD2 V) main_v31 (by decide)).trans (cD2_main_v31 V)
theorem cE2_main_v75 : (cE2 V (Proc.devRef .tc main_v75) : Vec F S_ .f32) = p1 (V (Proc.devRef .tc main_arg0)) (V (Proc.devRef .tc main_arg1)) := (E2_keep (cD2 V) main_v75 (by decide)).trans (cD2_main_v75 V)
theorem cE2_main_v88 : (cE2 V (Proc.devRef .tc main_v88) : Vec F S16384x128 .f32) = r2 (V (Proc.devRef .tc main_arg0)) (V (Proc.devRef .tc main_arg1)) := (E2_keep (cD2 V) main_v88 (by decide)).trans (cD2_main_v88 V)
theorem cE2_main_v89 : (cE2 V (Proc.devRef .tc main_v89) : Vec F S16384x128 .f32) = a2 (V (Proc.devRef .tc main_arg0)) (V (Proc.devRef .tc main_arg1)) := (E2_keep (cD2 V) main_v89 (by decide)).trans (cD2_main_v89 V)
theorem cE2_main_v90 : (cE2 V (Proc.devRef .tc main_v90) : Vec F S_ .f32) = t2 (V (Proc.devRef .tc main_arg0)) (V (Proc.devRef .tc main_arg1)) := (E2_keep (cD2 V) main_v90 (by decide)).trans (cD2_main_v90 V)
def cF2 : Valuation τ sig (Elt F) := after wF2 (cE2 V)
theorem cF2_main_arg0 : (cF2 V (Proc.devRef .tc main_arg0) : Vec F S8x128x2048 .f32) = (V (Proc.devRef .tc main_arg0)) := (F2_keep (cE2 V) main_arg0 (by decide)).trans (cE2_main_arg0 V)
theorem cF2_main_arg1 : (cF2 V (Proc.devRef .tc main_arg1) : Vec F S4x1024x128 .f32) = (V (Proc.devRef .tc main_arg1)) := (F2_keep (cE2 V) main_arg1 (by decide)).trans (cE2_main_arg1 V)
theorem cF2_main_v119 : (cF2 V (Proc.devRef .tc main_v119) : Vec F S_ .f32) = p2 (V (Proc.devRef .tc main_arg0)) (V (Proc.devRef .tc main_arg1)) := (F2_keep (cE2 V) main_v119 (by decide)).trans (cE2_main_v119 V)
theorem cF2_main_v132 : (cF2 V (Proc.devRef .tc main_v132) : Vec F S16384x128 .f32) = r3 (V (Proc.devRef .tc main_arg0)) (V (Proc.devRef .tc main_arg1)) := by
  refine (F2_main_v132 (cE2 V)).trans ?_
  rw [show ((cE2 V) (Proc.devRef .tc main_v108) : Vec F S16384x128 .f32) = _ from cE2_main_v108 V, show ((cE2 V) (Proc.devRef .tc main_v88) : Vec F S16384x128 .f32) = _ from cE2_main_v88 V] <;> rfl
theorem cF2_main_v133 : (cF2 V (Proc.devRef .tc main_v133) : Vec F S16384x128 .f32) = a3 (V (Proc.devRef .tc main_arg0)) (V (Proc.devRef .tc main_arg1)) := by
  refine (F2_main_v133 (cE2 V)).trans ?_
  rw [show ((cE2 V) (Proc.devRef .tc main_v108) : Vec F S16384x128 .f32) = _ from cE2_main_v108 V, show ((cE2 V) (Proc.devRef .tc main_v88) : Vec F S16384x128 .f32) = _ from cE2_main_v88 V, show ((cE2 V) (Proc.devRef .tc main_v89) : Vec F S16384x128 .f32) = _ from cE2_main_v89 V] <;> rfl
theorem cF2_main_v134 : (cF2 V (Proc.devRef .tc main_v134) : Vec F S_ .f32) = t3 (V (Proc.devRef .tc main_arg0)) (V (Proc.devRef .tc main_arg1)) := by
  refine (F2_main_v134 (cE2 V)).trans ?_
  rw [show ((cE2 V) (Proc.devRef .tc main_v129) : Vec F S_ .f32) = _ from cE2_main_v129 V, show ((cE2 V) (Proc.devRef .tc main_v90) : Vec F S_ .f32) = _ from cE2_main_v90 V] <;> rfl
theorem cF2_main_v31 : (cF2 V (Proc.devRef .tc main_v31) : Vec F S_ .f32) = p0 (V (Proc.devRef .tc main_arg0)) (V (Proc.devRef .tc main_arg1)) := (F2_keep (cE2 V) main_v31 (by decide)).trans (cE2_main_v31 V)
theorem cF2_main_v75 : (cF2 V (Proc.devRef .tc main_v75) : Vec F S_ .f32) = p1 (V (Proc.devRef .tc main_arg0)) (V (Proc.devRef .tc main_arg1)) := (F2_keep (cE2 V) main_v75 (by decide)).trans (cE2_main_v75 V)
def cA3 : Valuation τ sig (Elt F) := after wA3b (after wA3a (cF2 V))
theorem cA3_main_arg0 : (cA3 V (Proc.devRef .tc main_arg0) : Vec F S8x128x2048 .f32) = (V (Proc.devRef .tc main_arg0)) := (A3_keep (cF2 V) main_arg0 (by decide) (by decide)).trans (cF2_main_arg0 V)
theorem cA3_main_arg1 : (cA3 V (Proc.devRef .tc main_arg1) : Vec F S4x1024x128 .f32) = (V (Proc.devRef .tc main_arg1)) := (A3_keep (cF2 V) main_arg1 (by decide) (by decide)).trans (cF2_main_arg1 V)
theorem cA3_main_v119 : (cA3 V (Proc.devRef .tc main_v119) : Vec F S_ .f32) = p2 (V (Proc.devRef .tc main_arg0)) (V (Proc.devRef .tc main_arg1)) := (A3_keep (cF2 V) main_v119 (by decide) (by decide)).trans (cF2_main_v119 V)
theorem cA3_main_v132 : (cA3 V (Proc.devRef .tc main_v132) : Vec F S16384x128 .f32) = r3 (V (Proc.devRef .tc main_arg0)) (V (Proc.devRef .tc main_arg1)) := (A3_keep (cF2 V) main_v132 (by decide) (by decide)).trans (cF2_main_v132 V)
theorem cA3_main_v133 : (cA3 V (Proc.devRef .tc main_v133) : Vec F S16384x128 .f32) = a3 (V (Proc.devRef .tc main_arg0)) (V (Proc.devRef .tc main_arg1)) := (A3_keep (cF2 V) main_v133 (by decide) (by decide)).trans (cF2_main_v133 V)
theorem cA3_main_v134 : (cA3 V (Proc.devRef .tc main_v134) : Vec F S_ .f32) = t3 (V (Proc.devRef .tc main_arg0)) (V (Proc.devRef .tc main_arg1)) := (A3_keep (cF2 V) main_v134 (by decide) (by decide)).trans (cF2_main_v134 V)
theorem cA3_main_v136 : (cA3 V (Proc.devRef .tc main_v136) : Vec F S1024x128 .f32) = code3 (V (Proc.devRef .tc main_arg1)) := by
  refine (A3_main_v136 (cF2 V)).trans ?_
  rw [show ((cF2 V) (Proc.devRef .tc main_arg1) : Vec F S4x1024x128 .f32) = _ from cF2_main_arg1 V] <;> rfl
theorem cA3_main_v150 : (cA3 V (Proc.devRef .tc main_v150) : Vec F S16384x1024 .f32) = scoreR (r3 (V (Proc.devRef .tc main_arg0)) (V (Proc.devRef .tc main_arg1))) (code3 (V (Proc.devRef .tc main_arg1))) := by
  refine (A3_main_v150 (cF2 V)).trans ?_
  rw [show ((cF2 V) (Proc.devRef .tc main_v132) : Vec F S16384x128 .f32) = _ from cF2_main_v132 V, show ((cF2 V) (Proc.devRef .tc main_arg1) : Vec F S4x1024x128 .f32) = _ from cF2_main_arg1 V] <;> rfl
theorem cA3_main_v31 : (cA3 V (Proc.devRef .tc main_v31) : Vec F S_ .f32) = p0 (V (Proc.devRef .tc main_arg0)) (V (Proc.devRef .tc main_arg1)) := (A3_keep (cF2 V) main_v31 (by decide) (by decide)).trans (cF2_main_v31 V)
theorem cA3_main_v75 : (cA3 V (Proc.devRef .tc main_v75) : Vec F S_ .f32) = p1 (V (Proc.devRef .tc main_arg0)) (V (Proc.devRef .tc main_arg1)) := (A3_keep (cF2 V) main_v75 (by decide) (by decide)).trans (cF2_main_v75 V)
def cB3 : Valuation τ sig (Elt F) := after wB3 (cA3 V)
theorem cB3_main_arg0 : (cB3 V (Proc.devRef .tc main_arg0) : Vec F S8x128x2048 .f32) = (V (Proc.devRef .tc main_arg0)) := (B3_keep (cA3 V) main_arg0 (by decide)).trans (cA3_main_arg0 V)
theorem cB3_main_arg1 : (cB3 V (Proc.devRef .tc main_arg1) : Vec F S4x1024x128 .f32) = (V (Proc.devRef .tc main_arg1)) := (B3_keep (cA3 V) main_arg1 (by decide)).trans (cA3_main_arg1 V)
theorem cB3_main_v119 : (cB3 V (Proc.devRef .tc main_v119) : Vec F S_ .f32) = p2 (V (Proc.devRef .tc main_arg0)) (V (Proc.devRef .tc main_arg1)) := (B3_keep (cA3 V) main_v119 (by decide)).trans (cA3_main_v119 V)
theorem cB3_main_v132 : (cB3 V (Proc.devRef .tc main_v132) : Vec F S16384x128 .f32) = r3 (V (Proc.devRef .tc main_arg0)) (V (Proc.devRef .tc main_arg1)) := (B3_keep (cA3 V) main_v132 (by decide)).trans (cA3_main_v132 V)
theorem cB3_main_v133 : (cB3 V (Proc.devRef .tc main_v133) : Vec F S16384x128 .f32) = a3 (V (Proc.devRef .tc main_arg0)) (V (Proc.devRef .tc main_arg1)) := (B3_keep (cA3 V) main_v133 (by decide)).trans (cA3_main_v133 V)
theorem cB3_main_v134 : (cB3 V (Proc.devRef .tc main_v134) : Vec F S_ .f32) = t3 (V (Proc.devRef .tc main_arg0)) (V (Proc.devRef .tc main_arg1)) := (B3_keep (cA3 V) main_v134 (by decide)).trans (cA3_main_v134 V)
theorem cB3_main_v136 : (cB3 V (Proc.devRef .tc main_v136) : Vec F S1024x128 .f32) = code3 (V (Proc.devRef .tc main_arg1)) := (B3_keep (cA3 V) main_v136 (by decide)).trans (cA3_main_v136 V)
theorem cB3_main_v151 : (cB3 V (Proc.devRef .tc main_v151) : Vec F S16384 .i32) = ixR (r3 (V (Proc.devRef .tc main_arg0)) (V (Proc.devRef .tc main_arg1))) (code3 (V (Proc.devRef .tc main_arg1))) := by
  refine (B3_main_v151 (cA3 V)).trans ?_
  rw [show ((cA3 V) (Proc.devRef .tc main_v150) : Vec F S16384x1024 .f32) = _ from cA3_main_v150 V] <;> rfl
theorem cB3_main_v31 : (cB3 V (Proc.devRef .tc main_v31) : Vec F S_ .f32) = p0 (V (Proc.devRef .tc main_arg0)) (V (Proc.devRef .tc main_arg1)) := (B3_keep (cA3 V) main_v31 (by decide)).trans (cA3_main_v31 V)
theorem cB3_main_v75 : (cB3 V (Proc.devRef .tc main_v75) : Vec F S_ .f32) = p1 (V (Proc.devRef .tc main_arg0)) (V (Proc.devRef .tc main_arg1)) := (B3_keep (cA3 V) main_v75 (by decide)).trans (cA3_main_v75 V)
def cC3 : Valuation τ sig (Elt F) := after wC3 (cB3 V)
theorem cC3_main_arg0 : (cC3 V (Proc.devRef .tc main_arg0) : Vec F S8x128x2048 .f32) = (V (Proc.devRef .tc main_arg0)) := (C3_keep (cB3 V) main_arg0 (by decide)).trans (cB3_main_arg0 V)
theorem cC3_main_arg1 : (cC3 V (Proc.devRef .tc main_arg1) : Vec F S4x1024x128 .f32) = (V (Proc.devRef .tc main_arg1)) := (C3_keep (cB3 V) main_arg1 (by decide)).trans (cB3_main_arg1 V)
theorem cC3_main_v119 : (cC3 V (Proc.devRef .tc main_v119) : Vec F S_ .f32) = p2 (V (Proc.devRef .tc main_arg0)) (V (Proc.devRef .tc main_arg1)) := (C3_keep (cB3 V) main_v119 (by decide)).trans (cB3_main_v119 V)
theorem cC3_main_v132 : (cC3 V (Proc.devRef .tc main_v132) : Vec F S16384x128 .f32) = r3 (V (Proc.devRef .tc main_arg0)) (V (Proc.devRef .tc main_arg1)) := (C3_keep (cB3 V) main_v132 (by decide)).trans (cB3_main_v132 V)
theorem cC3_main_v133 : (cC3 V (Proc.devRef .tc main_v133) : Vec F S16384x128 .f32) = a3 (V (Proc.devRef .tc main_arg0)) (V (Proc.devRef .tc main_arg1)) := (C3_keep (cB3 V) main_v133 (by decide)).trans (cB3_main_v133 V)
theorem cC3_main_v134 : (cC3 V (Proc.devRef .tc main_v134) : Vec F S_ .f32) = t3 (V (Proc.devRef .tc main_arg0)) (V (Proc.devRef .tc main_arg1)) := (C3_keep (cB3 V) main_v134 (by decide)).trans (cB3_main_v134 V)
theorem cC3_main_v151 : (cC3 V (Proc.devRef .tc main_v151) : Vec F S16384 .i32) = ixR (r3 (V (Proc.devRef .tc main_arg0)) (V (Proc.devRef .tc main_arg1))) (code3 (V (Proc.devRef .tc main_arg1))) := (C3_keep (cB3 V) main_v151 (by decide)).trans (cB3_main_v151 V)
theorem cC3_main_v152 : (cC3 V (Proc.devRef .tc main_v152) : Vec F S16384x128 .f32) = tkR (r3 (V (Proc.devRef .tc main_arg0)) (V (Proc.devRef .tc main_arg1))) (code3 (V (Proc.devRef .tc main_arg1))) := by
  refine (C3_main_v152 (cB3 V)).trans ?_
  rw [show ((cB3 V) (Proc.devRef .tc main_v136) : Vec F S1024x128 .f32) = _ from cB3_main_v136 V, show ((cB3 V) (Proc.devRef .tc main_v151) : Vec F S16384 .i32) = _ from cB3_main_v151 V] <;> rfl
theorem cC3_main_v31 : (cC3 V (Proc.devRef .tc main_v31) : Vec F S_ .f32) = p0 (V (Proc.devRef .tc main_arg0)) (V (Proc.devRef .tc main_arg1)) := (C3_keep (cB3 V) main_v31 (by decide)).trans (cB3_main_v31 V)
theorem cC3_main_v75 : (cC3 V (Proc.devRef .tc main_v75) : Vec F S_ .f32) = p1 (V (Proc.devRef .tc main_arg0)) (V (Proc.devRef .tc main_arg1)) := (C3_keep (cB3 V) main_v75 (by decide)).trans (cB3_main_v75 V)
def cD3 : Valuation τ sig (Elt F) := after wD3 (cC3 V)
theorem cD3_main_arg0 : (cD3 V (Proc.devRef .tc main_arg0) : Vec F S8x128x2048 .f32) = (V (Proc.devRef .tc main_arg0)) := (D3_keep (cC3 V) main_arg0 (by decide)).trans (cC3_main_arg0 V)
theorem cD3_main_arg1 : (cD3 V (Proc.devRef .tc main_arg1) : Vec F S4x1024x128 .f32) = (V (Proc.devRef .tc main_arg1)) := (D3_keep (cC3 V) main_arg1 (by decide)).trans (cC3_main_arg1 V)
theorem cD3_main_v119 : (cD3 V (Proc.devRef .tc main_v119) : Vec F S_ .f32) = p2 (V (Proc.devRef .tc main_arg0)) (V (Proc.devRef .tc main_arg1)) := (D3_keep (cC3 V) main_v119 (by decide)).trans (cC3_main_v119 V)
theorem cD3_main_v132 : (cD3 V (Proc.devRef .tc main_v132) : Vec F S16384x128 .f32) = r3 (V (Proc.devRef .tc main_arg0)) (V (Proc.devRef .tc main_arg1)) := (D3_keep (cC3 V) main_v132 (by decide)).trans (cC3_main_v132 V)
theorem cD3_main_v133 : (cD3 V (Proc.devRef .tc main_v133) : Vec F S16384x128 .f32) = a3 (V (Proc.devRef .tc main_arg0)) (V (Proc.devRef .tc main_arg1)) := (D3_keep (cC3 V) main_v133 (by decide)).trans (cC3_main_v133 V)
theorem cD3_main_v134 : (cD3 V (Proc.devRef .tc main_v134) : Vec F S_ .f32) = t3 (V (Proc.devRef .tc main_arg0)) (V (Proc.devRef .tc main_arg1)) := (D3_keep (cC3 V) main_v134 (by decide)).trans (cC3_main_v134 V)
theorem cD3_main_v152 : (cD3 V (Proc.devRef .tc main_v152) : Vec F S16384x128 .f32) = tkR (r3 (V (Proc.devRef .tc main_arg0)) (V (Proc.devRef .tc main_arg1))) (code3 (V (Proc.devRef .tc main_arg1))) := (D3_keep (cC3 V) main_v152 (by decide)).trans (cC3_main_v152 V)
theorem cD3_main_v163 : (cD3 V (Proc.devRef .tc main_v163) : Vec F S_ .f32) = p3 (V (Proc.devRef .tc main_arg0)) (V (Proc.devRef .tc main_arg1)) := by
  refine (D3_main_v163 (cC3 V)).trans ?_
  rw [show ((cC3 V) (Proc.devRef .tc main_v151) : Vec F S16384 .i32) = _ from cC3_main_v151 V] <;> rfl
theorem cD3_main_v31 : (cD3 V (Proc.devRef .tc main_v31) : Vec F S_ .f32) = p0 (V (Proc.devRef .tc main_arg0)) (V (Proc.devRef .tc main_arg1)) := (D3_keep (cC3 V) main_v31 (by decide)).trans (cC3_main_v31 V)
theorem cD3_main_v75 : (cD3 V (Proc.devRef .tc main_v75) : Vec F S_ .f32) = p1 (V (Proc.devRef .tc main_arg0)) (V (Proc.devRef .tc main_arg1)) := (D3_keep (cC3 V) main_v75 (by decide)).trans (cC3_main_v75 V)
def cE3 : Valuation τ sig (Elt F) := after wE3 (cD3 V)
theorem cE3_main_arg0 : (cE3 V (Proc.devRef .tc main_arg0) : Vec F S8x128x2048 .f32) = (V (Proc.devRef .tc main_arg0)) := (E3_keep (cD3 V) main_arg0 (by decide)).trans (cD3_main_arg0 V)
theorem cE3_main_arg1 : (cE3 V (Proc.devRef .tc main_arg1) : Vec F S4x1024x128 .f32) = (V (Proc.devRef .tc main_arg1)) := (E3_keep (cD3 V) main_arg1 (by decide)).trans (cD3_main_arg1 V)
theorem cE3_main_v119 : (cE3 V (Proc.devRef .tc main_v119) : Vec F S_ .f32) = p2 (V (Proc.devRef .tc main_arg0)) (V (Proc.devRef .tc main_arg1)) := (E3_keep (cD3 V) main_v119 (by decide)).trans (cD3_main_v119 V)
theorem cE3_main_v132 : (cE3 V (Proc.devRef .tc main_v132) : Vec F S16384x128 .f32) = r3 (V (Proc.devRef .tc main_arg0)) (V (Proc.devRef .tc main_arg1)) := (E3_keep (cD3 V) main_v132 (by decide)).trans (cD3_main_v132 V)
theorem cE3_main_v133 : (cE3 V (Proc.devRef .tc main_v133) : Vec F S16384x128 .f32) = a3 (V (Proc.devRef .tc main_arg0)) (V (Proc.devRef .tc main_arg1)) := (E3_keep (cD3 V) main_v133 (by decide)).trans (cD3_main_v133 V)
theorem cE3_main_v134 : (cE3 V (Proc.devRef .tc main_v134) : Vec F S_ .f32) = t3 (V (Proc.devRef .tc main_arg0)) (V (Proc.devRef .tc main_arg1)) := (E3_keep (cD3 V) main_v134 (by decide)).trans (cD3_main_v134 V)
theorem cE3_main_v152 : (cE3 V (Proc.devRef .tc main_v152) : Vec F S16384x128 .f32) = tkR (r3 (V (Proc.devRef .tc main_arg0)) (V (Proc.devRef .tc main_arg1))) (code3 (V (Proc.devRef .tc main_arg1))) := (E3_keep (cD3 V) main_v152 (by decide)).trans (cD3_main_v152 V)
theorem cE3_main_v163 : (cE3 V (Proc.devRef .tc main_v163) : Vec F S_ .f32) = p3 (V (Proc.devRef .tc main_arg0)) (V (Proc.devRef .tc main_arg1)) := (E3_keep (cD3 V) main_v163 (by decide)).trans (cD3_main_v163 V)
theorem cE3_main_v173 : (cE3 V (Proc.devRef .tc main_v173) : Vec F S_ .f32) = lossR (tkR (r3 (V (Proc.devRef .tc main_arg0)) (V (Proc.devRef .tc main_arg1))) (code3 (V (Proc.devRef .tc main_arg1)))) (r3 (V (Proc.devRef .tc main_arg0)) (V (Proc.devRef .tc main_arg1))) := by
  refine (E3_main_v173 (cD3 V)).trans ?_
  rw [show ((cD3 V) (Proc.devRef .tc main_v152) : Vec F S16384x128 .f32) = _ from cD3_main_v152 V, show ((cD3 V) (Proc.devRef .tc main_v132) : Vec F S16384x128 .f32) = _ from cD3_main_v132 V] <;> rfl
theorem cE3_main_v31 : (cE3 V (Proc.devRef .tc main_v31) : Vec F S_ .f32) = p0 (V (Proc.devRef .tc main_arg0)) (V (Proc.devRef .tc main_arg1)) := (E3_keep (cD3 V) main_v31 (by decide)).trans (cD3_main_v31 V)
theorem cE3_main_v75 : (cE3 V (Proc.devRef .tc main_v75) : Vec F S_ .f32) = p1 (V (Proc.devRef .tc main_arg0)) (V (Proc.devRef .tc main_arg1)) := (E3_keep (cD3 V) main_v75 (by decide)).trans (cD3_main_v75 V)
def cF3 : Valuation τ sig (Elt F) := after wF3 (cE3 V)
theorem cF3_main_arg0 : (cF3 V (Proc.devRef .tc main_arg0) : Vec F S8x128x2048 .f32) = (V (Proc.devRef .tc main_arg0)) := (F3_keep (cE3 V) main_arg0 (by decide)).trans (cE3_main_arg0 V)
theorem cF3_main_arg1 : (cF3 V (Proc.devRef .tc main_arg1) : Vec F S4x1024x128 .f32) = (V (Proc.devRef .tc main_arg1)) := (F3_keep (cE3 V) main_arg1 (by decide)).trans (cE3_main_arg1 V)
theorem cF3_main_v119 : (cF3 V (Proc.devRef .tc main_v119) : Vec F S_ .f32) = p2 (V (Proc.devRef .tc main_arg0)) (V (Proc.devRef .tc main_arg1)) := (F3_keep (cE3 V) main_v119 (by decide)).trans (cE3_main_v119 V)
theorem cF3_main_v163 : (cF3 V (Proc.devRef .tc main_v163) : Vec F S_ .f32) = p3 (V (Proc.devRef .tc main_arg0)) (V (Proc.devRef .tc main_arg1)) := (F3_keep (cE3 V) main_v163 (by decide)).trans (cE3_main_v163 V)
theorem cF3_main_v177 : (cF3 V (Proc.devRef .tc main_v177) : Vec F S16384x128 .f32) = a4 (V (Proc.devRef .tc main_arg0)) (V (Proc.devRef .tc main_arg1)) := by
  refine (F3_main_v177 (cE3 V)).trans ?_
  rw [show ((cE3 V) (Proc.devRef .tc main_v152) : Vec F S16384x128 .f32) = _ from cE3_main_v152 V, show ((cE3 V) (Proc.devRef .tc main_v132) : Vec F S16384x128 .f32) = _ from cE3_main_v132 V, show ((cE3 V) (Proc.devRef .tc main_v133) : Vec F S16384x128 .f32) = _ from cE3_main_v133 V] <;> rfl
theorem cF3_main_v178 : (cF3 V (Proc.devRef .tc main_v178) : Vec F S_ .f32) = t4 (V (Proc.devRef .tc main_arg0)) (V (Proc.devRef .tc main_arg1)) := by
  refine (F3_main_v178 (cE3 V)).trans ?_
  rw [show ((cE3 V) (Proc.devRef .tc main_v173) : Vec F S_ .f32) = _ from cE3_main_v173 V, show ((cE3 V) (Proc.devRef .tc main_v134) : Vec F S_ .f32) = _ from cE3_main_v134 V] <;> rfl
theorem cF3_main_v31 : (cF3 V (Proc.devRef .tc main_v31) : Vec F S_ .f32) = p0 (V (Proc.devRef .tc main_arg0)) (V (Proc.devRef .tc main_arg1)) := (F3_keep (cE3 V) main_v31 (by decide)).trans (cE3_main_v31 V)
theorem cF3_main_v75 : (cF3 V (Proc.devRef .tc main_v75) : Vec F S_ .f32) = p1 (V (Proc.devRef .tc main_arg0)) (V (Proc.devRef .tc main_arg1)) := (F3_keep (cE3 V) main_v75 (by decide)).trans (cE3_main_v75 V)
def cpost : Valuation τ sig (Elt F) := after wpost (cF3 V)
theorem cpost_main_arg0 : (cpost V (Proc.devRef .tc main_arg0) : Vec F S8x128x2048 .f32) = (V (Proc.devRef .tc main_arg0)) := (post_keep (cF3 V) main_arg0 (by decide)).trans (cF3_main_arg0 V)
theorem cpost_main_arg1 : (cpost V (Proc.devRef .tc main_arg1) : Vec F S4x1024x128 .f32) = (V (Proc.devRef .tc main_arg1)) := (post_keep (cF3 V) main_arg1 (by decide)).trans (cF3_main_arg1 V)
theorem cpost_main_v178 : (cpost V (Proc.devRef .tc main_v178) : Vec F S_ .f32) = t4 (V (Proc.devRef .tc main_arg0)) (V (Proc.devRef .tc main_arg1)) := (post_keep (cF3 V) main_v178 (by decide)).trans (cF3_main_v178 V)
theorem cpost_main_v180 : (cpost V (Proc.devRef .tc main_v180) : Vec F S8x128x2048 .f32) = unflat (a4 (V (Proc.devRef .tc main_arg0)) (V (Proc.devRef .tc main_arg1))) := by
  refine (post_main_v180 (cF3 V)).trans ?_
  rw [show ((cF3 V) (Proc.devRef .tc main_v177) : Vec F S16384x128 .f32) = _ from cF3_main_v177 V] <;> rfl
theorem cpost_main_v185 : (cpost V (Proc.devRef .tc main_v185) : Vec F S4 .f32) = stackR (p0 (V (Proc.devRef .tc main_arg0)) (V (Proc.devRef .tc main_arg1))) (p1 (V (Proc.devRef .tc main_arg0)) (V (Proc.devRef .tc main_arg1))) (p2 (V (Proc.devRef .tc main_arg0)) (V (Proc.devRef .tc main_arg1))) (p3 (V (Proc.devRef .tc main_arg0)) (V (Proc.devRef .tc main_arg1))) := by
  refine (post_main_v185 (cF3 V)).trans ?_
  rw [show ((cF3 V) (Proc.devRef .tc main_v31) : Vec F S_ .f32) = _ from cF3_main_v31 V, show ((cF3 V) (Proc.devRef .tc main_v75) : Vec F S_ .f32) = _ from cF3_main_v75 V, show ((cF3 V) (Proc.devRef .tc main_v119) : Vec F S_ .f32) = _ from cF3_main_v119 V, show ((cF3 V) (Proc.devRef .tc main_v163) : Vec F S_ .f32) = _ from cF3_main_v163 V] <;> rfl

theorem after_ops : after ops V = cpost V := by
  simp only [ops, part0, part1, part2, part3, after_append]
  rfl

/-- From any memory with zero counters the reference ends with its results at the functions' values and its arguments unchanged. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v180) = unflat (a4 (m ((c.tc : Thread nD τ).loc main_arg0)) (m ((c.tc : Thread nD τ).loc main_arg1)))
      ∧ r.2.mem ((c.tc : Thread nD τ).loc main_v178) = t4 (m ((c.tc : Thread nD τ).loc main_arg0)) (m ((c.tc : Thread nD τ).loc main_arg1))
      ∧ r.2.mem ((c.tc : Thread nD τ).loc main_v185) = stackR (p0 (m ((c.tc : Thread nD τ).loc main_arg0)) (m ((c.tc : Thread nD τ).loc main_arg1))) (p1 (m ((c.tc : Thread nD τ).loc main_arg0)) (m ((c.tc : Thread nD τ).loc main_arg1)))
        (p2 (m ((c.tc : Thread nD τ).loc main_arg0)) (m ((c.tc : Thread nD τ).loc main_arg1))) (p3 (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v180).trans ((congrFun (after_ops (launchContents m c)) (Proc.devRef .tc main_v180)).trans (cpost_main_v180 (launchContents m c))), (h c main_v178).trans ((congrFun (after_ops (launchContents m c)) (Proc.devRef .tc main_v178)).trans (cpost_main_v178 (launchContents m c))), (h c main_v185).trans ((congrFun (after_ops (launchContents m c)) (Proc.devRef .tc main_v185)).trans (cpost_main_v185 (launchContents m c))), (h c main_arg0).trans ((congrFun (after_ops (launchContents m c)) (Proc.devRef .tc main_arg0)).trans (cpost_main_arg0 (launchContents m c))), (h c main_arg1).trans ((congrFun (after_ops (launchContents m c)) (Proc.devRef .tc main_arg1)).trans (cpost_main_arg1 (launchContents m c)))⟩)
    (run_seq scopedRefs_eq scopedSems_eq defs main (fun _ => ops) main_eq (fun _ => List.forall_iff_forall_mem.mpr ops_sub) m ρ fun _ => ops_fresh)

end Cert.ReferenceIdeal.Vq

end
-- ==== Proof.lean ====
/- The proof of the certificate: the two programs of the kernel and the reference terminate and keep their arguments, the idealised
   kernel is the kernel's own program, and where the codebooks are finite the kernel's three results are the reference's. -/
module

public import proofs.«01_k».proof.Defs
public import proofs.«01_k».proof.Proof.Gen.Kernel
public import proofs.«01_k».proof.Proof.Same
public import proofs.«01_k».proof.Proof.Gen.ReferenceIdeal
public import proofs.«01_k».proof.Proof.Pre
public import proofs.«01_k».proof.Proof.KRes
public import proofs.«01_k».proof.Proof.RSpec
public import proofs.«01_k».proof.Proof.RRun
public import Idealize.ShloMosaic.Lib.Quiescent

@[expose] public section

noncomputable section

namespace Cert.Proof

open Idealize.ShloMosaic Idealize.SL.Sem

/-- The kernel's program, on any floats, terminates with its arguments as they were and no counter set. -/
theorem kernel_frame {F : FTy → Type} [FloatOps F] (m : (ℓ : Loc KernelIdeal.nD KernelIdeal.τ KernelIdeal.sig) → Buf (Elt F) ℓ) (g : Dev KernelIdeal.nD → PrngReg) :
    θ_run (KernelIdeal.defs (F := F)) (onTc (τ := KernelIdeal.τ) (KernelIdeal.main (F := F))) ⟨m, fun _ => 0, g⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run _ _ _).mono (fun r h => ⟨fun c => (KernelIdeal.Vq.results m c r.2 (h.1 c)).2.2.2, h.2⟩) (KernelIdeal.Vq.ends m g)

/-- The reference terminates with its arguments as they were and no counter set. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0) :=
  (θ_run _ _ _).mono (fun r h => ⟨fun c => (h c).2.2.2, sem_eq_zero_of_no_sems (by decide) r.2⟩) (ReferenceIdeal.Vq.run m g)

/-- Where the codebooks are finite, both programs end with the residual quantiser's results: the quantised vectors, the loss and
    the perplexities. -/
theorem values : algebraic_KernelIdeal_ReferenceIdeal_pre_codes_finite (hKernelIdeal := KernelIdeal.Gen.facts)
    (hReferenceIdeal := ReferenceIdeal.Gen.facts) (hPre_codes_finite := Pre_codes_finite.shapes) := by
  intro m g m' g' hpre hargs
  refine ⟨fun c y => Spec.total
      (KernelIdeal.Vq.vecs (m ((c.tc : Thread KernelIdeal.nD KernelIdeal.τ).loc KernelIdeal.main_arg0)))
      (KernelIdeal.Vq.codes (m ((c.tc : Thread KernelIdeal.nD KernelIdeal.τ).loc KernelIdeal.main_arg1))) (y 0) (y 2) (y 1),
    fun c _ => Spec.totalLoss
      (KernelIdeal.Vq.vecs (m ((c.tc : Thread KernelIdeal.nD KernelIdeal.τ).loc KernelIdeal.main_arg0)))
      (KernelIdeal.Vq.codes (m ((c.tc : Thread KernelIdeal.nD KernelIdeal.τ).loc KernelIdeal.main_arg1))),
    fun c y => Spec.perps
      (KernelIdeal.Vq.vecs (m ((c.tc : Thread KernelIdeal.nD KernelIdeal.τ).loc KernelIdeal.main_arg0)))
      (KernelIdeal.Vq.codes (m ((c.tc : Thread KernelIdeal.nD KernelIdeal.τ).loc KernelIdeal.main_arg1))) (y 0),
    ?_, ?_⟩
  · refine (θ_run _ _ _).mono (fun r h c => ?_) (KernelIdeal.Vq.ends m g)
    obtain ⟨h0, h1, h2, k0, k1⟩ := KernelIdeal.Vq.results m c r.2 (h.1 c)
    have hf := Pre_codes_finite.finite _ _ (hpre c)
    exact ⟨h0.trans (KernelIdeal.Vq.zqOut_eq m c _ _ rfl rfl hf),
      h1.trans (funext fun _ => KernelIdeal.Vq.lossOut_eq m c _ _ rfl rfl hf),
      h2.trans (funext fun j => KernelIdeal.Vq.perpOut_eq m c _ _ rfl rfl hf (j 0)), k0, k1⟩
  · refine (θ_run _ _ _).mono (fun r h c => ?_) (ReferenceIdeal.Vq.run m' g')
    obtain ⟨h0, h1, h2, k0, k1⟩ := h c
    rw [(hargs c).1, (hargs c).2] at h0 h1 h2
    exact ⟨h0.trans (ReferenceIdeal.Vq.quantized_eq _ _), h1.trans (ReferenceIdeal.Vq.loss_eq _ _),
      h2.trans (ReferenceIdeal.Vq.perp_eq _ _), k0, k1⟩

theorem claim : Cert.Claim :=
  ⟨Kernel.Gen.facts, KernelIdeal.Gen.facts, ReferenceIdeal.Gen.facts, Pre_codes_finite.shapes,
    fun m ρ _ => run_same _ _ (kernel_frame (F := Bits) m ρ), fun m ρ _ => kernel_frame m ρ, fun m ρ _ => kernel_frame m ρ,
    fun m ρ _ => reference_frame m ρ, fun m ρ _ => reference_frame m ρ, trivial, values⟩

end Cert.Proof

end
